-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def preserves_Kernel_KernelIdeal : Prop :=
  IdealRules.named_const.Statement Cert.KernelIdeal.κ "log_gamma_0" .f32 0xBD020AEC#32 ((Real.log (31 / 32) : ℝ) : EReal)
  ∧ IdealRules.named_const.Statement Cert.KernelIdeal.κ "log_gamma_1" .f32 0xBC8102B3#32 ((Real.log (63 / 64) : ℝ) : EReal)
  ∧ IdealRules.named_const.Statement Cert.KernelIdeal.κ "log_gamma_2" .f32 0xBC0080AC#32 ((Real.log (127 / 128) : ℝ) : EReal)
  ∧ IdealRules.named_const.Statement Cert.KernelIdeal.κ "log_gamma_3" .f32 0xBB80402B#32 ((Real.log (255 / 256) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v150) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S4x4352x1024 : Shape := ⟨3, ![4, 4352, 1024]⟩
abbrev S4096x32 : Shape := ⟨2, ![4096, 32]⟩
abbrev S_ : Shape := ⟨0, ![]⟩

class Facts : Prop where
  bcast_S_S4x4352x1024 : S_.BroadcastsInDim S4x4352x1024 (![] : Fin 0 → Fin S4x4352x1024.rank)
  bcast_S_S4096x32 : S_.BroadcastsInDim S4096x32 (![] : Fin 0 → Fin S4096x32.rank)

variable [Facts]

def fn {F : FTy → Type} [FloatOps F] (main_arg0 : FVec F S4x4352x1024 .f32) (main_arg1 : FVec F S4096x32 .f32) (main_arg2 : FVec F S4096x32 .f32) : IVec S4x4352x1024 1 × IVec S4096x32 1 × IVec S4096x32 1 :=
  let main_v0 : FVec F S4x4352x1024 .f32 := Host.absf main_arg0
  let main_cst : FVec F S_ .f32 := constant S_ .f32 0x7F800000#32
  let main_v1 : FVec F S4x4352x1024 .f32 := broadcastInDim S4x4352x1024 ![] bcast_S_S4x4352x1024 main_cst
  let main_v2 : IVec S4x4352x1024 1 := cmpf .olt main_v0 main_v1
  let main_v3 : FVec F S4096x32 .f32 := Host.absf main_arg1
  let main_cst_0 : FVec F S_ .f32 := constant S_ .f32 0x7F800000#32
  let main_v4 : FVec F S4096x32 .f32 := broadcastInDim S4096x32 ![] bcast_S_S4096x32 main_cst_0
  let main_v5 : IVec S4096x32 1 := cmpf .olt main_v3 main_v4
  let main_v6 : FVec F S4096x32 .f32 := Host.absf main_arg2
  let main_cst_1 : FVec F S_ .f32 := constant S_ .f32 0x7F800000#32
  let main_v7 : FVec F S4096x32 .f32 := broadcastInDim S4096x32 ![] bcast_S_S4096x32 main_cst_1
  let main_v8 : IVec S4096x32 1 := cmpf .olt main_v6 main_v7
  (main_v2, main_v5, main_v8)
-- ==== Kernel.lean ====
abbrev S4x4352x1024 : Shape := ⟨3, ![4, 4352, 1024]⟩
abbrev S4096x32 : Shape := ⟨2, ![4096, 32]⟩
abbrev S4096x128 : Shape := ⟨2, ![4096, 128]⟩
abbrev S_ : Shape := ⟨0, ![]⟩
abbrev S256x128 : Shape := ⟨2, ![256, 128]⟩
abbrev S4352x128 : Shape := ⟨2, ![4352, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8 : Shape := ⟨1, ![8]⟩
abbrev S8x1 : Shape := ⟨2, ![8, 1]⟩
abbrev S8x256 : Shape := ⟨2, ![8, 256]⟩
abbrev S4x4352x256 : Shape := ⟨3, ![4, 4352, 256]⟩
abbrev S4x256x1024 : Shape := ⟨3, ![4, 256, 1024]⟩
abbrev S4x256x256 : Shape := ⟨3, ![4, 256, 256]⟩
abbrev S128x1 : Shape := ⟨2, ![128, 1]⟩
abbrev S128x256 : Shape := ⟨2, ![128, 256]⟩
abbrev S128x128 : Shape := ⟨2, ![128, 128]⟩
abbrev S128x512 : Shape := ⟨2, ![128, 512]⟩
abbrev S1x128x128 : Shape := ⟨3, ![1, 128, 128]⟩
abbrev S1x128x256 : Shape := ⟨3, ![1, 128, 256]⟩
abbrev S512x256 : Shape := ⟨2, ![512, 256]⟩
abbrev S1x256x256 : Shape := ⟨3, ![1, 256, 256]⟩

abbrev nBuf : Space → Nat
  | .hbm => 82
  | .vmem => 11
  | .smem => 0
  | _ => 0

abbrev bufTy : (tb : Table) → Fin (tcTables nBuf tb) → BufTy
  | .hbm, ⟨0, _⟩ => ⟨S4x4352x1024, .f32⟩
  | .hbm, ⟨1, _⟩ => ⟨S4096x32, .f32⟩
  | .hbm, ⟨2, _⟩ => ⟨S4096x32, .f32⟩
  | .hbm, ⟨3, _⟩ => ⟨S4096x128, .f32⟩
  | .hbm, ⟨4, _⟩ => ⟨S4096x32, .f32⟩
  | .hbm, ⟨5, _⟩ => ⟨S4096x32, .f32⟩
  | .hbm, ⟨6, _⟩ => ⟨S4096x128, .f32⟩
  | .hbm, ⟨7, _⟩ => ⟨S_, .f32⟩
  | .hbm, ⟨8, _⟩ => ⟨S256x128, .f32⟩
  | .hbm, ⟨9, _⟩ => ⟨S4352x128, .f32⟩
  | .hbm, ⟨10, _⟩ => ⟨S_, .f32⟩
  | .hbm, ⟨11, _⟩ => ⟨S256x128, .f32⟩
  | .hbm, ⟨12, _⟩ => ⟨S4352x128, .f32⟩
  | .hbm, ⟨13, _⟩ => ⟨S256, .i32⟩
  | .hbm, ⟨14, _⟩ => ⟨S256x1, .i32⟩
  | .hbm, ⟨15, _⟩ => ⟨S_, .i32⟩
  | .hbm, ⟨16, _⟩ => ⟨S_, .i32⟩
  | .hbm, ⟨17, _⟩ => ⟨S256x1, .i32⟩
  | .hbm, ⟨18, _⟩ => ⟨S256x1, .i32⟩
  | .hbm, ⟨19, _⟩ => ⟨S256x1, .i32⟩
  | .hbm, ⟨20, _⟩ => ⟨S_, .i32⟩
  | .hbm, ⟨21, _⟩ => ⟨S256x1, .i32⟩
  | .hbm, ⟨22, _⟩ => ⟨S256x1, .i1⟩
  | .hbm, ⟨23, _⟩ => ⟨S256x1, .i32⟩
  | .hbm, ⟨24, _⟩ => ⟨S256x1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S256x1, .i1⟩
  | .hbm, ⟨29, _⟩ => ⟨S_, .i32⟩
  | .hbm, ⟨30, _⟩ => ⟨S256x1, .i32⟩
  | .hbm, ⟨31, _⟩ => ⟨S256x1, .i32⟩
  | .hbm, ⟨32, _⟩ => ⟨S256x1, .i32⟩
  | .hbm, ⟨33, _⟩ => ⟨S1x256, .i32⟩
  | .hbm, ⟨34, _⟩ => ⟨S_, .i32⟩
  | .hbm, ⟨35, _⟩ => ⟨S_, .i32⟩
  | .hbm, ⟨36, _⟩ => ⟨S1x256, .i32⟩
  | .hbm, ⟨37, _⟩ => ⟨S1x256, .i32⟩
  | .hbm, ⟨38, _⟩ => ⟨S1x256, .i32⟩
  | .hbm, ⟨39, _⟩ => ⟨S_, .i32⟩
  | .hbm, ⟨40, _⟩ => ⟨S1x256, .i32⟩
  | .hbm, ⟨41, _⟩ => ⟨S1x256, .i1⟩
  | .hbm, ⟨42, _⟩ => ⟨S1x256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i1⟩
  | .hbm, ⟨47, _⟩ => ⟨S1x256, .i1⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S256x256, .i32⟩
  | .hbm, ⟨53, _⟩ => ⟨S256x256, .i32⟩
  | .hbm, ⟨54, _⟩ => ⟨S256x256, .i1⟩
  | .hbm, ⟨55, _⟩ => ⟨S256x256, .bf16⟩
  | .hbm, ⟨56, _⟩ => ⟨S8, .i32⟩
  | .hbm, ⟨57, _⟩ => ⟨S8x1, .i32⟩
  | .hbm, ⟨58, _⟩ => ⟨S1x256, .i32⟩
  | .hbm, ⟨59, _⟩ => ⟨S_, .i32⟩
  | .hbm, ⟨60, _⟩ => ⟨S_, .i32⟩
  | .hbm, ⟨61, _⟩ => ⟨S1x256, .i32⟩
  | .hbm, ⟨62, _⟩ => ⟨S1x256, .i32⟩
  | .hbm, ⟨63, _⟩ => ⟨S1x256, .i32⟩
  | .hbm, ⟨64, _⟩ => ⟨S_, .i32⟩
  | .hbm, ⟨65, _⟩ => ⟨S1x256, .i32⟩
  | .hbm, ⟨66, _⟩ => ⟨S1x256, .i1⟩
  | .hbm, ⟨67, _⟩ => ⟨S1x256, .i32⟩
  | .hbm, ⟨68, _⟩ => ⟨S1x256, .i32⟩
  | .hbm, ⟨69, _⟩ => ⟨S_, .i32⟩
  | .hbm, ⟨70, _⟩ => ⟨S1x256, .i32⟩
  | .hbm, ⟨71, _⟩ => ⟨S1x256, .i1⟩
  | .hbm, ⟨72, _⟩ => ⟨S1x256, .i1⟩
  | .hbm, ⟨73, _⟩ => ⟨S_, .i32⟩
  | .hbm, ⟨74, _⟩ => ⟨S1x256, .i32⟩
  | .hbm, ⟨75, _⟩ => ⟨S1x256, .i32⟩
  | .hbm, ⟨76, _⟩ => ⟨S1x256, .i32⟩
  | .hbm, ⟨77, _⟩ => ⟨S8x256, .i32⟩
  | .hbm, ⟨78, _⟩ => ⟨S8x256, .i32⟩
  | .hbm, ⟨79, _⟩ => ⟨S8x256, .i1⟩
  | .hbm, ⟨80, _⟩ => ⟨S8x256, .f32⟩
  | .hbm, ⟨81, _⟩ => ⟨S4x4352x256, .f32⟩
  | .local _ .vmem, ⟨0, _⟩ => ⟨S4x256x1024, .f32⟩
  | .local _ .vmem, ⟨1, _⟩ => ⟨S4x256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x256, .bf16⟩
  | .local _ .vmem, ⟨7, _⟩ => ⟨S8x256, .f32⟩
  | .local _ .vmem, ⟨8, _⟩ => ⟨S4x256x256, .f32⟩
  | .local _ .vmem, ⟨9, _⟩ => ⟨S4x256x256, .f32⟩
  | .local _ .vmem, ⟨10, _⟩ => ⟨S4x256x256, .f32⟩
  | _, _ => ⟨S4x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_c_2 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log_gamma_0" => some ((Real.log (31 / 32) : ℝ) : EReal)
  | "log_gamma_1" => some ((Real.log (63 / 64) : ℝ) : EReal)
  | "log_gamma_2" => some ((Real.log (127 / 128) : ℝ) : EReal)
  | "log_gamma_3" => some ((Real.log (255 / 256) : ℝ) : EReal)
  | _ => none
-- ==== ReferenceIdeal.lean ====
abbrev S4x4352x1024 : Shape := ⟨3, ![4, 4352, 1024]⟩
abbrev S4096x32 : Shape := ⟨2, ![4096, 32]⟩
abbrev S4x256x1024 : Shape := ⟨3, ![4, 256, 1024]⟩
abbrev S4x4096x1024 : Shape := ⟨3, ![4, 4096, 1024]⟩
abbrev S1x4096x1x32 : Shape := ⟨4, ![1, 4096, 1, 32]⟩
abbrev S4 : Shape := ⟨1, ![4]⟩
abbrev S_ : Shape := ⟨0, ![]⟩
abbrev S4x256x256 : Shape := ⟨3, ![4, 256, 256]⟩
abbrev S4x256x4x64 : Shape := ⟨4, ![4, 256, 4, 64]⟩
abbrev S4x1 : Shape := ⟨2, ![4, 1]⟩
abbrev S4x256x4x1 : Shape := ⟨4, ![4, 256, 4, 1]⟩
abbrev S4x4096x256 : Shape := ⟨3, ![4, 4096, 256]⟩
abbrev S4x4096x4x64 : Shape := ⟨4, ![4, 4096, 4, 64]⟩
abbrev S4x4096x4x32 : Shape := ⟨4, ![4, 4096, 4, 32]⟩
abbrev S4x4096x4x1 : Shape := ⟨4, ![4, 4096, 4, 1]⟩
abbrev S4x4352x4x64 : Shape := ⟨4, ![4, 4352, 4, 64]⟩
abbrev S4x4352x4x1 : Shape := ⟨4, ![4, 4352, 4, 1]⟩
abbrev S4x4x64x64 : Shape := ⟨4, ![4, 4, 64, 64]⟩
abbrev S64x64 : Shape := ⟨2, ![64, 64]⟩
abbrev S1x64x64x1x1 : Shape := ⟨5, ![1, 64, 64, 1, 1]⟩
abbrev S4x68x64x4x64 : Shape := ⟨5, ![4, 68, 64, 4, 64]⟩
abbrev S68x4x64x4x64 : Shape := ⟨5, ![68, 4, 64, 4, 64]⟩
abbrev S4x68x64x4x1 : Shape := ⟨5, ![4, 68, 64, 4, 1]⟩
abbrev S68x4x64x4x1 : Shape := ⟨5, ![68, 4, 64, 4, 1]⟩
abbrev S1x4x64x4x64 : Shape := ⟨5, ![1, 4, 64, 4, 64]⟩
abbrev S4x64x4x64 : Shape := ⟨4, ![4, 64, 4, 64]⟩
abbrev S1x4x64x4x1 : Shape := ⟨5, ![1, 4, 64, 4, 1]⟩
abbrev S4x64x4x1 : Shape := ⟨4, ![4, 64, 4, 1]⟩
abbrev S4x64x1x4x1 : Shape := ⟨5, ![4, 64, 1, 4, 1]⟩
abbrev S4x1x64x4x1 : Shape := ⟨5, ![4, 1, 64, 4, 1]⟩
abbrev S4x64x64x4x1 : Shape := ⟨5, ![4, 64, 64, 4, 1]⟩
abbrev S4x64x64x4 : Shape := ⟨4, ![4, 64, 64, 4]⟩
abbrev S4x1x4x1 : Shape := ⟨4, ![4, 1, 4, 1]⟩
abbrev S4x4x1 : Shape := ⟨3, ![4, 4, 1]⟩
abbrev S4x4x1x1 : Shape := ⟨4, ![4, 4, 1, 1]⟩
abbrev S4x4352x256 : Shape := ⟨3, ![4, 4352, 256]⟩

abbrev nBuf : Space → Nat
  | .hbm => 182
  | .vmem => 0
  | .smem => 0
  | _ => 0

abbrev hbmTy0_0 (i : Nat) : BufTy := match i % 128 with
  | 0 => ⟨S4x4352x1024, .f32⟩
  | 1 => ⟨S4096x32, .f32⟩
  | 2 => ⟨S4096x32, .f32⟩
  | 3 => ⟨S4x256x1024, .f32⟩
  | 4 => ⟨S4x4096x1024, .f32⟩
  | 5 => ⟨S1x4096x1x32, .f32⟩
  | 6 => ⟨S1x4096x1x32, .f32⟩
  | 7 => ⟨S4, .f32⟩
  | 8 => ⟨S_, .f32⟩
  | 9 => ⟨S4, .f32⟩
  | 10 => ⟨S4, .f32⟩
  | 11 => ⟨S_, .f32⟩
  | 12 => ⟨S4, .f32⟩
  | 13 => ⟨S4, .f32⟩
  | 14 => ⟨S4, .f32⟩
  | 15 => ⟨S4, .f32⟩
  | 16 => ⟨S4x256x256, .f32⟩
  | 17 => ⟨S4x256x256, .f32⟩
  | 18 => ⟨S4x256x256, .f32⟩
  | 19 => ⟨S4x256x256, .f32⟩
  | 20 => ⟨S4x256x4x64, .f32⟩
  | 21 => ⟨S_, .f32⟩
  | 22 => ⟨S4x256x4x64, .f32⟩
  | 23 => ⟨S4x256x4x64, .f32⟩
  | 24 => ⟨S4x256x4x64, .f32⟩
  | 25 => ⟨S4x256x4x64, .f32⟩
  | 26 => ⟨S4x1, .f32⟩
  | 27 => ⟨S4x256x4x1, .f32⟩
  | 28 => ⟨S4x4096x256, .f32⟩
  | 29 => ⟨S4x4096x256, .f32⟩
  | 30 => ⟨S4x4096x256, .f32⟩
  | 31 => ⟨S4x4096x256, .f32⟩
  | 32 => ⟨S4x4096x4x64, .f32⟩
  | 33 => ⟨S_, .f32⟩
  | 34 => ⟨S4x4096x4x64, .f32⟩
  | 35 => ⟨S4x4096x4x64, .f32⟩
  | 36 => ⟨S4x4096x4x64, .f32⟩
  | 37 => ⟨S4x4096x4x64, .f32⟩
  | 38 => ⟨S4x4096x4x32, .f32⟩
  | 39 => ⟨S4x4096x4x32, .f32⟩
  | 40 => ⟨S4x4096x4x32, .f32⟩
  | 41 => ⟨S4x4096x4x32, .f32⟩
  | 42 => ⟨S4x4096x4x32, .f32⟩
  | 43 => ⟨S4x4096x4x32, .f32⟩
  | 44 => ⟨S4x4096x4x32, .f32⟩
  | 45 => ⟨S4x4096x4x32, .f32⟩
  | 46 => ⟨S4x4096x4x32, .f32⟩
  | 47 => ⟨S4x4096x4x32, .f32⟩
  | 48 => ⟨S4x4096x4x32, .f32⟩
  | 49 => ⟨S4x4096x4x32, .f32⟩
  | 50 => ⟨S4x4096x4x64, .f32⟩
  | 51 => ⟨S4x4096x4x32, .f32⟩
  | 52 => ⟨S4x4096x4x32, .f32⟩
  | 53 => ⟨S4x4096x4x32, .f32⟩
  | 54 => ⟨S4x4096x4x32, .f32⟩
  | 55 => ⟨S4x4096x4x32, .f32⟩
  | 56 => ⟨S4x4096x4x32, .f32⟩
  | 57 => ⟨S4x4096x4x32, .f32⟩
  | 58 => ⟨S4x4096x4x32, .f32⟩
  | 59 => ⟨S4x4096x4x32, .f32⟩
  | 60 => ⟨S4x4096x4x32, .f32⟩
  | 61 => ⟨S4x4096x4x32, .f32⟩
  | 62 => ⟨S4x4096x4x32, .f32⟩
  | 63 => ⟨S4x4096x4x64, .f32⟩
  | 64 => ⟨S4x1, .f32⟩
  | 65 => ⟨S4x4096x4x1, .f32⟩
  | 66 => ⟨S4x4352x4x64, .f32⟩
  | 67 => ⟨S4x4352x4x64, .f32⟩
  | 68 => ⟨S4x4352x4x64, .f32⟩
  | 69 => ⟨S4x4352x4x1, .f32⟩
  | 70 => ⟨S_, .f32⟩
  | 71 => ⟨S4x4x64x64, .f32⟩
  | 72 => ⟨S_, .i1⟩
  | 73 => ⟨S64x64, .i1⟩
  | 74 => ⟨S64x64, .i32⟩
  | 75 => ⟨S_, .i32⟩
  | 76 => ⟨S64x64, .i32⟩
  | 77 => ⟨S64x64, .i32⟩
  | 78 => ⟨S64x64, .i32⟩
  | 79 => ⟨S64x64, .i1⟩
  | 80 => ⟨S_, .i1⟩
  | 81 => ⟨S64x64, .i1⟩
  | 82 => ⟨S64x64, .i1⟩
  | 83 => ⟨S1x64x64x1x1, .i1⟩
  | 84 => ⟨S4x68x64x4x64, .f32⟩
  | 85 => ⟨S68x4x64x4x64, .f32⟩
  | 86 => ⟨S4x68x64x4x64, .f32⟩
  | 87 => ⟨S68x4x64x4x64, .f32⟩
  | 88 => ⟨S4x68x64x4x64, .f32⟩
  | 89 => ⟨S68x4x64x4x64, .f32⟩
  | 90 => ⟨S4x68x64x4x1, .f32⟩
  | 91 => ⟨S68x4x64x4x1, .f32⟩
  | 92 => ⟨S_, .f32⟩
  | 93 => ⟨S68x4x64x4x64, .f32⟩
  | 94 => ⟨S_, .i32⟩
  | 95 => ⟨S68x4x64x4x64, .f32⟩
  | 96 => ⟨S68x4x64x4x64, .f32⟩
  | 97 => ⟨S68x4x64x4x64, .f32⟩
  | 98 => ⟨S68x4x64x4x1, .f32⟩
  | 99 => ⟨S1x64x64x1x1, .i1⟩
  | 100 => ⟨S_, .i32⟩
  | 101 => ⟨S4x4x64x64, .f32⟩
  | 102 => ⟨S68x4x64x4x64, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x4x64x4x64, .f32⟩
  | 110 => ⟨S4x64x4x64, .f32⟩
  | 111 => ⟨S_, .i32⟩
  | 112 => ⟨S_, .i32⟩
  | 113 => ⟨S_, .i32⟩
  | 114 => ⟨S_, .i32⟩
  | 115 => ⟨S1x4x64x4x64, .f32⟩
  | 116 => ⟨S4x64x4x64, .f32⟩
  | 117 => ⟨S_, .i32⟩
  | 118 => ⟨S_, .i32⟩
  | 119 => ⟨S_, .i32⟩
  | 120 => ⟨S_, .i32⟩
  | 121 => ⟨S1x4x64x4x64, .f32⟩
  | 122 => ⟨S4x64x4x64, .f32⟩
  | 123 => ⟨S_, .i32⟩
  | 124 => ⟨S_, .i32⟩
  | 125 => ⟨S_, .i32⟩
  | 126 => ⟨S_, .i32⟩
  | 127 => ⟨S1x4x64x4x1, .f32⟩
  | _ => ⟨S4x4352x1024, .f32⟩

abbrev hbmTy0_1 (i : Nat) : BufTy := match i % 128 with
  | 0 => ⟨S4x64x4x1, .f32⟩
  | 1 => ⟨S_, .f32⟩
  | 2 => ⟨S_, .f32⟩
  | 3 => ⟨S4x64x4x1, .f32⟩
  | 4 => ⟨S4x64x1x4x1, .f32⟩
  | 5 => ⟨S4x1x64x4x1, .f32⟩
  | 6 => ⟨S4x64x64x4x1, .f32⟩
  | 7 => ⟨S4x64x64x4x1, .f32⟩
  | 8 => ⟨S4x64x64x4x1, .f32⟩
  | 9 => ⟨S_, .f32⟩
  | 10 => ⟨S4x64x64x4x1, .f32⟩
  | 11 => ⟨S4x64x64x4x1, .f32⟩
  | 12 => ⟨S4x64x64x4x1, .f32⟩
  | 13 => ⟨S_, .f32⟩
  | 14 => ⟨S_, .f32⟩
  | 15 => ⟨S4x64x64x4x1, .i1⟩
  | 16 => ⟨S4x64x64x4x1, .f32⟩
  | 17 => ⟨S4x64x64x4x1, .f32⟩
  | 18 => ⟨S4x4x64x64, .f32⟩
  | 19 => ⟨S4x64x64x4, .f32⟩
  | 20 => ⟨S4x64x64x4, .f32⟩
  | 21 => ⟨S4x64x64x4, .f32⟩
  | 22 => ⟨S4x4x64x64, .f32⟩
  | 23 => ⟨S4x64x4x64, .f32⟩
  | 24 => ⟨S4x64x4x1, .f32⟩
  | 25 => ⟨S4x64x4x64, .f32⟩
  | 26 => ⟨S4x64x4x64, .f32⟩
  | 27 => ⟨S4x4x64x64, .f32⟩
  | 28 => ⟨S4x64x4x64, .f32⟩
  | 29 => ⟨S4x1x4x1, .f32⟩
  | 30 => ⟨S4x4x1, .f32⟩
  | 31 => ⟨S4x4x1, .f32⟩
  | 32 => ⟨S4x4x1x1, .f32⟩
  | 33 => ⟨S4x4x64x64, .f32⟩
  | 34 => ⟨S4x4x64x64, .f32⟩
  | 35 => ⟨S4x64x4x1, .f32⟩
  | 36 => ⟨S4x64x4x1, .f32⟩
  | 37 => ⟨S4x64x4x1, .f32⟩
  | 38 => ⟨S4x64x4x64, .f32⟩
  | 39 => ⟨S4x64x4x64, .f32⟩
  | 40 => ⟨S4x4x64x64, .f32⟩
  | 41 => ⟨S4x4x64x64, .f32⟩
  | 42 => ⟨S4x64x4x64, .f32⟩
  | 43 => ⟨S1x4x64x4x64, .f32⟩
  | 44 => ⟨S_, .i32⟩
  | 45 => ⟨S_, .i32⟩
  | 46 => ⟨S_, .i32⟩
  | 47 => ⟨S_, .i32⟩
  | 48 => ⟨S68x4x64x4x64, .f32⟩
  | 49 => ⟨S_, .i32⟩
  | 50 => ⟨S_, .i32⟩
  | 51 => ⟨S4x68x64x4x64, .f32⟩
  | 52 => ⟨S4x4352x4x64, .f32⟩
  | 53 => ⟨S4x4352x256, .f32⟩
  | _ => ⟨S4x4352x1024, .f32⟩

abbrev hbmTy (i : Nat) : BufTy := match i / 128 with
  | 0 => hbmTy0_0 i
  | 1 => hbmTy0_1 i
  | _ => ⟨S4x4352x1024, .f32⟩

abbrev bufTy : (tb : Table) → Fin (tcTables nBuf tb) → BufTy
  | .hbm, ⟨i, _⟩ => hbmTy i
  | _, _ => ⟨S4x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_cst_3 : Ref sig .tc := ⟨.hbm, 70, rfl⟩
abbrev main_v63 : Ref sig .tc := ⟨.hbm, 71, rfl⟩
abbrev main_c : Ref sig .tc := ⟨.hbm, 72, rfl⟩
abbrev main_v64 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_c_0 : Ref sig .tc := ⟨.hbm, 80, rfl⟩
abbrev main_call0_v5 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_4 : Ref sig .tc := ⟨.hbm, 92, rfl⟩
abbrev main_v75 : Ref sig .tc := ⟨.hbm, 93, rfl⟩
abbrev main_c_5 : Ref sig .tc := ⟨.hbm, 94, rfl⟩
abbrev main_v76_0 : Ref sig .tc := ⟨.hbm, 95, rfl⟩
abbrev main_v76_1 : Ref sig .tc := ⟨.hbm, 96, rfl⟩
abbrev main_v76_2 : Ref sig .tc := ⟨.hbm, 97, rfl⟩
abbrev main_v76_3 : Ref sig .tc := ⟨.hbm, 98, rfl⟩
abbrev main_v76_4 : Ref sig .tc := ⟨.hbm, 99, rfl⟩
abbrev main_v76_5 : Ref sig .tc := ⟨.hbm, 100, rfl⟩
abbrev main_v76_6 : Ref sig .tc := ⟨.hbm, 101, rfl⟩
abbrev main_v76_7 : Ref sig .tc := ⟨.hbm, 102, rfl⟩
abbrev main_while0c_c_13 : Ref sig .tc := ⟨.hbm, 103, rfl⟩
abbrev main_while0c_v80 : Ref sig .tc := ⟨.hbm, 104, rfl⟩
abbrev main_while0b_call1_c : Ref sig .tc := ⟨.hbm, 105, rfl⟩
abbrev main_while0b_call1_c_0 : Ref sig .tc := ⟨.hbm, 106, rfl⟩
abbrev main_while0b_call1_c_1 : Ref sig .tc := ⟨.hbm, 107, rfl⟩
abbrev main_while0b_call1_c_2 : Ref sig .tc := ⟨.hbm, 108, rfl⟩
abbrev main_while0b_call1_v0 : Ref sig .tc := ⟨.hbm, 109, rfl⟩
abbrev main_while0b_v80 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_c_1 : Ref sig .tc := ⟨.hbm, 113, rfl⟩
abbrev main_while0b_call2_c_2 : Ref sig .tc := ⟨.hbm, 114, rfl⟩
abbrev main_while0b_call2_v0 : Ref sig .tc := ⟨.hbm, 115, rfl⟩
abbrev main_while0b_v81 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_c_1 : Ref sig .tc := ⟨.hbm, 119, rfl⟩
abbrev main_while0b_call3_c_2 : Ref sig .tc := ⟨.hbm, 120, rfl⟩
abbrev main_while0b_call3_v0 : Ref sig .tc := ⟨.hbm, 121, rfl⟩
abbrev main_while0b_v82 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_c_1 : Ref sig .tc := ⟨.hbm, 125, rfl⟩
abbrev main_while0b_call4_c_2 : Ref sig .tc := ⟨.hbm, 126, rfl⟩
abbrev main_while0b_call4_v0 : Ref sig .tc := ⟨.hbm, 127, rfl⟩
abbrev main_while0b_v83 : Ref sig .tc := ⟨.hbm, 128, rfl⟩
abbrev main_while0b_call5_call0_cst : Ref sig .tc := ⟨.hbm, 129, rfl⟩
abbrev main_while0b_call5_call0_v0 : Ref sig .tc := ⟨.hbm, 130, rfl⟩
abbrev main_while0b_v84 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_cst_13 : Ref sig .tc := ⟨.hbm, 137, rfl⟩
abbrev main_while0b_v90 : Ref sig .tc := ⟨.hbm, 138, rfl⟩
abbrev main_while0b_v91 : Ref sig .tc := ⟨.hbm, 139, rfl⟩
abbrev main_while0b_v92 : Ref sig .tc := ⟨.hbm, 140, rfl⟩
abbrev main_while0b_cst_14 : Ref sig .tc := ⟨.hbm, 141, rfl⟩
abbrev main_while0b_call6_v0 : Ref sig .tc := ⟨.hbm, 142, rfl⟩
abbrev main_while0b_call6_v1 : Ref sig .tc := ⟨.hbm, 143, rfl⟩
abbrev main_while0b_call6_v2 : Ref sig .tc := ⟨.hbm, 144, rfl⟩
abbrev main_while0b_v93 : Ref sig .tc := ⟨.hbm, 145, rfl⟩
abbrev main_while0b_v94 : Ref sig .tc := ⟨.hbm, 146, rfl⟩
abbrev main_while0b_v95 : Ref sig .tc := ⟨.hbm, 147, rfl⟩
abbrev main_while0b_v96 : Ref sig .tc := ⟨.hbm, 148, rfl⟩
abbrev main_while0b_v97 : Ref sig .tc := ⟨.hbm, 149, rfl⟩
abbrev main_while0b_v98 : Ref sig .tc := ⟨.hbm, 150, rfl⟩
abbrev main_while0b_v99 : Ref sig .tc := ⟨.hbm, 151, rfl⟩
abbrev main_while0b_v100 : Ref sig .tc := ⟨.hbm, 152, rfl⟩
abbrev main_while0b_v101 : Ref sig .tc := ⟨.hbm, 153, rfl⟩
abbrev main_while0b_v102 : Ref sig .tc := ⟨.hbm, 154, rfl⟩
abbrev main_while0b_v103 : Ref sig .tc := ⟨.hbm, 155, rfl⟩
abbrev main_while0b_v104 : Ref sig .tc := ⟨.hbm, 156, rfl⟩
abbrev main_while0b_v105 : Ref sig .tc := ⟨.hbm, 157, rfl⟩
abbrev main_while0b_v106 : Ref sig .tc := ⟨.hbm, 158, rfl⟩
abbrev main_while0b_v107 : Ref sig .tc := ⟨.hbm, 159, rfl⟩
abbrev main_while0b_v108 : Ref sig .tc := ⟨.hbm, 160, rfl⟩
abbrev main_while0b_v109 : Ref sig .tc := ⟨.hbm, 161, rfl⟩
abbrev main_while0b_v110 : Ref sig .tc := ⟨.hbm, 162, rfl⟩
abbrev main_while0b_v111 : Ref sig .tc := ⟨.hbm, 163, rfl⟩
abbrev main_while0b_v112 : Ref sig .tc := ⟨.hbm, 164, rfl⟩
abbrev main_while0b_v113 : Ref sig .tc := ⟨.hbm, 165, rfl⟩
abbrev main_while0b_v114 : Ref sig .tc := ⟨.hbm, 166, rfl⟩
abbrev main_while0b_v115 : Ref sig .tc := ⟨.hbm, 167, rfl⟩
abbrev main_while0b_v116 : Ref sig .tc := ⟨.hbm, 168, rfl⟩
abbrev main_while0b_v117 : Ref sig .tc := ⟨.hbm, 169, rfl⟩
abbrev main_while0b_v118 : Ref sig .tc := ⟨.hbm, 170, rfl⟩
abbrev main_while0b_call7_v0 : Ref sig .tc := ⟨.hbm, 171, rfl⟩
abbrev main_while0b_call7_c : Ref sig .tc := ⟨.hbm, 172, rfl⟩
abbrev main_while0b_call7_c_0 : Ref sig .tc := ⟨.hbm, 173, rfl⟩
abbrev main_while0b_call7_c_1 : Ref sig .tc := ⟨.hbm, 174, rfl⟩
abbrev main_while0b_call7_c_2 : Ref sig .tc := ⟨.hbm, 175, rfl⟩
abbrev main_while0b_v119 : Ref sig .tc := ⟨.hbm, 176, rfl⟩
abbrev main_while0b_c_15 : Ref sig .tc := ⟨.hbm, 177, rfl⟩
abbrev main_while0b_v120 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩

abbrev nD : Nat := 1
abbrev τ : Topo := Topo.v7x

variable {F : FTy → Type} [FloatOps F]

abbrev main_while0_count : Scf.Loop 32 := ⟨0#32, 68#32, 1#32⟩
-- ==== Kernel2.lean ====
abbrev S17408x1024 : Shape := ⟨2, ![17408, 1024]⟩
abbrev S8x1x6144 : Shape := ⟨3, ![8, 1, 6144]⟩
abbrev S17408x256 : Shape := ⟨2, ![17408, 256]⟩
abbrev S17408x512 : Shape := ⟨2, ![17408, 512]⟩
abbrev S4x1024x1024 : Shape := ⟨3, ![4, 1024, 1024]⟩
abbrev S1x1024 : Shape := ⟨2, ![1, 1024]⟩
abbrev S4x1024x5632 : Shape := ⟨3, ![4, 1024, 5632]⟩
abbrev S4x2816x1024 : Shape := ⟨3, ![4, 2816, 1024]⟩
abbrev S512x1024 : Shape := ⟨2, ![512, 1024]⟩
abbrev S512x256 : Shape := ⟨2, ![512, 256]⟩
abbrev S512x512 : Shape := ⟨2, ![512, 512]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024x1024 : Shape := ⟨2, ![1024, 1024]⟩
abbrev S1x1x6144 : Shape := ⟨3, ![1, 1, 6144]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S1x256x1024 : Shape := ⟨3, ![1, 256, 1024]⟩

abbrev nBuf : Space → Nat
  | .hbm => 12
  | .vmem => 26
  | .smem => 0
  | _ => 0

abbrev bufTy : (tb : Table) → Fin (tcTables nBuf tb) → BufTy
  | .hbm, ⟨0, _⟩ => ⟨S17408x1024, .f32⟩
  | .hbm, ⟨1, _⟩ => ⟨S8x1x6144, .f32⟩
  | .hbm, ⟨2, _⟩ => ⟨S17408x256, .bf16⟩
  | .hbm, ⟨3, _⟩ => ⟨S17408x512, .bf16⟩
  | .hbm, ⟨4, _⟩ => ⟨S17408x256, .bf16⟩
  | .hbm, ⟨5, _⟩ => ⟨S4x1024x1024, .bf16⟩
  | .hbm, ⟨6, _⟩ => ⟨S1x1024, .f32⟩
  | .hbm, ⟨7, _⟩ => ⟨S1x1024, .f32⟩
  | .hbm, ⟨8, _⟩ => ⟨S4x1024x5632, .bf16⟩
  | .hbm, ⟨9, _⟩ => ⟨S4x2816x1024, .bf16⟩
  | .hbm, ⟨10, _⟩ => ⟨S1x1024, .f32⟩
  | .hbm, ⟨11, _⟩ => ⟨S17408x1024, .f32⟩
  | .local _ .vmem, ⟨0, _⟩ => ⟨S512x1024, .f32⟩
  | .local _ .vmem, ⟨1, _⟩ => ⟨S512x256, .bf16⟩
  | .local _ .vmem, ⟨2, _⟩ => ⟨S512x512, .bf16⟩
  | .local _ .vmem, ⟨3, _⟩ => ⟨S512x256, .bf16⟩
  | .local _ .vmem, ⟨4, _⟩ => ⟨S512x1024, .f32⟩
  | .local _ .vmem, ⟨5, _⟩ => ⟨S512x1024, .f32⟩
  | .local _ .vmem, ⟨6, _⟩ => ⟨S512x256, .bf16⟩
  | .local _ .vmem, ⟨7, _⟩ => ⟨S512x256, .bf16⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S8x1x6144, .f32⟩
  | .local _ .vmem, ⟨13, _⟩ => ⟨S1x1024x1024, .bf16⟩
  | .local _ .vmem, ⟨14, _⟩ => ⟨S1x1024, .f32⟩
  | .local _ .vmem, ⟨15, _⟩ => ⟨S1x1024, .f32⟩
  | .local _ .vmem, ⟨16, _⟩ => ⟨S1x1024x5632, .bf16⟩
  | .local _ .vmem, ⟨17, _⟩ => ⟨S1x2816x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v_true : BitVec 1) : Fin 3 → Nat :=
  let c4_i32 : BitVec 32 := 4#32
  let c0_i32_24 : BitVec 32 := 0#32
  let v38 : BitVec 32 := Scalar.select v_true c4_i32 c0_i32_24
  let v39 : Index := Scalar.indexCast v38
  let c0_25 : Index := 0#32
  let c0_26 : Index := 0#32
  ![v39.toNat, 0, 0]
def k0_cond2 (i : grid0.Coords) : BitVec 1 :=
  let arg0 : BitVec 32 := BitVec.ofNat 32 (i 0).val
  let c2_i32 : BitVec 32 := 2#32
  let c0_i32_1 : BitVec 32 := 0#32
  let v5 : BitVec 1 := Scalar.cmpi .eq c2_i32 c0_i32_1
  let c1_i32_2 : BitVec 32 := 1#32
  let v6 : BitVec 32 := Scalar.select v5 c1_i32_2 c2_i32
  let v7 : BitVec 32 := Scalar.remsi arg0 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def k0_off2 (i : grid0.Coords) (c0_i32_25 : BitVec 32) : Fin 3 → Nat :=
  let arg0 : BitVec 32 := BitVec.ofNat 32 (i 0).val
  let c1_i32 : BitVec 32 := 1#32
  let v3 : BitVec 32 := Scalar.addi arg0 c1_i32
  let c33_i32 : BitVec 32 := 33#32
  let v4 : BitVec 32 := Scalar.minsi v3 c33_i32
  let c2_i32_24 : BitVec 32 := 2#32
  let v38 : BitVec 32 := Scalar.muli v4 c2_i32_24
  let v39 : BitVec 32 := Scalar.addi v38 c0_i32_25
  let c17_i32 : BitVec 32 := 17#32
  let c0_i32_26 : BitVec 32 := 0#32
  let v40 : BitVec 1 := Scalar.cmpi .eq c17_i32 c0_i32_26
  let c1_i32_27 : BitVec 32 := 1#32
  let v41 : BitVec 32 := Scalar.select v40 c1_i32_27 c17_i32
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c1_i32_31 : BitVec 32 := 1#32
  let v50 : BitVec 1 := Scalar.cmpi .slt v49 c1_i32_31
  let c4_i32 : BitVec 32 := 4#32
  let c0_i32_33 : BitVec 32 := 0#32
  let v52 : BitVec 1 := Scalar.cmpi .sgt v39 c0_i32_33
  let v53 : BitVec 32 := Scalar.extui v52
  let c0_i32_34 : BitVec 32 := 0#32
  let v54 : BitVec 1 := Scalar.cmpi .slt v39 c0_i32_34
  let v55 : BitVec 32 := Scalar.extui v54
  let v56 : BitVec 32 := Scalar.subi v53 v55
  let c17_i32_32 : BitVec 32 := 17#32
  let c0_i32_35 : BitVec 32 := 0#32
  let v57 : BitVec 1 := Scalar.cmpi .sgt c17_i32_32 c0_i32_35
  let v58 : BitVec 32 := Scalar.extui v57
  let c0_i32_36 : BitVec 32 := 0#32
  let v59 : BitVec 1 := Scalar.cmpi .slt c17_i32_32 c0_i32_36
  let v60 : BitVec 32 := Scalar.extui v59
  let v61 : BitVec 32 := Scalar.subi v58 v60
  let v62 : BitVec 1 := Scalar.cmpi .ne v56 v61
  let v63 : BitVec 32 := Scalar.remsi v39 c17_i32_32
  let c0_i32_37 : BitVec 32 := 0#32
  let v64 : BitVec 1 := Scalar.cmpi .ne v63 c0_i32_37
  let v65 : BitVec 1 := Scalar.andi v62 v64
  let v51 : BitVec 32 := Scalar.divsi v39 c17_i32_32
  let c1_i32_38 : BitVec 32 := 1#32
  let v66 : BitVec 32 := Scalar.subi v51 c1_i32_38
  let v67 : BitVec 32 := Scalar.select v65 v66 v51
  let v68 : BitVec 32 := Scalar.select v50 c4_i32 v67
  let v69 : Index := Scalar.indexCast v68
  let c0_39 : Index := 0#32
  let c0_40 : Index := 0#32
  ![v69.toNat, 0, 0]
def k0_off3 (i : grid0.Coords) (c0_i32_250 : BitVec 32) : Fin 3 → Nat :=
  let arg0 : BitVec 32 := BitVec.ofNat 32 (i 0).val
  let c2_i32_249 : BitVec 32 := 2#32
  let v397 : BitVec 32 := Scalar.muli arg0 c2_i32_249
  let v398 : BitVec 32 := Scalar.addi v397 c0_i32_250
  let c17_i32_251 : BitVec 32 := 17#32
  let c0_i32_252 : BitVec 32 := 0#32
  let v399 : BitVec 1 := Scalar.cmpi .eq c17_i32_251 c0_i32_252
  let c1_i32_253 : BitVec 32 := 1#32
  let v400 : BitVec 32 := Scalar.select v399 c1_i32_253 c17_i32_251
  let v401 : BitVec 32 := Scalar.remsi v398 v400
  let c0_i32_255 : BitVec 32 := 0#32
  let v403 : BitVec 1 := Scalar.cmpi .slt v401 c0_i32_255
  let c0_i32_256 : BitVec 32 := 0#32
  let v404 : BitVec 1 := Scalar.cmpi .slt v400 c0_i32_256
  let v405 : BitVec 1 := Scalar.xori v403 v404
  let c0_i32_254 : BitVec 32 := 0#32
  let v402 : BitVec 1 := Scalar.cmpi .ne v401 c0_i32_254
  let v406 : BitVec 1 := Scalar.andi v405 v402
  let v407 : BitVec 32 := Scalar.addi v401 v400
  let v408 : BitVec 32 := Scalar.select v406 v407 v401
  let c1_i32_257 : BitVec 32 := 1#32
  let v409 : BitVec 1 := Scalar.cmpi .slt v408 c1_i32_257
  let c4_i32_265 : BitVec 32 := 4#32
  let c0_i32_259 : BitVec 32 := 0#32
  let v411 : BitVec 1 := Scalar.cmpi .sgt v398 c0_i32_259
  let v412 : BitVec 32 := Scalar.extui v411
  let c0_i32_260 : BitVec 32 := 0#32
  let v413 : BitVec 1 := Scalar.cmpi .slt v398 c0_i32_260
  let v414 : BitVec 32 := Scalar.extui v413
  let v415 : BitVec 32 := Scalar.subi v412 v414
  let c17_i32_258 : BitVec 32 := 17#32
  let c0_i32_261 : BitVec 32 := 0#32
  let v416 : BitVec 1 := Scalar.cmpi .sgt c17_i32_258 c0_i32_261
  let v417 : BitVec 32 := Scalar.extui v416
  let c0_i32_262 : BitVec 32 := 0#32
  let v418 : BitVec 1 := Scalar.cmpi .slt c17_i32_258 c0_i32_262
  let v419 : BitVec 32 := Scalar.extui v418
  let v420 : BitVec 32 := Scalar.subi v417 v419
  let v421 : BitVec 1 := Scalar.cmpi .ne v415 v420
  let v422 : BitVec 32 := Scalar.remsi v398 c17_i32_258
  let c0_i32_263 : BitVec 32 := 0#32
  let v423 : BitVec 1 := Scalar.cmpi .ne v422 c0_i32_263
  let v424 : BitVec 1 := Scalar.andi v421 v423
  let v410 : BitVec 32 := Scalar.divsi v398 c17_i32_258
  let c1_i32_264 : BitVec 32 := 1#32
  let v425 : BitVec 32 := Scalar.subi v410 c1_i32_264
  let v426 : BitVec 32 := Scalar.select v424 v425 v410
  let v427 : BitVec 32 := Scalar.select v409 c4_i32_265 v426
  let v428 : Index := Scalar.indexCast v427
  let c0_266 : Index := 0#32
  let c0_267 : Index := 0#32
  ![v428.toNat, 0, 0]
def k0_cond3 (i : grid0.Coords) : BitVec 1 :=
  let arg0 : BitVec 32 := BitVec.ofNat 32 (i 0).val
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi arg0 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c1_i32_14 : BitVec 32 := 1#32
  let v28 : BitVec 1 := Scalar.cmpi .eq v27 c1_i32_14
  let v29 : BitVec 32 := Scalar.extui v28
  let c0_i32_15 : BitVec 32 := 0#32
  let v30 : BitVec 1 := Scalar.cmpi .ne v29 c0_i32_15
  v30

def k0_off4 (i : grid0.Coords) (c0_i32_25 : BitVec 32) : Fin 3 → Nat :=
  let arg0 : BitVec 32 := BitVec.ofNat 32 (i 0).val
  let c1_i32 : BitVec 32 := 1#32
  let v3 : BitVec 32 := Scalar.addi arg0 c1_i32
  let c33_i32 : BitVec 32 := 33#32
  let v4 : BitVec 32 := Scalar.minsi v3 c33_i32
  let c2_i32_24 : BitVec 32 := 2#32
  let v38 : BitVec 32 := Scalar.muli v4 c2_i32_24
  let v39 : BitVec 32 := Scalar.addi v38 c0_i32_25
  let c17_i32 : BitVec 32 := 17#32
  let c0_i32_26 : BitVec 32 := 0#32
  let v40 : BitVec 1 := Scalar.cmpi .eq c17_i32 c0_i32_26
  let c1_i32_27 : BitVec 32 := 1#32
  let v41 : BitVec 32 := Scalar.select v40 c1_i32_27 c17_i32
  let v42 : BitVec 32 := Scalar.remsi v39 v41
  let c0_i32_29 : BitVec 32 := 0#32
  let v44 : BitVec 1 := Scalar.cmpi .slt v42 c0_i32_29
  let c0_i32_30 : BitVec 32 := 0#32
  let v45 : BitVec 1 := Scalar.cmpi .slt v41 c0_i32_30
  let v46 : BitVec 1 := Scalar.xori v44 v45
  let c0_i32_28 : BitVec 32 := 0#32
  let v43 : BitVec 1 := Scalar.cmpi .ne v42 c0_i32_28
  let v47 : BitVec 1 := Scalar.andi v46 v43
  let v48 : BitVec 32 := Scalar.addi v42 v41
  let v49 : BitVec 32 := Scalar.select v47 v48 v42
  let c1_i32_31 : BitVec 32 := 1#32
  let v50 : BitVec 1 := Scalar.cmpi .slt v49 c1_i32_31
  let c4_i32 : BitVec 32 := 4#32
  let c0_i32_33 : BitVec 32 := 0#32
  let v52 : BitVec 1 := Scalar.cmpi .sgt v39 c0_i32_33
  let v53 : BitVec 32 := Scalar.extui v52
  let c0_i32_34 : BitVec 32 := 0#32
  let v54 : BitVec 1 := Scalar.cmpi .slt v39 c0_i32_34
  let v55 : BitVec 32 := Scalar.extui v54
  let v56 : BitVec 32 := Scalar.subi v53 v55
  let c17_i32_32 : BitVec 32 := 17#32
  let c0_i32_35 : BitVec 32 := 0#32
  let v57 : BitVec 1 := Scalar.cmpi .sgt c17_i32_32 c0_i32_35
  let v58 : BitVec 32 := Scalar.extui v57
  let c0_i32_36 : BitVec 32 := 0#32
  let v59 : BitVec 1 := Scalar.cmpi .slt c17_i32_32 c0_i32_36
  let v60 : BitVec 32 := Scalar.extui v59
  let v61 : BitVec 32 := Scalar.subi v58 v60
  let v62 : BitVec 1 := Scalar.cmpi .ne v56 v61
  let v63 : BitVec 32 := Scalar.remsi v39 c17_i32_32
  let c0_i32_37 : BitVec 32 := 0#32
  let v64 : BitVec 1 := Scalar.cmpi .ne v63 c0_i32_37
  let v65 : BitVec 1 := Scalar.andi v62 v64
  let v51 : BitVec 32 := Scalar.divsi v39 c17_i32_32
  let c1_i32_38 : BitVec 32 := 1#32
  let v66 : BitVec 32 := Scalar.subi v51 c1_i32_38
  let v67 : BitVec 32 := Scalar.select v65 v66 v51
  let v68 : BitVec 32 := Scalar.select v50 c4_i32 v67
  let v69 : Index := Scalar.indexCast v68
  let c0_39 : Index := 0#32
  let c0_40 : Index := 0#32
  ![v69.toNat, 0, 0]
def k0_off5 (i : grid0.Coords) (c0_i32_250 : BitVec 32) : Fin 3 → Nat :=
  let arg0 : BitVec 32 := BitVec.ofNat 32 (i 0).val
  let c2_i32_249 : BitVec 32 := 2#32
  let v397 : BitVec 32 := Scalar.muli arg0 c2_i32_249
  let v398 : BitVec 32 := Scalar.addi v397 c0_i32_250
  let c17_i32_251 : BitVec 32 := 17#32
  let c0_i32_252 : BitVec 32 := 0#32
  let v399 : BitVec 1 := Scalar.cmpi .eq c17_i32_251 c0_i32_252
  let c1_i32_253 : BitVec 32 := 1#32
  let v400 : BitVec 32 := Scalar.select v399 c1_i32_253 c17_i32_251
  let v401 : BitVec 32 := Scalar.remsi v398 v400
  let c0_i32_255 : BitVec 32 := 0#32
  let v403 : BitVec 1 := Scalar.cmpi .slt v401 c0_i32_255
  let c0_i32_256 : BitVec 32 := 0#32
  let v404 : BitVec 1 := Scalar.cmpi .slt v400 c0_i32_256
  let v405 : BitVec 1 := Scalar.xori v403 v404
  let c0_i32_254 : BitVec 32 := 0#32
  let v402 : BitVec 1 := Scalar.cmpi .ne v401 c0_i32_254
  let v406 : BitVec 1 := Scalar.andi v405 v402
  let v407 : BitVec 32 := Scalar.addi v401 v400
  let v408 : BitVec 32 := Scalar.select v406 v407 v401
  let c1_i32_257 : BitVec 32 := 1#32
  let v409 : BitVec 1 := Scalar.cmpi .slt v408 c1_i32_257
  let c4_i32_265 : BitVec 32 := 4#32
  let c0_i32_259 : BitVec 32 := 0#32
  let v411 : BitVec 1 := Scalar.cmpi .sgt v398 c0_i32_259
  let v412 : BitVec 32 := Scalar.extui v411
  let c0_i32_260 : BitVec 32 := 0#32
  let v413 : BitVec 1 := Scalar.cmpi .slt v398 c0_i32_260
  let v414 : BitVec 32 := Scalar.extui v413
  let v415 : BitVec 32 := Scalar.subi v412 v414
  let c17_i32_258 : BitVec 32 := 17#32
  let c0_i32_261 : BitVec 32 := 0#32
  let v416 : BitVec 1 := Scalar.cmpi .sgt c17_i32_258 c0_i32_261
  let v417 : BitVec 32 := Scalar.extui v416
  let c0_i32_262 : BitVec 32 := 0#32
  let v418 : BitVec 1 := Scalar.cmpi .slt c17_i32_258 c0_i32_262
  let v419 : BitVec 32 := Scalar.extui v418
  let v420 : BitVec 32 := Scalar.subi v417 v419
  let v421 : BitVec 1 := Scalar.cmpi .ne v415 v420
  let v422 : BitVec 32 := Scalar.remsi v398 c17_i32_258
  let c0_i32_263 : BitVec 32 := 0#32
  let v423 : BitVec 1 := Scalar.cmpi .ne v422 c0_i32_263
  let v424 : BitVec 1 := Scalar.andi v421 v423
  let v410 : BitVec 32 := Scalar.divsi v398 c17_i32_258
  let c1_i32_264 : BitVec 32 := 1#32
  let v425 : BitVec 32 := Scalar.subi v410 c1_i32_264
  let v426 : BitVec 32 := Scalar.select v424 v425 v410
  let v427 : BitVec 32 := Scalar.select v409 c4_i32_265 v426
  let v428 : Index := Scalar.indexCast v427
  let c0_266 : Index := 0#32
  let c0_267 : Index := 0#32
  ![v428.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c33_i32 : BitVec 32 := 33#32
  let v1 : BitVec 32 := Scalar.minsi v0 c33_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c33_i32 : BitVec 32 := 33#32
  let v1 : BitVec 32 := Scalar.minsi v0 c33_i32
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c33_i32 : BitVec 32 := 33#32
  let v1 : BitVec 32 := Scalar.minsi v0 c33_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c33_i32 : BitVec 32 := 33#32
  let v1 : BitVec 32 := Scalar.minsi v0 c33_i32
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_13 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S17408x1024 : Shape := ⟨2, ![17408, 1024]⟩
abbrev S8x1x6144 : Shape := ⟨3, ![8, 1, 6144]⟩
abbrev S17408x256 : Shape := ⟨2, ![17408, 256]⟩
abbrev S17408x512 : Shape := ⟨2, ![17408, 512]⟩
abbrev S4x1024x1024 : Shape := ⟨3, ![4, 1024, 1024]⟩
abbrev S1x1024 : Shape := ⟨2, ![1, 1024]⟩
abbrev S4x1024x5632 : Shape := ⟨3, ![4, 1024, 5632]⟩
abbrev S4x2816x1024 : Shape := ⟨3, ![4, 2816, 1024]⟩
abbrev S4x4352x1024 : Shape := ⟨3, ![4, 4352, 1024]⟩
abbrev S1x1024x1024 : Shape := ⟨3, ![1, 1024, 1024]⟩
abbrev S1024x1024 : Shape := ⟨2, ![1024, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S4x256x1024 : Shape := ⟨3, ![4, 256, 1024]⟩
abbrev S1x1x6144 : Shape := ⟨3, ![1, 1, 6144]⟩
abbrev S1x1x1024 : Shape := ⟨3, ![1, 1, 1024]⟩
abbrev S_ : Shape := ⟨0, ![]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S4x4096x1024 : Shape := ⟨3, ![4, 4096, 1024]⟩
abbrev S4x1x6144 : Shape := ⟨3, ![4, 1, 6144]⟩
abbrev S4x1x1024 : Shape := ⟨3, ![4, 1, 1024]⟩
abbrev S4x4096 : Shape := ⟨2, ![4, 4096]⟩
abbrev S4x4096x1 : Shape := ⟨3, ![4, 4096, 1]⟩
abbrev S4x4096x5632 : Shape := ⟨3, ![4, 4096, 5632]⟩
abbrev S4x4096x2816 : Shape := ⟨3, ![4, 4096, 2816]⟩

abbrev nBuf : Space → Nat
  | .hbm => 198
  | .vmem => 0
  | .smem => 0
  | _ => 0

abbrev hbmTy0_0 (i : Nat) : BufTy := match i % 128 with
  | 0 => ⟨S17408x1024, .f32⟩
  | 1 => ⟨S8x1x6144, .f32⟩
  | 2 => ⟨S17408x256, .bf16⟩
  | 3 => ⟨S17408x512, .bf16⟩
  | 4 => ⟨S17408x256, .bf16⟩
  | 5 => ⟨S4x1024x1024, .bf16⟩
  | 6 => ⟨S1x1024, .f32⟩
  | 7 => ⟨S1x1024, .f32⟩
  | 8 => ⟨S4x1024x5632, .bf16⟩
  | 9 => ⟨S4x2816x1024, .bf16⟩
  | 10 => ⟨S1x1024, .f32⟩
  | 11 => ⟨S4x4352x1024, .f32⟩
  | 12 => ⟨S17408x256, .f32⟩
  | 13 => ⟨S17408x512, .f32⟩
  | 14 => ⟨S17408x256, .f32⟩
  | 15 => ⟨S17408x1024, .f32⟩
  | 16 => ⟨S4x4352x1024, .f32⟩
  | 17 => ⟨S1x1024x1024, .bf16⟩
  | 18 => ⟨S1024x1024, .bf16⟩
  | 19 => ⟨S1024x1024, .f32⟩
  | 20 => ⟨S1x1024x5632, .bf16⟩
  | 21 => ⟨S1024x5632, .bf16⟩
  | 22 => ⟨S1024x5632, .f32⟩
  | 23 => ⟨S1x2816x1024, .bf16⟩
  | 24 => ⟨S2816x1024, .bf16⟩
  | 25 => ⟨S2816x1024, .f32⟩
  | 26 => ⟨S4x256x1024, .f32⟩
  | 27 => ⟨S4x256x1024, .f32⟩
  | 28 => ⟨S1x1x6144, .f32⟩
  | 29 => ⟨S1x1x1024, .f32⟩
  | 30 => ⟨S1x1x1024, .f32⟩
  | 31 => ⟨S1x1x1024, .f32⟩
  | 32 => ⟨S1x1x1024, .f32⟩
  | 33 => ⟨S1x1x1024, .f32⟩
  | 34 => ⟨S1x1x1024, .f32⟩
  | 35 => ⟨S4x256x1024, .f32⟩
  | 36 => ⟨S4x256x1024, .f32⟩
  | 37 => ⟨S_, .f32⟩
  | 38 => ⟨S4x256, .f32⟩
  | 39 => ⟨S4x256x1, .f32⟩
  | 40 => ⟨S_, .f32⟩
  | 41 => ⟨S4x256x1, .f32⟩
  | 42 => ⟨S4x256x1, .f32⟩
  | 43 => ⟨S_, .f32⟩
  | 44 => ⟨S4x256x1, .f32⟩
  | 45 => ⟨S4x256x1, .f32⟩
  | 46 => ⟨S4x256x1, .f32⟩
  | 47 => ⟨S4x256x1024, .f32⟩
  | 48 => ⟨S4x256x1024, .f32⟩
  | 49 => ⟨S1x1x1024, .f32⟩
  | 50 => ⟨S4x256x1024, .f32⟩
  | 51 => ⟨S4x256x1024, .f32⟩
  | 52 => ⟨S4x256x1024, .f32⟩
  | 53 => ⟨S4x256x1024, .f32⟩
  | 54 => ⟨S4x256x1024, .f32⟩
  | 55 => ⟨S4x256x1024, .f32⟩
  | 56 => ⟨S_, .f32⟩
  | 57 => ⟨S4x256, .f32⟩
  | 58 => ⟨S4x256x1, .f32⟩
  | 59 => ⟨S_, .f32⟩
  | 60 => ⟨S4x256x1, .f32⟩
  | 61 => ⟨S4x256x1, .f32⟩
  | 62 => ⟨S_, .f32⟩
  | 63 => ⟨S4x256x1, .f32⟩
  | 64 => ⟨S4x256x1, .f32⟩
  | 65 => ⟨S4x256x1, .f32⟩
  | 66 => ⟨S4x256x1024, .f32⟩
  | 67 => ⟨S4x256x1024, .f32⟩
  | 68 => ⟨S1x1x1024, .f32⟩
  | 69 => ⟨S4x256x1024, .f32⟩
  | 70 => ⟨S4x256x1024, .f32⟩
  | 71 => ⟨S_, .f32⟩
  | 72 => ⟨S1x1x1024, .f32⟩
  | 73 => ⟨S1x1x1024, .f32⟩
  | 74 => ⟨S4x256x1024, .f32⟩
  | 75 => ⟨S4x256x1024, .f32⟩
  | 76 => ⟨S4x256x1024, .f32⟩
  | 77 => ⟨S4x256x1024, .f32⟩
  | 78 => ⟨S4x256x5632, .f32⟩
  | 79 => ⟨S4x256x2816, .f32⟩
  | 80 => ⟨S4x256x2816, .f32⟩
  | 81 => ⟨S4x256x2816, .f32⟩
  | 82 => ⟨S4x256x2816, .f32⟩
  | 83 => ⟨S_, .f32⟩
  | 84 => ⟨S4x256x2816, .f32⟩
  | 85 => ⟨S4x256x2816, .f32⟩
  | 86 => ⟨S_, .f32⟩
  | 87 => ⟨S4x256x2816, .f32⟩
  | 88 => ⟨S4x256x2816, .f32⟩
  | 89 => ⟨S4x256x2816, .f32⟩
  | 90 => ⟨S4x256x2816, .f32⟩
  | 91 => ⟨S4x256x1024, .f32⟩
  | 92 => ⟨S4x256x1024, .f32⟩
  | 93 => ⟨S_, .f32⟩
  | 94 => ⟨S4x256, .f32⟩
  | 95 => ⟨S4x256x1, .f32⟩
  | 96 => ⟨S_, .f32⟩
  | 97 => ⟨S4x256x1, .f32⟩
  | 98 => ⟨S4x256x1, .f32⟩
  | 99 => ⟨S_, .f32⟩
  | 100 => ⟨S4x256x1, .f32⟩
  | 101 => ⟨S4x256x1, .f32⟩
  | 102 => ⟨S4x256x1, .f32⟩
  | 103 => ⟨S4x256x1024, .f32⟩
  | 104 => ⟨S4x256x1024, .f32⟩
  | 105 => ⟨S1x1x1024, .f32⟩
  | 106 => ⟨S4x256x1024, .f32⟩
  | 107 => ⟨S4x256x1024, .f32⟩
  | 108 => ⟨S4x256x1024, .f32⟩
  | 109 => ⟨S4x256x1024, .f32⟩
  | 110 => ⟨S4x256x1024, .f32⟩
  | 111 => ⟨S4x4096x1024, .f32⟩
  | 112 => ⟨S4x4096x1024, .f32⟩
  | 113 => ⟨S4x1x6144, .f32⟩
  | 114 => ⟨S4x1x1024, .f32⟩
  | 115 => ⟨S4x1x1024, .f32⟩
  | 116 => ⟨S4x1x1024, .f32⟩
  | 117 => ⟨S4x1x1024, .f32⟩
  | 118 => ⟨S4x1x1024, .f32⟩
  | 119 => ⟨S4x1x1024, .f32⟩
  | 120 => ⟨S4x4096x1024, .f32⟩
  | 121 => ⟨S4x4096x1024, .f32⟩
  | 122 => ⟨S_, .f32⟩
  | 123 => ⟨S4x4096, .f32⟩
  | 124 => ⟨S4x4096x1, .f32⟩
  | 125 => ⟨S_, .f32⟩
  | 126 => ⟨S4x4096x1, .f32⟩
  | 127 => ⟨S4x4096x1, .f32⟩
  | _ => ⟨S17408x1024, .f32⟩

abbrev hbmTy0_1 (i : Nat) : BufTy := match i % 128 with
  | 0 => ⟨S_, .f32⟩
  | 1 => ⟨S4x4096x1, .f32⟩
  | 2 => ⟨S4x4096x1, .f32⟩
  | 3 => ⟨S4x4096x1, .f32⟩
  | 4 => ⟨S4x4096x1024, .f32⟩
  | 5 => ⟨S4x4096x1024, .f32⟩
  | 6 => ⟨S1x1x1024, .f32⟩
  | 7 => ⟨S4x4096x1024, .f32⟩
  | 8 => ⟨S4x4096x1024, .f32⟩
  | 9 => ⟨S4x4096x1024, .f32⟩
  | 10 => ⟨S4x4096x1024, .f32⟩
  | 11 => ⟨S4x4096x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x5632, .f32⟩
  | 36 => ⟨S4x4096x2816, .f32⟩
  | 37 => ⟨S4x4096x2816, .f32⟩
  | 38 => ⟨S4x4096x2816, .f32⟩
  | 39 => ⟨S4x4096x2816, .f32⟩
  | 40 => ⟨S_, .f32⟩
  | 41 => ⟨S4x4096x2816, .f32⟩
  | 42 => ⟨S4x4096x2816, .f32⟩
  | 43 => ⟨S_, .f32⟩
  | 44 => ⟨S4x4096x2816, .f32⟩
  | 45 => ⟨S4x4096x2816, .f32⟩
  | 46 => ⟨S4x4096x2816, .f32⟩
  | 47 => ⟨S4x4096x2816, .f32⟩
  | 48 => ⟨S4x4096x1024, .f32⟩
  | 49 => ⟨S4x4096x1024, .f32⟩
  | 50 => ⟨S_, .f32⟩
  | 51 => ⟨S4x4096, .f32⟩
  | 52 => ⟨S4x4096x1, .f32⟩
  | 53 => ⟨S_, .f32⟩
  | 54 => ⟨S4x4096x1, .f32⟩
  | 55 => ⟨S4x4096x1, .f32⟩
  | 56 => ⟨S_, .f32⟩
  | 57 => ⟨S4x4096x1, .f32⟩
  | 58 => ⟨S4x4096x1, .f32⟩
  | 59 => ⟨S4x4096x1, .f32⟩
  | 60 => ⟨S4x4096x1024, .f32⟩
  | 61 => ⟨S4x4096x1024, .f32⟩
  | 62 => ⟨S1x1x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S4x4096x1024, .f32⟩
  | 68 => ⟨S4x4352x1024, .f32⟩
  | 69 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_0 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_2 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_call0_v5 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_6 : Ref sig .tc := ⟨.hbm, 93, rfl⟩
abbrev main_v67 : Ref sig .tc := ⟨.hbm, 94, rfl⟩
abbrev main_v68 : Ref sig .tc := ⟨.hbm, 95, rfl⟩
abbrev main_cst_7 : Ref sig .tc := ⟨.hbm, 96, rfl⟩
abbrev main_v69 : Ref sig .tc := ⟨.hbm, 97, rfl⟩
abbrev main_v70 : Ref sig .tc := ⟨.hbm, 98, rfl⟩
abbrev main_cst_8 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_9 : Ref sig .tc := ⟨.hbm, 122, rfl⟩
abbrev main_v93 : Ref sig .tc := ⟨.hbm, 123, rfl⟩
abbrev main_v94 : Ref sig .tc := ⟨.hbm, 124, rfl⟩
abbrev main_cst_10 : Ref sig .tc := ⟨.hbm, 125, rfl⟩
abbrev main_v95 : Ref sig .tc := ⟨.hbm, 126, rfl⟩
abbrev main_v96 : Ref sig .tc := ⟨.hbm, 127, rfl⟩
abbrev main_cst_11 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_cst_12 : Ref sig .tc := ⟨.hbm, 141, rfl⟩
abbrev main_v109 : Ref sig .tc := ⟨.hbm, 142, rfl⟩
abbrev main_v110 : Ref sig .tc := ⟨.hbm, 143, rfl⟩
abbrev main_cst_13 : Ref sig .tc := ⟨.hbm, 144, rfl⟩
abbrev main_v111 : Ref sig .tc := ⟨.hbm, 145, rfl⟩
abbrev main_v112 : Ref sig .tc := ⟨.hbm, 146, rfl⟩
abbrev main_cst_14 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_15 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_call1_v0 : Ref sig .tc := ⟨.hbm, 166, rfl⟩
abbrev main_call1_v1 : Ref sig .tc := ⟨.hbm, 167, rfl⟩
abbrev main_call1_cst : Ref sig .tc := ⟨.hbm, 168, rfl⟩
abbrev main_call1_v2 : Ref sig .tc := ⟨.hbm, 169, rfl⟩
abbrev main_call1_v3 : Ref sig .tc := ⟨.hbm, 170, rfl⟩
abbrev main_call1_cst_0 : Ref sig .tc := ⟨.hbm, 171, rfl⟩
abbrev main_call1_v4 : Ref sig .tc := ⟨.hbm, 172, rfl⟩
abbrev main_call1_v5 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_16 : Ref sig .tc := ⟨.hbm, 178, rfl⟩
abbrev main_v134 : Ref sig .tc := ⟨.hbm, 179, rfl⟩
abbrev main_v135 : Ref sig .tc := ⟨.hbm, 180, rfl⟩
abbrev main_cst_17 : Ref sig .tc := ⟨.hbm, 181, rfl⟩
abbrev main_v136 : Ref sig .tc := ⟨.hbm, 182, rfl⟩
abbrev main_v137 : Ref sig .tc := ⟨.hbm, 183, rfl⟩
abbrev main_cst_18 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩

abbrev nD : Nat := 1
abbrev τ : Topo := Topo.v7x

variable {F : FTy → Type} [FloatOps F]
-- ==== Proof.Recurrence.lean ====
/- The retention recurrence of one head over the real numbers, and what a run of consecutive rows makes of it: the
   state after the run and each row's output, both in terms of the state before the run. The kernel takes runs of
   128 rows and the reference runs of 64; both are the same recurrence, row by row. -/
module

public import Idealize.ShloMosaic.Lib.Pointwise

@[expose] public section

noncomputable section

namespace Retention

/-- The state of one head before row `t`: it starts at zero, and row `t` scales it by `γ` and adds `kₜ vₜ`. -/
def state (γ : ℝ) (k v : ℕ → ℕ → ℝ) : ℕ → ℕ → ℕ → ℝ
  | 0, _, _ => 0
  | t + 1, d, e => γ * state γ k v t d e + k t d * v t e

/-- Row `t`'s output: its query against the state that holds the row's own key and value. -/
def output (γ : ℝ) (q k v : ℕ → ℕ → ℝ) (t e : ℕ) : ℝ :=
  ∑ d ∈ Finset.range 64, q t d * state γ k v (t + 1) d e

/-- The state `n` rows on: the old state decayed `n` times, and each row's product decayed by the rows after it. -/
theorem state_add (γ : ℝ) (k v : ℕ → ℕ → ℝ) (t n d e : ℕ) :
    state γ k v (t + n) d e = γ ^ n * state γ k v t d e
      + ∑ j ∈ Finset.range n, γ ^ (n - 1 - j) * (k (t + j) d * v (t + j) e) := by
  induction n with
  | zero => simp
  | succ n ih =>
    rw [← Nat.add_assoc, state, ih, Finset.sum_range_succ, mul_add, Finset.mul_sum]
    have h : ∀ j ∈ Finset.range n, γ * (γ ^ (n - 1 - j) * (k (t + j) d * v (t + j) e))
        = γ ^ (n + 1 - 1 - j) * (k (t + j) d * v (t + j) e) := by
      intro j hj
      have hj' := Finset.mem_range.1 hj
      rw [show n + 1 - 1 - j = (n - 1 - j) + 1 by omega, pow_succ]; ring
    rw [Finset.sum_congr rfl h, show n + 1 - 1 - n = 0 by omega]
    ring

/-- A row's output `i` rows into a run: the rows of the run up to it, each weighted by the query's product with its
    key and decayed by the rows between, and the query against the state before the run. -/
theorem output_add (γ : ℝ) (q k v : ℕ → ℕ → ℝ) (t i e : ℕ) :
    output γ q k v (t + i) e
      = ∑ j ∈ Finset.range (i + 1), (∑ d ∈ Finset.range 64, q (t + i) d * k (t + j) d) * γ ^ (i - j) * v (t + j) e
        + γ ^ (i + 1) * ∑ d ∈ Finset.range 64, q (t + i) d * state γ k v t d e := by
  unfold output
  have h1 : ∀ j ∈ Finset.range (i + 1),
      (∑ d ∈ Finset.range 64, q (t + i) d * k (t + j) d) * γ ^ (i - j) * v (t + j) e
        = ∑ d ∈ Finset.range 64, q (t + i) d * (γ ^ (i - j) * (k (t + j) d * v (t + j) e)) := by
    intro j _
    rw [mul_assoc, Finset.sum_mul]
    exact Finset.sum_congr rfl fun d _ => by ring
  rw [Finset.sum_congr rfl h1, Finset.sum_comm, Finset.mul_sum, ← Finset.sum_add_distrib]
  refine Finset.sum_congr rfl fun d _ => ?_
  rw [Nat.add_assoc, state_add, mul_add, Finset.mul_sum, add_comm]
  congr 1
  ring

/-- The same, summing over a whole run of `C` rows with the later rows masked out. -/
theorem output_run (γ : ℝ) (q k v : ℕ → ℕ → ℝ) (t C i e : ℕ) (hi : i < C) :
    output γ q k v (t + i) e
      = ∑ j ∈ Finset.range C, (∑ d ∈ Finset.range 64, q (t + i) d * k (t + j) d)
            * (if j ≤ i then γ ^ (i - j) else 0) * v (t + j) e
        + γ ^ (i + 1) * ∑ d ∈ Finset.range 64, q (t + i) d * state γ k v t d e := by
  rw [output_add]
  congr 1
  have h : ∑ j ∈ Finset.range C, (∑ d ∈ Finset.range 64, q (t + i) d * k (t + j) d)
      * (if j ≤ i then γ ^ (i - j) else 0) * v (t + j) e
      = ∑ j ∈ (Finset.range C).filter (· ≤ i), (∑ d ∈ Finset.range 64, q (t + i) d * k (t + j) d)
          * γ ^ (i - j) * v (t + j) e := by
    rw [Finset.sum_filter]
    refine Finset.sum_congr rfl fun j _ => ?_
    split <;> simp
  rw [h]
  refine Finset.sum_congr ?_ fun _ _ => rfl
  ext j
  simp only [Finset.mem_range, Finset.mem_filter]
  omega

/-- A sum over the 256 lanes that keeps head `h`'s lanes alone. -/
theorem sum_head (f : ℕ → ℝ) (h : ℕ) (hh : h < 4) :
    ∑ l ∈ Finset.range 256, f l * (if l / 64 = h then (1 : ℝ) else 0)
      = ∑ d ∈ Finset.range 64, f (64 * h + d) := by
  have h1 : ∑ l ∈ Finset.range 256, f l * (if l / 64 = h then (1 : ℝ) else 0)
      = ∑ l ∈ (Finset.range 256).filter (fun l => l / 64 = h), f l := by
    rw [Finset.sum_filter]
    refine Finset.sum_congr rfl fun j _ => ?_
    split <;> simp
  rw [h1]
  refine (Finset.sum_bij (fun d _ => 64 * h + d) ?_ ?_ ?_ ?_).symm
  · intro d hd
    simp only [Finset.mem_range, Finset.mem_filter] at hd ⊢
    omega
  · intro a _ b _ hab; omega
  · intro l hl
    simp only [Finset.mem_range, Finset.mem_filter] at hl
    exact ⟨l - 64 * h, Finset.mem_range.2 (by omega), by omega⟩
  · intro _ _; rfl

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The exponential of `n` times the logarithm of a positive number is its `n`-th power. -/
theorem exp_mul_log (γ : ℝ) (hγ : 0 < γ) (n : ℕ) : Real.exp ((n : ℝ) * Real.log γ) = γ ^ n := by
  rw [mul_comm, ← Real.rpow_def_of_pos hγ, Real.rpow_natCast]

end Retention

end
-- ==== Proof.RetUnit.lean ====
/- One unit of the retention kernel: a chunk of 128 rows of one batch. The kernel writes out the same operations eight
   times at every grid point (two chunks, four batches); here they are named once. -/
module

public import proofs.«01_k».proof.Proof.Gen.KernelIdeal.Skeleton
public import proofs.«01_k».proof.Proof.Recurrence

@[expose] public section

set_option maxRecDepth 16384

noncomputable section

namespace Retention

open Cert.KernelIdeal Cert.KernelIdeal.Gen Idealize.ShloMosaic Idealize.ShloMosaic.TcCoe

variable {F : FTy → Type} [FloatOps F] [Named F]

/-! ## The operations of a unit -/

/-- Each lane's position in its head, as the kernel computes it from the lane number. -/
def lanePos : IVec S128x128 32 :=
  remsi (iota .tc S128x128 32 [1] iota_S128x128_d1_w32)
    (broadcast S128x128 (Scalar.select (Scalar.cmpi .eq 64#32 0#32) 1#32 64#32))

/-- The lanes that hold the first half of a head. -/
def firstHalf : IVec S128x128 1 :=
  cmpi .slt
    (select
      (andi
        (xori (cmpi .slt lanePos (broadcast S128x128 0#32))
          (broadcastTo S128x128 (broadcast S128x128
            (Scalar.cmpi .slt (Scalar.select (Scalar.cmpi .eq 64#32 0#32) 1#32 64#32) 0#32)) broadcasts_S128x128_S128x128))
        (cmpi .ne lanePos (broadcast S128x128 0#32)))
      (addi lanePos (broadcast S128x128 (Scalar.select (Scalar.cmpi .eq 64#32 0#32) 1#32 64#32)))
      lanePos)
    (broadcast S128x128 32#32)

/-- The rotary embedding of two heads: the lanes times the cosines plus each head's halves swapped times the sines. -/
def rope (cos sin x : FVec F S128x128 .f32) : FVec F S128x128 .f32 :=
  addf (mulf x cos)
    (mulf (select firstHalf (dynamicRotate 1 96#32 none x rotates_S128x128_d1)
      (dynamicRotate 1 32#32 none x rotates_S128x128_d1)) sin)

/-- A block of a batch's lanes without its unit axis. -/
def lanes (p : FVec F S1x128x128 .f32) : FVec F S128x128 .f32 :=
  shapeCast S128x128 p shapeCasts_S1x128x128_S128x128

/-- The same times one eighth, the queries' scale. -/
def lanesScaled (p : FVec F S1x128x128 .f32) : FVec F S128x128 .f32 :=
  mulf (lanes p) (broadcast S128x128 (Scalar.ofBits .f32 0x3E000000#32))

/-- A unit's queries: its two halves of the lanes scaled, rotated and set side by side. -/
def query (cos sin : FVec F S128x128 .f32) (p p' : FVec F S1x128x128 .f32) : FVec F S128x256 .bf16 :=
  truncf .bf16 (concatenate S128x256 1 [⟨S128x128, rope cos sin (lanesScaled p)⟩,
    ⟨S128x128, rope cos sin (lanesScaled p')⟩] concatenates_S128x128_S128x128_S128x256_d1) bitsLt_bf16_f32

/-- A unit's keys before they are narrowed. -/
def key (cos sin : FVec F S128x128 .f32) (p p' : FVec F S1x128x128 .f32) : FVec F S128x256 .f32 :=
  concatenate S128x256 1 [⟨S128x128, rope cos sin (lanes p)⟩,
    ⟨S128x128, rope cos sin (lanes p')⟩] concatenates_S128x128_S128x128_S128x256_d1

/-- A unit's values. -/
def value (p : FVec F S1x128x256 .f32) : FVec F S128x256 .bf16 :=
  truncf .bf16 (shapeCast S128x256 p shapeCasts_S1x128x256_S128x256) bitsLt_bf16_f32

/-- Keys or values spread over four copies of the chunk, copy `h` masked to head `h`'s lanes. -/
def spread (hm : FVec F S8x256 .bf16) (x : FVec F S128x256 .bf16) : FVec F S512x256 .bf16 :=
  concatenate S512x256 0
    [⟨S128x256, mulf x (broadcastTo S128x256 (extractStridedSlice S1x256 ![0, 0] hm slices_S8x256_o0_0_S1x256) broadcasts_S1x256_S128x256)⟩,
     ⟨S128x256, mulf x (broadcastTo S128x256 (extractStridedSlice S1x256 ![1, 0] hm slices_S8x256_o1_0_S1x256) broadcasts_S1x256_S128x256)⟩,
     ⟨S128x256, mulf x (broadcastTo S128x256 (extractStridedSlice S1x256 ![2, 0] hm slices_S8x256_o2_0_S1x256) broadcasts_S1x256_S128x256)⟩,
     ⟨S128x256, mulf x (broadcastTo S128x256 (extractStridedSlice S1x256 ![3, 0] hm slices_S8x256_o3_0_S1x256) broadcasts_S1x256_S128x256)⟩]
    concatenates_S128x256_S128x256_S128x256_S128x256_S512x256_d0

/-- The decayed scores of a chunk against itself, one copy of the chunk per head. -/
def scores (dec : FVec F S128x512 .f32) (q : FVec F S128x256 .bf16) (kb : FVec F S512x256 .bf16) : FVec F S128x512 .bf16 :=
  truncf .bf16 (mulf (matmul dot_S128x256_S512x256_S128x512_1_1_0_0_n_n none q kb
    (constant S128x512 .f32 0x00000000#32)) dec) bitsLt_bf16_f32

/-- A unit's result: the chunk's own rows by their scores, and the queries against the carried state, decayed. -/
def result (dec : FVec F S128x512 .f32) (ein : FVec F S128x256 .f32) (hm : FVec F S8x256 .bf16)
    (q : FVec F S128x256 .bf16) (k v : FVec F S128x256 .bf16) (st : FVec F S256x256 .f32) : FVec F S128x256 .f32 :=
  addf (matmul dot_S128x512_S512x256_S128x256_1_0_0_1_n_n none (scores dec q (spread hm k)) (spread hm v)
      (constant S128x256 .f32 0x00000000#32))
    (mulf ein (matmul dot_S128x256_S256x256_S128x256_1_0_0_1_n_n none q (truncf .bf16 st bitsLt_bf16_f32)
      (constant S128x256 .f32 0x00000000#32)))

/-- The state after a unit: the carried state decayed over the chunk, and the chunk's decayed keys times its values
    on each head's own block. -/
def carry (eall : FVec F S1x256 .f32) (est : FVec F S128x256 .f32) (mask : FVec F S256x256 .f32)
    (k : FVec F S128x256 .f32) (v : FVec F S128x256 .bf16) (st : FVec F S256x256 .f32) : FVec F S256x256 .f32 :=
  addf (mulf st (broadcastTo S256x256 eall broadcasts_S1x256_S256x256))
    (mulf (matmul dot_S128x256_S128x256_S256x256_0_0_1_1_n_n none (truncf .bf16 (mulf k est) bitsLt_bf16_f32) v
      (constant S256x256 .f32 0x00000000#32)) mask)

/-- Each lane's number. -/
def laneNo : IVec S1x256 32 := iota .tc S1x256 32 [1] iota_S1x256_d1_w32

/-- The decay of row `i` of a chunk since the chunk began, per lane. -/
def decayIn : FVec F S128x256 .f32 :=
  k0_pay12 laneNo (k0_pay8 laneNo k0_pay5 64#32 k0_pay6 k0_pay7 0#32) (k0_pay9 laneNo) k0_pay10

/-- The decay from row `i` of a chunk to the chunk's end, per lane. -/
def decayOut : FVec F S128x256 .f32 :=
  k0_pay13 laneNo (k0_pay8 laneNo k0_pay5 64#32 k0_pay6 k0_pay7 0#32) (k0_pay9 laneNo) k0_pay10

/-- The decay over a whole chunk, per lane. -/
def decayAll : FVec F S1x256 .f32 :=
  k0_pay14 laneNo (k0_pay8 laneNo k0_pay5 64#32 k0_pay6 k0_pay7 0#32) (k0_pay9 laneNo) k0_pay10

/-- The decay between two rows of a chunk, zero above the diagonal, one block per head. -/
def decayRows : FVec F S128x512 .f32 :=
  k0_pay15 (iota .tc S128x128 32 [0] iota_S128x128_d0_w32)

/-! ## A unit's loads -/

/-- 128 lanes of a chunk of one batch, from lane `o` on. -/
def part128 (x : Vec F S4x256x1024 .f32) (b ci o : ℕ) (hb : b < 4) (hc : ci < 2) (ho : o ≤ 896) : FVec F S1x128x128 .f32 :=
  View.ld x (Rect.unit ![b, 128 * ci, o] S1x128x128.size (by
    intro a; fin_cases a <;> simp [S1x128x128, S4x256x1024] <;> omega))

/-- 256 lanes of a chunk of one batch, from lane `o` on. -/
def part256 (x : Vec F S4x256x1024 .f32) (b ci o : ℕ) (hb : b < 4) (hc : ci < 2) (ho : o ≤ 768) : FVec F S1x128x256 .f32 :=
  View.ld x (Rect.unit ![b, 128 * ci, o] S1x128x256.size (by
    intro a; fin_cases a <;> simp [S1x128x256, S4x256x1024] <;> omega))

/-- A chunk's rows of a table of cosines or sines. -/
def table (x : Vec F S256x128 .f32) (ci : ℕ) (hc : ci < 2) : FVec F S128x128 .f32 :=
  shapeCast S128x128 (View.ld x (Rect.unit ![128 * ci, 0] S128x128.size (by
    intro a; fin_cases a <;> simp [S128x128, S256x128] <;> omega)) : Vec F S128x128 .f32) shapeCasts_S128x128_S128x128

/-- The carried state of one batch. -/
def stateOf (x : Vec F S4x256x256 .f32) (b : ℕ) (hb : b < 4) : FVec F S256x256 .f32 :=
  shapeCast S256x256 (View.ld x (Rect.unit ![b, 0, 0] S1x256x256.size (by
    intro a; fin_cases a <;> simp [S1x256x256, S4x256x256] <;> omega)) : Vec F S1x256x256 .f32) shapeCasts_S1x256x256_S256x256

/-- The heads' lane masks, as the kernel loads them. -/
def headMask (x : Vec F S8x256 .f32) : FVec F S8x256 .bf16 :=
  k0_pay17 (View.ld x (Rect.unit ![0, 0] S8x256.size (by intro a; fin_cases a <;> simp [S8x256])))

/-- The mask of the pairs of lanes in one head, as the kernel loads it. -/
def blockMask (x : Vec F S256x256 .bf16) : FVec F S256x256 .f32 :=
  k0_pay16 (View.ld x (Rect.unit ![0, 0] S256x256.size (by intro a; fin_cases a <;> simp [S256x256])))

variable (x0 : Vec F S4x256x1024 .f32) (x1 x2 : Vec F S256x128 .f32) (x3 : Vec F S256x256 .bf16) (x4 : Vec F S8x256 .f32)

/-- The queries of chunk `ci` of batch `b`. -/
def queryOf (b ci : ℕ) (hb : b < 4) (hc : ci < 2) : FVec F S128x256 .bf16 :=
  query (table x1 ci hc) (table x2 ci hc) (part128 x0 b ci 0 hb hc (by omega)) (part128 x0 b ci 128 hb hc (by omega))

/-- The keys of chunk `ci` of batch `b`. -/
def keyOf (b ci : ℕ) (hb : b < 4) (hc : ci < 2) : FVec F S128x256 .f32 :=
  key (table x1 ci hc) (table x2 ci hc) (part128 x0 b ci 256 hb hc (by omega)) (part128 x0 b ci 384 hb hc (by omega))

/-- The values of chunk `ci` of batch `b`. -/
def valueOf (b ci : ℕ) (hb : b < 4) (hc : ci < 2) : FVec F S128x256 .bf16 :=
  value (part256 x0 b ci 512 hb hc (by omega))

/-- The result rows of chunk `ci` of batch `b` from the state before it. -/
def resultOf (b ci : ℕ) (hb : b < 4) (hc : ci < 2) (st : FVec F S256x256 .f32) : FVec F S128x256 .f32 :=
  result decayRows decayIn (headMask x4) (queryOf x0 x1 x2 b ci hb hc)
    (truncf .bf16 (keyOf x0 x1 x2 b ci hb hc) bitsLt_bf16_f32) (valueOf x0 b ci hb hc) st

/-- The state after chunk `ci` of batch `b` from the state before it. -/
def carryOf (b ci : ℕ) (hb : b < 4) (hc : ci < 2) (st : FVec F S256x256 .f32) : FVec F S256x256 .f32 :=
  carry decayAll decayOut (blockMask x3) (keyOf x0 x1 x2 b ci hb hc) (valueOf x0 b ci hb hc) st

end Retention

end
-- ==== Proof.RetOpen.lean ====
/- What a grid point of the retention kernel stores, as the units' results and states, in closed form at an index. -/
module

public import proofs.«01_k».proof.Proof.Gen.KernelIdeal.Frame
public import proofs.«01_k».proof.Proof.RetUnit

@[expose] public section

set_option maxRecDepth 65536

noncomputable section

namespace Retention

open Cert.KernelIdeal Cert.KernelIdeal.Gen Idealize.ShloMosaic Idealize.ShloMosaic.TcCoe Idealize.ShloMosaic.Tactic

variable {F : FTy → Type} [FloatOps F] [Named F]
variable (c : Dev nD) (i : grid0.Coords) (a1 : Memref sig .tc .vmem S4x256x1024 .f32) (h1 : a1.IsWhole)
  (a2 : Memref sig .tc .vmem S256x128 .f32) (h2 : a2.IsWhole) (a3 : Memref sig .tc .vmem S256x128 .f32) (h3 : a3.IsWhole)
  (a4 : Memref sig .tc .vmem S256x256 .bf16) (h4 : a4.IsWhole) (a5 : Memref sig .tc .vmem S8x256 .f32) (h5 : a5.IsWhole)
  (a6 : Memref sig .tc .vmem S4x256x256 .f32) (h6 : a6.IsWhole) (a7 : Memref sig .tc .vmem S4x256x256 .f32) (h7 : a7.IsWhole)
  (x0 : Vec F S4x256x1024 .f32) (x1 : Vec F S256x128 .f32) (x2 : Vec F S256x128 .f32) (x3 : Vec F S256x256 .bf16)
  (x4 : Vec F S8x256 .f32) (xs0 : Vec F S4x256x256 .f32)

/-- The eight stores of a grid point's result, last first, from the four batches' states before the point. -/
def resultPieces (s : ∀ b : ℕ, b < 4 → FVec F S256x256 .f32) : List (View.Piece (Elt F) S4x256x256 .f32) :=
  [⟨Rect.unit ![3, 128, 0] ![1, 128, 256] inb_S4x256x256_S1x128x256_3_128_0,
      shapeCast S1x128x256 (resultOf x0 x1 x2 x4 3 1 (by omega) (by omega) (carryOf x0 x1 x2 x3 3 0 (by omega) (by omega) (s 3 (by omega)))) shapeCasts_S128x256_S1x128x256⟩,
    ⟨Rect.unit ![2, 128, 0] ![1, 128, 256] inb_S4x256x256_S1x128x256_2_128_0,
      shapeCast S1x128x256 (resultOf x0 x1 x2 x4 2 1 (by omega) (by omega) (carryOf x0 x1 x2 x3 2 0 (by omega) (by omega) (s 2 (by omega)))) shapeCasts_S128x256_S1x128x256⟩,
    ⟨Rect.unit ![1, 128, 0] ![1, 128, 256] inb_S4x256x256_S1x128x256_1_128_0,
      shapeCast S1x128x256 (resultOf x0 x1 x2 x4 1 1 (by omega) (by omega) (carryOf x0 x1 x2 x3 1 0 (by omega) (by omega) (s 1 (by omega)))) shapeCasts_S128x256_S1x128x256⟩,
    ⟨Rect.unit ![0, 128, 0] ![1, 128, 256] inb_S4x256x256_S1x128x256_0_128_0,
      shapeCast S1x128x256 (resultOf x0 x1 x2 x4 0 1 (by omega) (by omega) (carryOf x0 x1 x2 x3 0 0 (by omega) (by omega) (s 0 (by omega)))) shapeCasts_S128x256_S1x128x256⟩,
    ⟨Rect.unit ![3, 0, 0] ![1, 128, 256] inb_S4x256x256_S1x128x256_3_0_0,
      shapeCast S1x128x256 (resultOf x0 x1 x2 x4 3 0 (by omega) (by omega) (s 3 (by omega))) shapeCasts_S128x256_S1x128x256⟩,
    ⟨Rect.unit ![2, 0, 0] ![1, 128, 256] inb_S4x256x256_S1x128x256_2_0_0,
      shapeCast S1x128x256 (resultOf x0 x1 x2 x4 2 0 (by omega) (by omega) (s 2 (by omega))) shapeCasts_S128x256_S1x128x256⟩,
    ⟨Rect.unit ![1, 0, 0] ![1, 128, 256] inb_S4x256x256_S1x128x256_1_0_0,
      shapeCast S1x128x256 (resultOf x0 x1 x2 x4 1 0 (by omega) (by omega) (s 1 (by omega))) shapeCasts_S128x256_S1x128x256⟩,
    ⟨Rect.unit ![0, 0, 0] ![1, 128, 256] inb_S4x256x256_S1x128x256_0_0_0,
      shapeCast S1x128x256 (resultOf x0 x1 x2 x4 0 0 (by omega) (by omega) (s 0 (by omega))) shapeCasts_S128x256_S1x128x256⟩]

/-- The four stores of the states after a grid point, last first. -/
def carryPieces (s : ∀ b : ℕ, b < 4 → FVec F S256x256 .f32) : List (View.Piece (Elt F) S4x256x256 .f32) :=
  [⟨Rect.unit ![3, 0, 0] ![1, 256, 256] inb_S4x256x256_S1x256x256_3_0_0,
      shapeCast S1x256x256 (carryOf x0 x1 x2 x3 3 1 (by omega) (by omega) (carryOf x0 x1 x2 x3 3 0 (by omega) (by omega) (s 3 (by omega)))) shapeCasts_S256x256_S1x256x256⟩,
    ⟨Rect.unit ![2, 0, 0] ![1, 256, 256] inb_S4x256x256_S1x256x256_2_0_0,
      shapeCast S1x256x256 (carryOf x0 x1 x2 x3 2 1 (by omega) (by omega) (carryOf x0 x1 x2 x3 2 0 (by omega) (by omega) (s 2 (by omega)))) shapeCasts_S256x256_S1x256x256⟩,
    ⟨Rect.unit ![1, 0, 0] ![1, 256, 256] inb_S4x256x256_S1x256x256_1_0_0,
      shapeCast S1x256x256 (carryOf x0 x1 x2 x3 1 1 (by omega) (by omega) (carryOf x0 x1 x2 x3 1 0 (by omega) (by omega) (s 1 (by omega)))) shapeCasts_S256x256_S1x256x256⟩,
    ⟨Rect.unit ![0, 0, 0] ![1, 256, 256] inb_S4x256x256_S1x256x256_0_0_0,
      shapeCast S1x256x256 (carryOf x0 x1 x2 x3 0 1 (by omega) (by omega) (carryOf x0 x1 x2 x3 0 0 (by omega) (by omega) (s 0 (by omega)))) shapeCasts_S256x256_S1x256x256⟩]

/-- The result pieces of a later grid point. -/
theorem result_rawB (hc0 : ¬cond0_0 i) : (kernelRun0_B c i a1 h1 a2 h2 a3 h3 a4 h4 a5 h5 a6 h6 a7 h7 hc0 x0 x1 x2 x3 x4 xs0).1
    = resultPieces (a1.view.read (Elt F) (h1.unread x0)) (a2.view.read (Elt F) (h2.unread x1)) (a3.view.read (Elt F) (h3.unread x2))
      (a4.view.read (Elt F) (h4.unread x3)) (a5.view.read (Elt F) (h5.unread x4))
      (stateOf (a7.view.read (Elt F) (h7.unread xs0))) := by sl_kernel_rfl

/-- The state pieces of a later grid point. -/
theorem carry_rawB (hc0 : ¬cond0_0 i) : (kernelRun0_B c i a1 h1 a2 h2 a3 h3 a4 h4 a5 h5 a6 h6 a7 h7 hc0 x0 x1 x2 x3 x4 xs0).2.1
    = carryPieces (a1.view.read (Elt F) (h1.unread x0)) (a2.view.read (Elt F) (h2.unread x1)) (a3.view.read (Elt F) (h3.unread x2))
      (a4.view.read (Elt F) (h4.unread x3)) (stateOf (a7.view.read (Elt F) (h7.unread xs0))) := by sl_kernel_rfl

/-- The result pieces of the first grid point. -/
theorem result_rawA (hc0 : cond0_0 i) : (kernelRun0_A c i a1 h1 a2 h2 a3 h3 a4 h4 a5 h5 a6 h6 a7 h7 hc0 x0 x1 x2 x3 x4).1
    = resultPieces (a1.view.read (Elt F) (h1.unread x0)) (a2.view.read (Elt F) (h2.unread x1)) (a3.view.read (Elt F) (h3.unread x2))
      (a4.view.read (Elt F) (h4.unread x3)) (a5.view.read (Elt F) (h5.unread x4))
      (stateOf (a7.view.read (Elt F) (a7.view.writes (Elt F) a7.view.junk
        [⟨Rect.unit ![0, 0, 0] ![4, 256, 256] inb_S4x256x256_S4x256x256_0_0_0, k0_pay4⟩]))) := by sl_kernel_rfl

/-- The state pieces of the first grid point. -/
theorem carry_rawA (hc0 : cond0_0 i) : (kernelRun0_A c i a1 h1 a2 h2 a3 h3 a4 h4 a5 h5 a6 h6 a7 h7 hc0 x0 x1 x2 x3 x4).2.1
    = carryPieces (a1.view.read (Elt F) (h1.unread x0)) (a2.view.read (Elt F) (h2.unread x1)) (a3.view.read (Elt F) (h3.unread x2))
      (a4.view.read (Elt F) (h4.unread x3)) (stateOf (a7.view.read (Elt F) (a7.view.writes (Elt F) a7.view.junk
        [⟨Rect.unit ![0, 0, 0] ![4, 256, 256] inb_S4x256x256_S4x256x256_0_0_0, k0_pay4⟩]))) ++ [⟨Rect.unit ![0, 0, 0] ![4, 256, 256] inb_S4x256x256_S4x256x256_0_0_0, k0_pay4⟩] := by sl_kernel_rfl

/-- The state a chunk starts from: the point's, or the one after the point's first chunk. -/
def stateBefore (s : ∀ b : ℕ, b < 4 → FVec F S256x256 .f32) (b : ℕ) (hb : b < 4) : ℕ → FVec F S256x256 .f32
  | 0 => s b hb
  | _ + 1 => carryOf x0 x1 x2 x3 b 0 hb (by omega) (s b hb)

/-- What a grid point leaves in its block of the result, by batch, row and lane. -/
def pointResult (s : ∀ b : ℕ, b < 4 → FVec F S256x256 .f32) : Vec F S4x256x256 .f32 := fun y =>
  resultOf x0 x1 x2 x4 (y 0).val ((y 1).val / 128) (y 0).isLt
    (by have h : (y 1).val < 256 := (y 1).isLt; omega)
    (stateBefore x0 x1 x2 x3 s (y 0).val (y 0).isLt ((y 1).val / 128))
    (ix2 ⟨(y 1).val % 128, Nat.mod_lt _ (by omega)⟩ ⟨(y 2).val, (y 2).isLt⟩)

/-- What a grid point leaves in the carried states, by batch and lanes. -/
def pointState (s : ∀ b : ℕ, b < 4 → FVec F S256x256 .f32) : Vec F S4x256x256 .f32 := fun y =>
  carryOf x0 x1 x2 x3 (y 0).val 1 (y 0).isLt (by omega)
    (stateBefore x0 x1 x2 x3 s (y 0).val (y 0).isLt 1) (ix2 ⟨(y 1).val, (y 1).isLt⟩ ⟨(y 2).val, (y 2).isLt⟩)

/-- An entry of a grid point's result lies in one piece. -/
theorem pointResult_at (s : ∀ b : ℕ, b < 4 → FVec F S256x256 .f32) (b ci : ℕ) (hb : b < 4) (hc : ci < 2) (j : Fin 128)
    (l : Fin 256) (y : S4x256x256.Idx) (h0 : (y 0).val = b) (h1 : (y 1).val = 128 * ci + j.val) (h2 : (y 2).val = l.val) :
    pointResult x0 x1 x2 x3 x4 s y
      = resultOf x0 x1 x2 x4 b ci hb hc (stateBefore x0 x1 x2 x3 s b hb ci) (ix2 j l) := by
  have hd : (y 1).val / 128 = ci := by omega
  have hr : (y 1).val % 128 = j.val := by omega
  subst h0
  subst hd
  unfold pointResult
  congr 1
  exact congrArg₂ ix2 (Fin.ext hr) (Fin.ext h2)

/-- An entry of a grid point's state lies in one piece. -/
theorem pointState_at (s : ∀ b : ℕ, b < 4 → FVec F S256x256 .f32) (b : ℕ) (hb : b < 4) (j : Fin 256)
    (l : Fin 256) (y : S4x256x256.Idx) (h0 : (y 0).val = b) (h1 : (y 1).val = j.val) (h2 : (y 2).val = l.val) :
    pointState x0 x1 x2 x3 s y
      = carryOf x0 x1 x2 x3 b 1 hb (by omega) (stateBefore x0 x1 x2 x3 s b hb 1) (ix2 j l) := by
  subst h0
  unfold pointState
  congr 1
  exact congrArg₂ ix2 (Fin.ext h1) (Fin.ext h2)

/-- One piece of the result. -/
theorem result_piece (s : ∀ b : ℕ, b < 4 → FVec F S256x256 .f32) (b ci : ℕ) (hb : b < 4) (hc : ci < 2)
    (inb : ∀ a, (![b, 128 * ci, 0] : Fin 3 → ℕ) a + (![1, 128, 256] : Fin 3 → ℕ) a ≤ S4x256x256.size a)
    (y : (Rect.unit (s := S4x256x256) ![b, 128 * ci, 0] ![1, 128, 256] inb).shape.Idx) :
    (shapeCast S1x128x256 (resultOf x0 x1 x2 x4 b ci hb hc (stateBefore x0 x1 x2 x3 s b hb ci))
      shapeCasts_S128x256_S1x128x256 : FVec F S1x128x256 .f32) y
      = pointResult x0 x1 x2 x3 x4 s ((Rect.unit (s := S4x256x256) ![b, 128 * ci, 0] ![1, 128, 256] inb).emb y) := by
  change S1x128x256.Idx at y
  idx_vars y
  refine Eq.trans ?_ (pointResult_at _ _ _ _ _ s b ci hb hc y1 y2 _ ?_ ?_ ?_).symm
  · pointwise []
  · have := y0.isLt
    show b + 1 * y0.val = b
    omega
  · show 128 * ci + 1 * y1.val = _
    omega
  · show 0 + 1 * y2.val = _
    omega

/-- One piece of the state. -/
theorem state_piece (s : ∀ b : ℕ, b < 4 → FVec F S256x256 .f32) (b : ℕ) (hb : b < 4)
    (inb : ∀ a, (![b, 0, 0] : Fin 3 → ℕ) a + (![1, 256, 256] : Fin 3 → ℕ) a ≤ S4x256x256.size a)
    (y : (Rect.unit (s := S4x256x256) ![b, 0, 0] ![1, 256, 256] inb).shape.Idx) :
    (shapeCast S1x256x256 (carryOf x0 x1 x2 x3 b 1 hb (by omega) (stateBefore x0 x1 x2 x3 s b hb 1))
      shapeCasts_S256x256_S1x256x256 : FVec F S1x256x256 .f32) y
      = pointState x0 x1 x2 x3 s ((Rect.unit (s := S4x256x256) ![b, 0, 0] ![1, 256, 256] inb).emb y) := by
  change S1x256x256.Idx at y
  idx_vars y
  refine Eq.trans ?_ (pointState_at _ _ _ _ s b hb y1 y2 _ ?_ ?_ ?_).symm
  · pointwise []
  · have := y0.isLt
    show b + 1 * y0.val = b
    omega
  · show 0 + 1 * y1.val = _
    omega
  · show 0 + 1 * y2.val = _
    omega

/-- The result's pieces make the result. -/
theorem resultPieces_at (s : ∀ b : ℕ, b < 4 → FVec F S256x256 .f32) :
    ∀ p ∈ resultPieces x0 x1 x2 x3 x4 s, ∀ x : p.1.shape.Idx, p.2 x = pointResult x0 x1 x2 x3 x4 s (p.1.emb x) := by
  intro p hp
  simp only [resultPieces, List.mem_cons, List.not_mem_nil, or_false] at hp
  rcases hp with rfl | rfl | rfl | rfl | rfl | rfl | rfl | rfl
  · exact result_piece x0 x1 x2 x3 x4 s 3 1 (by omega) (by omega) inb_S4x256x256_S1x128x256_3_128_0
  · exact result_piece x0 x1 x2 x3 x4 s 2 1 (by omega) (by omega) inb_S4x256x256_S1x128x256_2_128_0
  · exact result_piece x0 x1 x2 x3 x4 s 1 1 (by omega) (by omega) inb_S4x256x256_S1x128x256_1_128_0
  · exact result_piece x0 x1 x2 x3 x4 s 0 1 (by omega) (by omega) inb_S4x256x256_S1x128x256_0_128_0
  · exact result_piece x0 x1 x2 x3 x4 s 3 0 (by omega) (by omega) inb_S4x256x256_S1x128x256_3_0_0
  · exact result_piece x0 x1 x2 x3 x4 s 2 0 (by omega) (by omega) inb_S4x256x256_S1x128x256_2_0_0
  · exact result_piece x0 x1 x2 x3 x4 s 1 0 (by omega) (by omega) inb_S4x256x256_S1x128x256_1_0_0
  · exact result_piece x0 x1 x2 x3 x4 s 0 0 (by omega) (by omega) inb_S4x256x256_S1x128x256_0_0_0

/-- The state's pieces make the state. -/
theorem carryPieces_at (s : ∀ b : ℕ, b < 4 → FVec F S256x256 .f32) :
    ∀ p ∈ carryPieces x0 x1 x2 x3 s, ∀ x : p.1.shape.Idx, p.2 x = pointState x0 x1 x2 x3 s (p.1.emb x) := by
  intro p hp
  simp only [carryPieces, List.mem_cons, List.not_mem_nil, or_false] at hp
  rcases hp with rfl | rfl | rfl | rfl
  · exact state_piece x0 x1 x2 x3 s 3 (by omega) inb_S4x256x256_S1x256x256_3_0_0
  · exact state_piece x0 x1 x2 x3 s 2 (by omega) inb_S4x256x256_S1x256x256_2_0_0
  · exact state_piece x0 x1 x2 x3 s 1 (by omega) inb_S4x256x256_S1x256x256_1_0_0
  · exact state_piece x0 x1 x2 x3 s 0 (by omega) inb_S4x256x256_S1x256x256_0_0_0

/-- Reading the point's stores of its result: they cover the block. -/
theorem read_results (v : View sig .tc .vmem S4x256x256 .f32)
    (f : v.ty.Contents (Elt F)) (s : ∀ b : ℕ, b < 4 → FVec F S256x256 .f32) :
    v.read (Elt F) (v.writes (Elt F) f (resultPieces x0 x1 x2 x3 x4 s)) = pointResult x0 x1 x2 x3 x4 s :=
  funext fun y => View.read_writes_apply_of_pieces v f _ _ (resultPieces_at x0 x1 x2 x3 x4 s) y
    (View.cover_of_tiledL (resultPieces x0 x1 x2 x3 x4 s) S1x128x256.size (by sl_kernel_rfl) y)

/-- Reading the point's stores of the states: they cover the buffer. -/
theorem read_carries (v : View sig .tc .vmem S4x256x256 .f32)
    (f : v.ty.Contents (Elt F)) (s : ∀ b : ℕ, b < 4 → FVec F S256x256 .f32) :
    v.read (Elt F) (v.writes (Elt F) f (carryPieces x0 x1 x2 x3 s)) = pointState x0 x1 x2 x3 s :=
  funext fun y => View.read_writes_apply_of_pieces v f _ _ (carryPieces_at x0 x1 x2 x3 s) y
    (View.cover_of_tiledL (carryPieces x0 x1 x2 x3 s) S1x256x256.size (by sl_kernel_rfl) y)

/-- The carried states at the first point, as its zeroing store leaves them. -/
theorem read_zeroed (v : View sig .tc .vmem S4x256x256 .f32)
    (f : v.ty.Contents (Elt F)) :
    v.read (Elt F) (v.writes (Elt F) f [⟨Rect.unit ![0, 0, 0] ![4, 256, 256] inb_S4x256x256_S4x256x256_0_0_0, k0_pay4⟩])
      = (k0_pay4 : FVec F S4x256x256 .f32) :=
  funext fun y => View.read_writes_apply_of_pieces v f _ _
    (by
      intro p hp x
      simp only [List.mem_cons, List.not_mem_nil, or_false] at hp
      subst hp
      show k0_pay4 x = k0_pay4 ((Rect.unit (s := S4x256x256) ![0, 0, 0] ![4, 256, 256] inb_S4x256x256_S4x256x256_0_0_0).emb x)
      congr 1
      funext a
      apply Fin.ext
      rw [Rect.emb_apply]
      fin_cases a <;> simp)
    y (View.cover_of_tiledL _ S4x256x256.size (by sl_kernel_rfl) y)

/-- What a later grid point writes. -/
theorem out_B (hc0 : ¬cond0_0 i) : out0_B_5 c i a1 h1 a2 h2 a3 h3 a4 h4 a5 h5 a6 h6 a7 h7 hc0 x0 x1 x2 x3 x4 xs0
    = pointResult x0 x1 x2 x3 x4 (stateOf xs0) := by
  unfold out0_B_5
  rw [result_rawB, read_results, h1.read_unread, h2.read_unread, h3.read_unread, h4.read_unread, h5.read_unread, h7.read_unread]

/-- What a later grid point carries on. -/
theorem state_B (hc0 : ¬cond0_0 i) : sout0_B_0 c i a1 h1 a2 h2 a3 h3 a4 h4 a5 h5 a6 h6 a7 h7 hc0 x0 x1 x2 x3 x4 xs0
    = pointState x0 x1 x2 x3 (stateOf xs0) := by
  unfold sout0_B_0
  rw [carry_rawB, read_carries, h1.read_unread, h2.read_unread, h3.read_unread, h4.read_unread, h7.read_unread]

/-- What the first grid point writes. -/
theorem out_A (hc0 : cond0_0 i) : out0_A_5 c i a1 h1 a2 h2 a3 h3 a4 h4 a5 h5 a6 h6 a7 h7 hc0 x0 x1 x2 x3 x4
    = pointResult x0 x1 x2 x3 x4 (stateOf k0_pay4) := by
  unfold out0_A_5
  rw [result_rawA, read_results, h1.read_unread, h2.read_unread, h3.read_unread, h4.read_unread, h5.read_unread, read_zeroed]

/-- What the first grid point carries on. -/
theorem state_A (hc0 : cond0_0 i) : sout0_A_0 c i a1 h1 a2 h2 a3 h3 a4 h4 a5 h5 a6 h6 a7 h7 hc0 x0 x1 x2 x3 x4
    = pointState x0 x1 x2 x3 (stateOf k0_pay4) := by
  unfold sout0_A_0
  rw [carry_rawA, View.writes_append, read_carries, h1.read_unread, h2.read_unread, h3.read_unread, h4.read_unread, read_zeroed]

end Retention

end
-- ==== Proof.RetLanes.lean ====
/- The retention kernel's unit read at an index, over the extended reals: the rotary embedding, the decay tables. -/
module

public import proofs.«01_k».proof.Proof.RetUnit
public import Idealize.ShloMosaic.Lib.Tactic

@[expose] public section

set_option maxRecDepth 65536

noncomputable section

namespace Retention

open Cert.KernelIdeal Cert.KernelIdeal.Gen Idealize.ShloMosaic Idealize.ShloMosaic.TcCoe Idealize.ShloMosaic.Tactic

/-- The first half of each head's lanes is the lanes below 32 of each 64. -/
theorem firstHalf_at (j l : Fin 128) : firstHalf (ix2 j l) = if l.val % 64 < 32 then 1#1 else 0#1 := by
  unfold firstHalf lanePos
  pointwise []
  revert l
  decide +kernel

/-- An entry of a rotated half. -/
theorem rope_at (cos sin x : FVec Ideal S128x128 .f32) (j l : Fin 128) :
    rope cos sin x (ix2 j l) = x (ix2 j l) * cos (ix2 j l)
      + (if h : l.val % 64 < 32 then x (ix2 j ⟨l.val + 32, by omega⟩) else x (ix2 j ⟨l.val - 32, by omega⟩)) * sin (ix2 j l) := by
  unfold rope
  pointwise []
  rw [firstHalf_at]
  by_cases h : l.val % 64 < 32
  · rw [if_pos h, dif_pos h, ValueIdx.select_one]
    have e : (l.val + 128 - 96) % 128 = l.val + 32 := by have := l.isLt; omega
    simp only [e]
  · rw [if_neg h, dif_neg h, ValueIdx.select_zero]
    have e : (l.val + 128 - 32) % 128 = l.val - 32 := by have := l.isLt; omega
    simp only [e]

/-! ## The rotary embedding of real rows -/

/-- The rotary embedding of a row at lane `l`: heads of 64 lanes, the halves of a head rotated into each other. -/
def rotary (x c s : ℕ → ℝ) (l : ℕ) : ℝ :=
  x l * c (l % 32) + if l % 64 < 32 then x (l + 32) * -s (l % 32) else x (l - 32) * s (l % 32)

/-- A grid point's blocks hold real numbers: rows `base …` of the projections, of the cosines and of the signed sines. -/
structure Block (x0 : Vec Ideal S4x256x1024 .f32) (x1 x2 : Vec Ideal S256x128 .f32) (X : ℕ → ℕ → ℕ → ℝ) (C S : ℕ → ℕ → ℝ)
    (base : ℕ) : Prop where
  x : ∀ (b : Fin 4) (r : Fin 256) (l : Fin 1024), x0 (ix3 b r l) = ((X b (base + r) l : ℝ) : EReal)
  c : ∀ (r : Fin 256) (l : Fin 128), x1 (ix2 r l) = ((C (base + r) (l % 32) : ℝ) : EReal)
  s : ∀ (r : Fin 256) (l : Fin 128), x2 (ix2 r l)
    = ((if l.val % 64 < 32 then -S (base + r) (l % 32) else S (base + r) (l % 32) : ℝ) : EReal)

/-- The constant one eighth. -/
theorem eighth : Ideal.ofBits .f32 1040187392#32 = ((1 / 8 : ℝ) : EReal) := by
  simp [Ideal.ofBits, Ideal.ieee, -EReal.coe_mul]; norm_num

variable {x0 : Vec Ideal S4x256x1024 .f32} {x1 x2 : Vec Ideal S256x128 .f32} {x3 : Vec Ideal S256x256 .bf16}
  {x4 : Vec Ideal S8x256 .f32} {X : ℕ → ℕ → ℕ → ℝ} {C S : ℕ → ℕ → ℝ} {base : ℕ}

/-- An entry of a unit's queries. -/
theorem queryOf_at (H : Block x0 x1 x2 X C S base) (b ci : ℕ) (hb : b < 4) (hc : ci < 2) (j : Fin 128) (l : Fin 256) :
    queryOf x0 x1 x2 b ci hb hc (ix2 j l)
      = ((rotary (fun n => X b (base + 128 * ci + j) n * (1 / 8)) (C (base + 128 * ci + j)) (S (base + 128 * ci + j)) l : ℝ) : EReal) := by
  unfold queryOf query table lanesScaled lanes part128
  pointwise [rope_at]
  simp only [H.x, H.c, H.s, eighth, ← EReal.coe_mul, ← Nat.add_assoc]
  have hl := l.isLt
  by_cases h : l.val < 128
  · by_cases h' : l.val % 64 < 32
    · simp only [h, h', dite_true, if_true, ← EReal.coe_mul, ← EReal.coe_add]
      simp only [rotary, h', if_true]
    · simp only [h, h', dite_true, dite_false, if_false, ← EReal.coe_mul, ← EReal.coe_add]
      simp only [rotary, h', if_false]
  · have e1 : (l.val - 128) % 64 = l.val % 64 := by omega
    have e2 : (l.val - 128) % 32 = l.val % 32 := by omega
    have e3 : 128 + (l.val - 128) = l.val := by omega
    by_cases h' : l.val % 64 < 32
    · simp only [h, h', e1, e2, e3, dite_true, dite_false, if_true, ← EReal.coe_mul, ← EReal.coe_add]
      simp only [rotary, h', if_true]
    · have e5 : 128 + (l.val - 128 - 32) = l.val - 32 := by omega
      simp only [h, h', e1, e2, e3, e5, dite_false, if_false, ← EReal.coe_mul, ← EReal.coe_add]
      simp only [rotary, h', if_false]

/-- An entry of a unit's keys. -/
theorem keyOf_at (H : Block x0 x1 x2 X C S base) (b ci : ℕ) (hb : b < 4) (hc : ci < 2) (j : Fin 128) (l : Fin 256) :
    keyOf x0 x1 x2 b ci hb hc (ix2 j l)
      = ((rotary (fun n => X b (base + 128 * ci + j) (256 + n)) (C (base + 128 * ci + j)) (S (base + 128 * ci + j)) l : ℝ) : EReal) := by
  unfold keyOf key table lanes part128
  pointwise [rope_at]
  simp only [H.x, H.c, H.s, ← EReal.coe_mul, ← Nat.add_assoc]
  have hl := l.isLt
  by_cases h : l.val < 128
  · by_cases h' : l.val % 64 < 32
    · simp only [h, h', dite_true, if_true, ← EReal.coe_mul, ← EReal.coe_add]
      simp only [rotary, h', if_true, ← Nat.add_assoc]
    · have e5 : 256 + (l.val - 32) = 256 + l.val - 32 := by omega
      simp only [h, h', dite_true, dite_false, if_false, ← EReal.coe_mul, ← EReal.coe_add]
      simp only [rotary, h', if_false, e5]
  · have e1 : (l.val - 128) % 64 = l.val % 64 := by omega
    have e2 : (l.val - 128) % 32 = l.val % 32 := by omega
    have e3 : 384 + (l.val - 128) = 256 + l.val := by omega
    by_cases h' : l.val % 64 < 32
    · simp only [h, h', e1, e2, e3, dite_true, dite_false, if_true, ← EReal.coe_mul, ← EReal.coe_add]
      simp only [rotary, h', if_true, ← Nat.add_assoc]
    · have e5 : 384 + (l.val - 128 - 32) = 256 + (l.val - 32) := by omega
      simp only [h, h', e1, e2, e3, e5, dite_false, if_false, ← EReal.coe_mul, ← EReal.coe_add]
      simp only [rotary, h', if_false]

/-- An entry of a unit's values. -/
theorem valueOf_at (H : Block x0 x1 x2 X C S base) (b ci : ℕ) (hb : b < 4) (hc : ci < 2) (j : Fin 128) (l : Fin 256) :
    valueOf x0 b ci hb hc (ix2 j l) = ((X b (base + 128 * ci + j) (512 + l) : ℝ) : EReal) := by
  unfold valueOf value part256
  pointwise []
  simp only [H.x, ← Nat.add_assoc]

/-! ## The decays -/

/-- Each lane's head, as the kernel computes it: the lane number divided by 64, rounded down. -/
def laneHead : IVec S1x256 32 :=
  select (andi
      (cmpi .ne (subi (extui 32 (cmpi .sgt laneNo (broadcast S1x256 0#32)) natLt_1_32)
          (extui 32 (cmpi .slt laneNo (broadcast S1x256 0#32)) natLt_1_32))
        (broadcast S1x256 (Scalar.subi (Scalar.extui (Scalar.cmpi .sgt 64#32 0#32)) (Scalar.extui (Scalar.cmpi .slt 64#32 0#32)))))
      (cmpi .ne (remsi laneNo (broadcast S1x256 64#32)) (broadcast S1x256 0#32)))
    (subi (divsi laneNo (broadcast S1x256 64#32)) (broadcast S1x256 1#32))
    (divsi laneNo (broadcast S1x256 64#32))

/-- Each lane's logarithm of its head's decay. -/
def laneLog : FVec Ideal S1x256 .f32 :=
  select (cmpi .eq laneHead (broadcast S1x256 3#32)) (broadcast S1x256 (Named.named κ "log_gamma_3" 0xBB80402B#32))
    (select (cmpi .eq laneHead (broadcast S1x256 2#32)) (broadcast S1x256 (Named.named κ "log_gamma_2" 0xBC0080AC#32))
      (select (cmpi .eq laneHead (broadcast S1x256 1#32)) (broadcast S1x256 (Named.named κ "log_gamma_1" 0xBC8102B3#32))
        (select (cmpi .eq laneHead (broadcast S1x256 0#32)) (broadcast S1x256 (Named.named κ "log_gamma_0" 0xBD020AEC#32))
          (broadcast S1x256 (Scalar.ofBits .f32 0x00000000#32)))))

/-- The decay from a chunk's start, written as one expression. -/
theorem decayIn_eq : (decayIn : FVec Ideal S128x256 .f32) =
    exp (mulf (broadcastTo S128x256 (sitofp .f32 (addi (iota .tc S128x1 32 [0] iota_S128x1_d0_w32) (broadcast S128x1 1#32)) : FVec Ideal S128x1 .f32)
        broadcasts_S128x1_S128x256) (broadcastTo S128x256 laneLog broadcasts_S1x256_S128x256)) := by
  sl_kernel_rfl

/-- The decay to a chunk's end, written as one expression. -/
theorem decayOut_eq : (decayOut : FVec Ideal S128x256 .f32) =
    exp (mulf (broadcastTo S128x256 (sitofp .f32 (subi (broadcast S128x1 127#32) (iota .tc S128x1 32 [0] iota_S128x1_d0_w32)) : FVec Ideal S128x1 .f32)
        broadcasts_S128x1_S128x256) (broadcastTo S128x256 laneLog broadcasts_S1x256_S128x256)) := by
  sl_kernel_rfl

/-- The decay over a chunk, written as one expression. -/
theorem decayAll_eq : (decayAll : FVec Ideal S1x256 .f32) =
    exp (mulf (broadcast S1x256 (Scalar.ofBits .f32 0x43000000#32)) laneLog) := by
  sl_kernel_rfl

/-- The head of a lane. -/
theorem laneHead_at (l : Fin 256) : laneHead (ix2 (0 : Fin 1) l) = BitVec.ofNat 32 (l.val / 64) := by
  unfold laneHead laneNo
  pointwise []
  revert l
  decide +kernel

/-- Head `h`'s decay per row. -/
def gamma (h : ℕ) : ℝ := 1 - 1 / 2 ^ (5 + h)

/-- A head's decay is positive. -/
theorem gamma_pos (h : ℕ) : 0 < gamma h := by
  unfold gamma
  have h1 : (1 : ℝ) < 2 ^ (5 + h) := one_lt_pow₀ (by norm_num) (by omega)
  have h2 : 1 / (2 : ℝ) ^ (5 + h) < 1 := by rw [div_lt_one (by positivity)]; exact h1
  linarith

/-- The first head's logarithm. -/
theorem named_0 : Named.named (F := Ideal) κ "log_gamma_0" (φ := .f32) 0xBD020AEC#32 = ((Real.log (gamma 0) : ℝ) : EReal) := by
  rw [show gamma 0 = 31 / 32 by norm_num [gamma]]; rfl

/-- The second head's logarithm. -/
theorem named_1 : Named.named (F := Ideal) κ "log_gamma_1" (φ := .f32) 0xBC8102B3#32 = ((Real.log (gamma 1) : ℝ) : EReal) := by
  rw [show gamma 1 = 63 / 64 by norm_num [gamma]]; rfl

/-- The third head's logarithm. -/
theorem named_2 : Named.named (F := Ideal) κ "log_gamma_2" (φ := .f32) 0xBC0080AC#32 = ((Real.log (gamma 2) : ℝ) : EReal) := by
  rw [show gamma 2 = 127 / 128 by norm_num [gamma]]; rfl

/-- The fourth head's logarithm. -/
theorem named_3 : Named.named (F := Ideal) κ "log_gamma_3" (φ := .f32) 0xBB80402B#32 = ((Real.log (gamma 3) : ℝ) : EReal) := by
  rw [show gamma 3 = 255 / 256 by norm_num [gamma]]; rfl

/-- The logarithm of a lane's head. -/
theorem laneLog_at (l : Fin 256) : laneLog (ix2 (0 : Fin 1) l) = ((Real.log (gamma (l.val / 64)) : ℝ) : EReal) := by
  unfold laneLog
  pointwise [laneHead_at, named_0, named_1, named_2, named_3]
  have h : l.val / 64 = 0 ∨ l.val / 64 = 1 ∨ l.val / 64 = 2 ∨ l.val / 64 = 3 := by have := l.isLt; omega
  rcases h with h | h | h | h <;> rw [h] <;> rfl

/-- The exponential of a multiple of a logarithm is a power. -/
theorem exp_row (n : ℕ) (h : ℕ) :
    Ideal.exp (((n : ℝ) : EReal) * ((Real.log (gamma h) : ℝ) : EReal)) = ((gamma h ^ n : ℝ) : EReal) := by
  rw [← EReal.coe_mul, ← exp_mul_log _ (gamma_pos h)]
  rfl

/-- The decay from a chunk's start to a row. -/
theorem decayIn_at (j : Fin 128) (l : Fin 256) :
    (decayIn : FVec Ideal S128x256 .f32) (ix2 j l) = ((gamma (l.val / 64) ^ (j.val + 1) : ℝ) : EReal) := by
  rw [decayIn_eq]
  pointwise [laneLog_at]
  rw [← exp_row]
  congr 2
  show (((IntOp.addi (BitVec.ofNat 32 j.val) 1#32).toInt : ℝ) : EReal) = _
  rw [show (IntOp.addi (BitVec.ofNat 32 j.val) 1#32).toInt = ((j.val + 1 : ℕ) : ℤ) from by revert j; decide +kernel]
  simp

/-- The decay from a row to a chunk's end. -/
theorem decayOut_at (j : Fin 128) (l : Fin 256) :
    (decayOut : FVec Ideal S128x256 .f32) (ix2 j l) = ((gamma (l.val / 64) ^ (127 - j.val) : ℝ) : EReal) := by
  rw [decayOut_eq]
  pointwise [laneLog_at]
  rw [← exp_row]
  congr 2
  show (((IntOp.subi 127#32 (BitVec.ofNat 32 j.val)).toInt : ℝ) : EReal) = _
  rw [show (IntOp.subi 127#32 (BitVec.ofNat 32 j.val)).toInt = ((127 - j.val : ℕ) : ℤ) from by revert j; decide +kernel]
  simp

/-- The constant 128. -/
theorem chunkRows : Ideal.ofBits .f32 1124073472#32 = ((128 : ℝ) : EReal) := by
  simp [Ideal.ofBits, Ideal.ieee, -EReal.coe_mul]; norm_num

/-- The decay over a chunk. -/
theorem decayAll_at (l : Fin 256) :
    (decayAll : FVec Ideal S1x256 .f32) (ix2 (0 : Fin 1) l) = ((gamma (l.val / 64) ^ 128 : ℝ) : EReal) := by
  rw [decayAll_eq]
  pointwise [laneLog_at, chunkRows]
  rw [← exp_row]
  norm_num

/-- One entry of the decay between rows. -/
theorem decay_entry (j n : ℕ) (hj : j < 128) (hn : n < 128) (h : ℕ) :
    Scalar.select (IntOp.cmpi .sge (IntOp.subi (BitVec.ofNat 32 j) (BitVec.ofNat 32 n)) 0#32)
        (Ideal.exp (FloatOps.sitofp (F := Ideal) FTy.f32 (IntOp.subi (BitVec.ofNat 32 j) (BitVec.ofNat 32 n))
          * ((Real.log (gamma h) : ℝ) : EReal))) 0
      = ((if n ≤ j then gamma h ^ (j - n) else 0 : ℝ) : EReal) := by
  have key : ∀ (a b : Fin 128), IntOp.cmpi .sge (IntOp.subi (BitVec.ofNat 32 a.val) (BitVec.ofNat 32 b.val)) 0#32
      = (if b.val ≤ a.val then 1#1 else 0#1) ∧ (b.val ≤ a.val →
        (IntOp.subi (BitVec.ofNat 32 a.val) (BitVec.ofNat 32 b.val)).toInt = ((a.val - b.val : ℕ) : ℤ)) := by
    decide +kernel
  obtain ⟨k1, k2⟩ := key ⟨j, hj⟩ ⟨n, hn⟩
  simp only at k1 k2
  rw [k1]
  by_cases hle : n ≤ j
  · rw [if_pos hle, if_pos hle, ValueIdx.select_one, ← exp_row]
    congr 2
    show (((IntOp.subi (BitVec.ofNat 32 j) (BitVec.ofNat 32 n)).toInt : ℝ) : EReal) = _
    rw [k2 hle]
    simp
  · rw [if_neg hle, if_neg hle, ValueIdx.select_zero]
    rfl

/-- The decay between two rows of a chunk, nothing above the diagonal. -/
theorem decayRows_at (j : Fin 128) (l : Fin 512) : (decayRows : FVec Ideal S128x512 .f32) (ix2 j l)
    = ((if l.val % 128 ≤ j.val then gamma (l.val / 128) ^ (j.val - l.val % 128) else 0 : ℝ) : EReal) := by
  unfold decayRows
  unfold k0_pay15
  pointwise [named_0, named_1, named_2, named_3]
  have hl := l.isLt
  have hj := j.isLt
  by_cases h1 : l.val < 128
  · rw [dif_pos h1, decay_entry _ _ hj (by omega), show l.val % 128 = l.val by omega, show l.val / 128 = 0 by omega]
  by_cases h2 : l.val - 128 < 128
  · rw [dif_neg h1, dif_pos h2, decay_entry _ _ hj (by omega), show l.val % 128 = l.val - 128 by omega,
      show l.val / 128 = 1 by omega]
  by_cases h3 : l.val - 128 - 128 < 128
  · rw [dif_neg h1, dif_neg h2, dif_pos h3, decay_entry _ _ hj (by omega), show l.val % 128 = l.val - 128 - 128 by omega,
      show l.val / 128 = 2 by omega]
  · rw [dif_neg h1, dif_neg h2, dif_neg h3, decay_entry _ _ hj (by omega),
      show l.val % 128 = l.val - 128 - 128 - 128 by omega, show l.val / 128 = 3 by omega]

end Retention

end
-- ==== Proof.RetChunk.lean ====
/- One unit of the retention kernel computes 128 steps of the recurrence: its result and its carried state, read at an
   index, are the recurrence's. -/
module

public import proofs.«01_k».proof.Proof.RetLanes

@[expose] public section

set_option maxRecDepth 65536

noncomputable section

namespace Retention

open Cert.KernelIdeal Cert.KernelIdeal.Gen Idealize.ShloMosaic Idealize.ShloMosaic.TcCoe Idealize.ShloMosaic.Tactic

/-- Head `h`'s 64 lanes of an array of rows. -/
def head (A : ℕ → ℕ → ℝ) (h : ℕ) : ℕ → ℕ → ℝ := fun t d => A t (64 * h + d)

/-- An entry of the rows spread over the heads. -/
theorem spread_at (hm : FVec Ideal S8x256 .bf16) (x : FVec Ideal S128x256 .bf16) (n : Fin 512) (l : Fin 256) :
    spread hm x (ix2 n l) = x (ix2 ⟨n.val % 128, by omega⟩ l) * hm (ix2 ⟨n.val / 128, by omega⟩ l) := by
  unfold spread
  pointwise []
  have hn := n.isLt
  by_cases h1 : n.val < 128
  · simp only [h1, dite_true, show n.val % 128 = n.val by omega, show n.val / 128 = 0 by omega]
    rfl
  by_cases h2 : n.val - 128 < 128
  · simp only [h1, h2, dite_true, dite_false, show n.val % 128 = n.val - 128 by omega, show n.val / 128 = 1 by omega]
    rfl
  by_cases h3 : n.val - 128 - 128 < 128
  · simp only [h1, h2, h3, dite_true, dite_false, show n.val % 128 = n.val - 128 - 128 by omega, show n.val / 128 = 2 by omega]
    rfl
  · simp only [h1, h2, h3, dite_false, show n.val % 128 = n.val - 128 - 128 - 128 by omega, show n.val / 128 = 3 by omega]
    rfl

/-- A decayed score of one unit. -/
theorem scores_at (dec : FVec Ideal S128x512 .f32) (q : FVec Ideal S128x256 .bf16) (kb : FVec Ideal S512x256 .bf16)
    (j : Fin 128) (n : Fin 512) :
    scores dec q kb (ix2 j n) = (∑ l : Fin 256, q (ix2 j l) * kb (ix2 n l)) * dec (ix2 j n) := by
  unfold scores
  pointwise []

/-- A unit's result as sums. -/
theorem result_open (dec : FVec Ideal S128x512 .f32) (ein : FVec Ideal S128x256 .f32) (hm : FVec Ideal S8x256 .bf16)
    (q : FVec Ideal S128x256 .bf16) (k v : FVec Ideal S128x256 .bf16) (st : FVec Ideal S256x256 .f32) (j : Fin 128) (l : Fin 256) :
    result dec ein hm q k v st (ix2 j l)
      = ∑ n : Fin 512, scores dec q (spread hm k) (ix2 j n) * spread hm v (ix2 n l)
        + ein (ix2 j l) * ∑ m : Fin 256, q (ix2 j m) * st (ix2 m l) := by
  unfold result
  pointwise []

/-- A unit's next state as sums. -/
theorem carry_open (eall : FVec Ideal S1x256 .f32) (est : FVec Ideal S128x256 .f32) (mask : FVec Ideal S256x256 .f32)
    (k : FVec Ideal S128x256 .f32) (v : FVec Ideal S128x256 .bf16) (st : FVec Ideal S256x256 .f32) (m l : Fin 256) :
    carry eall est mask k v st (ix2 m l)
      = st (ix2 m l) * eall (ix2 (0 : Fin 1) l)
        + (∑ n : Fin 128, k (ix2 n m) * est (ix2 n m) * v (ix2 n l)) * mask (ix2 m l) := by
  unfold carry
  pointwise []

/-! ## Real rows -/

/-- A sum over four blocks of 128 that keeps block `h` alone. -/
theorem sum_block (f : ℕ → ℕ → ℝ) (h : ℕ) (hh : h < 4) :
    ∑ n ∈ Finset.range 512, f (n / 128) (n % 128) * (if h = n / 128 then (1 : ℝ) else 0)
      = ∑ n ∈ Finset.range 128, f h n := by
  have h1 : ∑ n ∈ Finset.range 512, f (n / 128) (n % 128) * (if h = n / 128 then (1 : ℝ) else 0)
      = ∑ n ∈ (Finset.range 512).filter (fun n => h = n / 128), f h (n % 128) := by
    rw [Finset.sum_filter]
    refine Finset.sum_congr rfl fun n _ => ?_
    by_cases e : h = n / 128
    · rw [if_pos e, if_pos e, mul_one, ← e]
    · rw [if_neg e, if_neg e, mul_zero]
  rw [h1]
  refine Finset.sum_bij (fun n _ => n % 128) ?_ ?_ ?_ ?_
  · intro n hn
    exact Finset.mem_range.mpr (Nat.mod_lt _ (by omega))
  · intro a ha b hb e
    have := (Finset.mem_filter.mp ha).2
    have := (Finset.mem_filter.mp hb).2
    omega
  · intro n hn
    have hn := Finset.mem_range.mp hn
    exact ⟨128 * h + n, Finset.mem_filter.mpr ⟨Finset.mem_range.mpr (by omega), by omega⟩, by omega⟩
  · intro n hn
    rfl

/-- A sum of real numbers over `Fin n` of a function of the number. -/
theorem sum_fin (n : ℕ) (f : ℕ → ℝ) : (∑ i : Fin n, ((f i.val : ℝ) : EReal)) = ((∑ i ∈ Finset.range n, f i : ℝ) : EReal) := by
  rw [coe_sum, Finset.sum_range]

/-- The carried state as the kernel lays it out: one 64 × 64 block per head on the diagonal, zero elsewhere. -/
def blockState (K V : ℕ → ℕ → ℝ) (t m l : ℕ) : ℝ :=
  if m / 64 = l / 64 then state (gamma (l / 64)) (head K (l / 64)) (head V (l / 64)) t (m % 64) (l % 64) else 0

variable (Q K V : ℕ → ℕ → ℝ) (t0 : ℕ) {hm : FVec Ideal S8x256 .bf16} {mask : FVec Ideal S256x256 .f32}
  {q k : FVec Ideal S128x256 .bf16} {k' : FVec Ideal S128x256 .f32} {v : FVec Ideal S128x256 .bf16}
  {st : FVec Ideal S256x256 .f32}

/-- A decayed score over the reals. -/
theorem scores_real (hhm : ∀ (h : Fin 8) (l : Fin 256), hm (ix2 h l) = ((if l.val / 64 = h.val then 1 else 0 : ℝ) : EReal))
    (hq : ∀ (j : Fin 128) (l : Fin 256), q (ix2 j l) = ((Q (t0 + j) l : ℝ) : EReal))
    (hk : ∀ (j : Fin 128) (l : Fin 256), k (ix2 j l) = ((K (t0 + j) l : ℝ) : EReal)) (j : Fin 128) (n : Fin 512) :
    scores decayRows q (spread hm k) (ix2 j n)
      = (((∑ d ∈ Finset.range 64, head Q (n / 128) (t0 + j) d * head K (n / 128) (t0 + n % 128) d)
          * (if n.val % 128 ≤ j.val then gamma (n.val / 128) ^ (j.val - n.val % 128) else 0) : ℝ) : EReal) := by
  have hn : n.val / 128 < 4 := by have := n.isLt; omega
  rw [scores_at, decayRows_at]
  simp only [spread_at, hhm, hq, hk, ← EReal.coe_mul]
  rw [sum_fin 256 fun l => Q (t0 + j) l * (K (t0 + n % 128) l * if l / 64 = n.val / 128 then 1 else 0), ← EReal.coe_mul]
  simp only [← mul_assoc]
  rw [sum_head (fun l => Q (t0 + j) l * K (t0 + n % 128) l) _ hn]
  rfl

/-- A unit's result is the recurrence's output at the unit's rows. -/
theorem result_real (hhm : ∀ (h : Fin 8) (l : Fin 256), hm (ix2 h l) = ((if l.val / 64 = h.val then 1 else 0 : ℝ) : EReal))
    (hq : ∀ (j : Fin 128) (l : Fin 256), q (ix2 j l) = ((Q (t0 + j) l : ℝ) : EReal))
    (hk : ∀ (j : Fin 128) (l : Fin 256), k (ix2 j l) = ((K (t0 + j) l : ℝ) : EReal))
    (hv : ∀ (j : Fin 128) (l : Fin 256), v (ix2 j l) = ((V (t0 + j) l : ℝ) : EReal))
    (hst : ∀ m l : Fin 256, st (ix2 m l) = ((blockState K V t0 m l : ℝ) : EReal)) (j : Fin 128) (l : Fin 256) :
    result decayRows decayIn hm q k v st (ix2 j l)
      = ((output (gamma (l / 64)) (head Q (l / 64)) (head K (l / 64)) (head V (l / 64)) (t0 + j) (l % 64) : ℝ) : EReal) := by
  have hl : l.val / 64 < 4 := by have := l.isLt; omega
  have el : 64 * (l.val / 64) + l.val % 64 = l.val := by omega
  rw [result_open]
  simp only [scores_real Q K t0 hhm hq hk, spread_at, hv, hst, hq, hhm, decayIn_at, ← EReal.coe_mul]
  rw [sum_fin 512 fun n => (∑ d ∈ Finset.range 64, head Q (n / 128) (t0 + j) d * head K (n / 128) (t0 + n % 128) d)
      * (if n % 128 ≤ j.val then gamma (n / 128) ^ (j.val - n % 128) else 0)
      * (V (t0 + n % 128) l * if l.val / 64 = n / 128 then 1 else 0),
    sum_fin 256 fun m => Q (t0 + j) m * blockState K V t0 m l, ← EReal.coe_mul, ← EReal.coe_add]
  congr 1
  rw [output_run _ _ _ _ _ 128 _ _ j.isLt]
  congr 1
  · simp only [← mul_assoc]
    rw [sum_block (fun h n => (∑ d ∈ Finset.range 64, head Q h (t0 + j) d * head K h (t0 + n) d)
      * (if n ≤ j.val then gamma h ^ (j.val - n) else 0) * V (t0 + n) l) _ hl]
    refine Finset.sum_congr rfl fun n _ => ?_
    rw [show head V (l.val / 64) (t0 + n) (l.val % 64) = V (t0 + n) l by unfold head; rw [el]]
  · congr 1
    have e : ∀ m, Q (t0 + j) m * blockState K V t0 m l
        = (Q (t0 + j) m * state (gamma (l / 64)) (head K (l / 64)) (head V (l / 64)) t0 (m % 64) (l % 64))
          * (if m / 64 = l.val / 64 then 1 else 0) := by
      intro m
      unfold blockState
      by_cases h : m / 64 = l.val / 64
      · rw [if_pos h, if_pos h, mul_one]
      · rw [if_neg h, if_neg h, mul_zero, mul_zero]
    simp only [e]
    rw [sum_head (fun m => Q (t0 + j) m * state (gamma (l / 64)) (head K (l / 64)) (head V (l / 64)) t0 (m % 64) (l % 64)) _ hl]
    refine Finset.sum_congr rfl fun d hd => ?_
    have hd := Finset.mem_range.mp hd
    rw [show (64 * (l.val / 64) + d) % 64 = d by omega]
    rfl

/-- A unit's carried state is the recurrence's state 128 rows on. -/
theorem carry_real (hmask : ∀ m l : Fin 256, mask (ix2 m l) = ((if m.val / 64 = l.val / 64 then 1 else 0 : ℝ) : EReal))
    (hk : ∀ (j : Fin 128) (l : Fin 256), k' (ix2 j l) = ((K (t0 + j) l : ℝ) : EReal))
    (hv : ∀ (j : Fin 128) (l : Fin 256), v (ix2 j l) = ((V (t0 + j) l : ℝ) : EReal))
    (hst : ∀ m l : Fin 256, st (ix2 m l) = ((blockState K V t0 m l : ℝ) : EReal)) (m l : Fin 256) :
    carry decayAll decayOut mask k' v st (ix2 m l) = ((blockState K V (t0 + 128) m l : ℝ) : EReal) := by
  have el : 64 * (l.val / 64) + l.val % 64 = l.val := by omega
  rw [carry_open]
  simp only [hmask, hk, hv, hst, decayAll_at, decayOut_at, ← EReal.coe_mul]
  rw [sum_fin 128 fun n => K (t0 + n) m * gamma (m.val / 64) ^ (127 - n) * V (t0 + n) l, ← EReal.coe_mul, ← EReal.coe_add]
  congr 1
  unfold blockState
  by_cases h : m.val / 64 = l.val / 64
  · have em : 64 * (l.val / 64) + m.val % 64 = m.val := by omega
    rw [if_pos h, if_pos h, if_pos h, mul_one, state_add, mul_comm]
    congr 1
    refine Finset.sum_congr rfl fun n _ => ?_
    unfold head
    rw [el, em, h]
    ring
  · rw [if_neg h, if_neg h, if_neg h]
    ring

end Retention

end
-- ==== Proof.RetHost.lean ====
/- The retention kernel's host lines: the rotation's tables and the heads' masks, at an index; and a grid point's blocks. -/
module

public import proofs.«01_k».proof.Proof.Gen.KernelIdeal.Frame
public import proofs.«01_k».proof.Proof.RetLanes

@[expose] public section

set_option maxRecDepth 65536

noncomputable section

namespace Retention

open Cert.KernelIdeal Cert.KernelIdeal.Gen Idealize.ShloMosaic Idealize.ShloMosaic.TcCoe Idealize.ShloMosaic.Tactic

/-- The cosines' table: 256 rows of ones, then the cosines four times over. -/
def cosTable (a : FVec Ideal S4096x32 .f32) : FVec Ideal S4352x128 .f32 :=
  concatenate S4352x128 0
    [⟨S256x128, broadcastInDim S256x128 ![] bcast_S_S256x128 (constant S_ .f32 0x3F800000#32)⟩,
      ⟨S4096x128, concatenate S4096x128 1 [⟨S4096x32, a⟩, ⟨S4096x32, a⟩, ⟨S4096x32, a⟩, ⟨S4096x32, a⟩]
        concatenates_S4096x32_S4096x32_S4096x32_S4096x32_S4096x128_d1⟩] concatenates_S256x128_S4096x128_S4352x128_d0

/-- The sines' table: 256 rows of zeros, then minus the sines and the sines, twice. -/
def sinTable (a : FVec Ideal S4096x32 .f32) : FVec Ideal S4352x128 .f32 :=
  concatenate S4352x128 0
    [⟨S256x128, broadcastInDim S256x128 ![] bcast_S_S256x128 (constant S_ .f32 0x00000000#32)⟩,
      ⟨S4096x128, concatenate S4096x128 1 [⟨S4096x32, Host.negf a⟩, ⟨S4096x32, a⟩, ⟨S4096x32, Host.negf a⟩, ⟨S4096x32, a⟩]
        concatenates_S4096x32_S4096x32_S4096x32_S4096x32_S4096x128_d1⟩] concatenates_S256x128_S4096x128_S4352x128_d0

/-- The host's division of the lane numbers by 64, rounded down, on a row; -/
def hostHeadRow : IVec S1x256 32 :=
  let n : IVec S1x256 32 := broadcastInDim S1x256 ![1] bcast_S256_S1x256_1 (iotaInDim S256 32 0)
  let d : IVec S_ 32 := constantI S_ 32 64#32
  select (andi (cmpi .ne (signi n) (broadcastInDim S1x256 ![] bcast_S_S1x256 (signi d)))
      (cmpi .ne (Host.remsi n (broadcastInDim S1x256 ![] bcast_S_S1x256 d))
        (broadcastInDim S1x256 ![] bcast_S_S1x256 (constantI S_ 32 0#32))))
    (subi (Host.divsi n (broadcastInDim S1x256 ![] bcast_S_S1x256 d)) (broadcastInDim S1x256 ![] bcast_S_S1x256 (constantI S_ 32 1#32)))
    (Host.divsi n (broadcastInDim S1x256 ![] bcast_S_S1x256 d))

/-- and on a column. -/
def hostHeadCol : IVec S256x1 32 :=
  let n : IVec S256x1 32 := broadcastInDim S256x1 ![0] bcast_S256_S256x1_0 (iotaInDim S256 32 0)
  let d : IVec S_ 32 := constantI S_ 32 64#32
  select (andi (cmpi .ne (signi n) (broadcastInDim S256x1 ![] bcast_S_S256x1 (signi d)))
      (cmpi .ne (Host.remsi n (broadcastInDim S256x1 ![] bcast_S_S256x1 d))
        (broadcastInDim S256x1 ![] bcast_S_S256x1 (constantI S_ 32 0#32))))
    (subi (Host.divsi n (broadcastInDim S256x1 ![] bcast_S_S256x1 d)) (broadcastInDim S256x1 ![] bcast_S_S256x1 (constantI S_ 32 1#32)))
    (Host.divsi n (broadcastInDim S256x1 ![] bcast_S_S256x1 d))

/-- The mask of the pairs of lanes in one head. -/
def hostBlocks : FVec Ideal S256x256 .bf16 :=
  uitofp .bf16 (cmpi .eq (broadcastInDim S256x256 ![0, 1] bcast_S256x1_S256x256_0_1 hostHeadCol)
    (broadcastInDim S256x256 ![0, 1] bcast_S1x256_S256x256_0_1 hostHeadRow))

/-- The heads' lane masks, by row. -/
def hostHeads : FVec Ideal S8x256 .f32 :=
  uitofp .f32 (cmpi .eq (broadcastInDim S8x256 ![0, 1] bcast_S8x1_S8x256_0_1
      (broadcastInDim S8x1 ![0] bcast_S8_S8x1_0 (iotaInDim S8 32 0)))
    (broadcastInDim S8x256 ![0, 1] bcast_S1x256_S8x256_0_1 hostHeadRow))

variable (m : (ℓ : Loc nD τ sig) → Buf (Elt Ideal) ℓ) (c : Dev nD)

/-- The cosine table that the call reads. -/
theorem V_cos : V m c main_v5 = cosTable (m ((c : Thread nD τ).loc main_arg1)) := by sl_kernel_rfl
/-- The sine table that the call reads. -/
theorem V_sin : V m c main_v7 = sinTable (m ((c : Thread nD τ).loc main_arg2)) := by sl_kernel_rfl
/-- The block mask that the host makes. -/
theorem V_blocks : V m c main_v16 = hostBlocks := by sl_kernel_rfl
/-- The head mask that the host makes. -/
theorem V_heads : V m c main_v24 = hostHeads := by sl_kernel_rfl

/-- The head of a lane, along a row. -/
theorem hostHeadRow_at (l : Fin 256) : hostHeadRow (ix2 (0 : Fin 1) l) = BitVec.ofNat 32 (l.val / 64) := by
  unfold hostHeadRow
  pointwise []
  revert l
  decide +kernel

/-- The head of a lane, along a column. -/
theorem hostHeadCol_at (l : Fin 256) : hostHeadCol (ix2 l (0 : Fin 1)) = BitVec.ofNat 32 (l.val / 64) := by
  unfold hostHeadCol
  pointwise []
  revert l
  decide +kernel

/-- An entry of the cosine table. -/
theorem cosTable_at (a : FVec Ideal S4096x32 .f32) (t : Fin 4352) (l : Fin 128) :
    cosTable a (ix2 t l) = if h : t.val < 256 then 1 else a (ix2 ⟨t.val - 256, by omega⟩ ⟨l.val % 32, by omega⟩) := by
  unfold cosTable
  pointwise []
  have hl := l.isLt
  by_cases h : t.val < 256
  · rw [dif_pos h, dif_pos h]
  rw [dif_neg h, dif_neg h]
  by_cases h1 : l.val < 32
  · rw [dif_pos h1]; exact congrArg a (congrArg₂ ix2 rfl (Fin.ext (by show l.val = l.val % 32; omega)))
  by_cases h2 : l.val - 32 < 32
  · rw [dif_neg h1, dif_pos h2]; exact congrArg a (congrArg₂ ix2 rfl (Fin.ext (by show l.val - 32 = l.val % 32; omega)))
  by_cases h3 : l.val - 32 - 32 < 32
  · rw [dif_neg h1, dif_neg h2, dif_pos h3]; exact congrArg a (congrArg₂ ix2 rfl (Fin.ext (by show l.val - 32 - 32 = l.val % 32; omega)))
  · rw [dif_neg h1, dif_neg h2, dif_neg h3]; exact congrArg a (congrArg₂ ix2 rfl (Fin.ext (by show l.val - 32 - 32 - 32 = l.val % 32; omega)))

/-- An entry of the sine table. -/
theorem sinTable_at (a : FVec Ideal S4096x32 .f32) (t : Fin 4352) (l : Fin 128) :
    sinTable a (ix2 t l) = if h : t.val < 256 then 0 else
      if l.val % 64 < 32 then -a (ix2 ⟨t.val - 256, by omega⟩ ⟨l.val % 32, by omega⟩)
        else a (ix2 ⟨t.val - 256, by omega⟩ ⟨l.val % 32, by omega⟩) := by
  unfold sinTable
  pointwise []
  have hl := l.isLt
  by_cases h : t.val < 256
  · rw [dif_pos h, dif_pos h]
  rw [dif_neg h, dif_neg h]
  by_cases h1 : l.val < 32
  · rw [dif_pos h1]; refine Eq.trans (congrArg Neg.neg ?_) (if_pos (by omega)).symm
    exact congrArg a (congrArg₂ ix2 rfl (Fin.ext (by show l.val = l.val % 32; omega)))
  by_cases h2 : l.val - 32 < 32
  · rw [dif_neg h1, dif_pos h2]; refine Eq.trans ?_ (if_neg (by omega)).symm
    exact congrArg a (congrArg₂ ix2 rfl (Fin.ext (by show l.val - 32 = l.val % 32; omega)))
  by_cases h3 : l.val - 32 - 32 < 32
  · rw [dif_neg h1, dif_neg h2, dif_pos h3]; refine Eq.trans (congrArg Neg.neg ?_) (if_pos (by omega)).symm
    exact congrArg a (congrArg₂ ix2 rfl (Fin.ext (by show l.val - 32 - 32 = l.val % 32; omega)))
  · rw [dif_neg h1, dif_neg h2, dif_neg h3]; refine Eq.trans ?_ (if_neg (by omega)).symm
    exact congrArg a (congrArg₂ ix2 rfl (Fin.ext (by show l.val - 32 - 32 - 32 = l.val % 32; omega)))

/-- The number of a set bit. -/
theorem uitofp_one (φ : FTy) : FloatOps.uitofp (F := Ideal) φ 1#1 = ((1 : ℝ) : EReal) := by
  show (((1#1 : BitVec 1).toNat : ℝ) : EReal) = _
  simp

/-- The number of a clear bit. -/
theorem uitofp_zero (φ : FTy) : FloatOps.uitofp (F := Ideal) φ 0#1 = ((0 : ℝ) : EReal) := by
  show (((0#1 : BitVec 1).toNat : ℝ) : EReal) = _
  simp

/-- An entry of the block mask. -/
theorem hostBlocks_at (n l : Fin 256) : hostBlocks (ix2 n l) = ((if n.val / 64 = l.val / 64 then 1 else 0 : ℝ) : EReal) := by
  unfold hostBlocks
  pointwise [hostHeadRow_at, hostHeadCol_at]
  have key : ∀ a b : Fin 4, IntOp.cmpi .eq (BitVec.ofNat 32 a.val) (BitVec.ofNat 32 b.val) = if a = b then 1#1 else 0#1 := by
    decide +kernel
  have e := key ⟨n.val / 64, by omega⟩ ⟨l.val / 64, by omega⟩
  simp only [Fin.mk.injEq] at e
  rw [e]
  by_cases h : n.val / 64 = l.val / 64
  · rw [if_pos h, if_pos h, uitofp_one]
  · rw [if_neg h, if_neg h, uitofp_zero]

/-- An entry of the head mask. -/
theorem hostHeads_at (h : Fin 8) (l : Fin 256) : hostHeads (ix2 h l) = ((if l.val / 64 = h.val then 1 else 0 : ℝ) : EReal) := by
  unfold hostHeads
  pointwise [hostHeadRow_at]
  have key : ∀ (a : Fin 8) (b : Fin 4), IntOp.cmpi .eq (BitVec.ofNat 32 a.val) (BitVec.ofNat 32 b.val)
      = if b.val = a.val then 1#1 else 0#1 := by
    decide +kernel
  have e := key h ⟨l.val / 64, by omega⟩
  simp only at e
  rw [e]
  by_cases h : l.val / 64 = h.val
  · rw [if_pos h, if_pos h, uitofp_one]
  · rw [if_neg h, if_neg h, uitofp_zero]

/-! ## A grid point's blocks -/

/-- The projections' block at a grid point. -/
theorem index_0 : ∀ t : Fin cfg0.N, win0_0.index t = ![0, t.val, 0] := by decide +kernel
/-- The cosines' block at a grid point. -/
theorem index_1 : ∀ t : Fin cfg0.N, win0_1.index t = ![t.val, 0] := by decide +kernel
/-- The sines' block at a grid point. -/
theorem index_2 : ∀ t : Fin cfg0.N, win0_2.index t = ![t.val, 0] := by decide +kernel
/-- The block mask is read whole. -/
theorem index_3 : ∀ t : Fin cfg0.N, win0_3.index t = ![0, 0] := by decide +kernel
/-- The head mask is read whole. -/
theorem index_4 : ∀ t : Fin cfg0.N, win0_4.index t = ![0, 0] := by decide +kernel

/-- A block's row lies in the array. -/
theorem rows_lt (t : Fin cfg0.N) (r : ℕ) (hr : r < 256) : 256 * t.val + r < 4352 := by
  have h : t.val < 17 := lt_of_lt_of_eq t.isLt (show cfg0.N = 17 from N_0)
  omega

/-- An entry of the projections' block. -/
theorem block_x (t : Fin cfg0.N) (b : Fin 4) (r : Fin 256) (l : Fin 1024) :
    (iblk m c 0 t : Vec Ideal S4x256x1024 .f32) (ix3 b r l)
      = (m ((c : Thread nD τ).loc main_arg0) : FVec Ideal S4x4352x1024 .f32) (ix3 b ⟨256 * t.val + r.val, rows_lt t _ r.isLt⟩ l) := by
  rw [← V_main_arg0 m c]
  unfold iblk
  rw [View.read_apply]
  show V m c main_arg0 _ = V m c main_arg0 _
  congr 1
  funext a
  apply Fin.ext
  have h := index_0 t
  fin_cases a
  · show win0_0.index t 0 * 4 + 1 * b.val = b.val
    rw [h]; simp
  · show win0_0.index t 1 * 256 + 1 * r.val = 256 * t.val + r.val
    rw [h]; simp; omega
  · show win0_0.index t 2 * 1024 + 1 * l.val = l.val
    rw [h]; simp

/-- An entry of the cosines' block. -/
theorem block_c (t : Fin cfg0.N) (r : Fin 256) (l : Fin 128) :
    (iblk m c 1 t : Vec Ideal S256x128 .f32) (ix2 r l)
      = cosTable (m ((c : Thread nD τ).loc main_arg1)) (ix2 ⟨256 * t.val + r.val, rows_lt t _ r.isLt⟩ l) := by
  rw [← V_cos]
  unfold iblk
  rw [View.read_apply]
  show V m c main_v5 _ = V m c main_v5 _
  congr 1
  funext a
  apply Fin.ext
  have h := index_1 t
  fin_cases a
  · show win0_1.index t 0 * 256 + 1 * r.val = 256 * t.val + r.val
    rw [h]; simp; omega
  · show win0_1.index t 1 * 128 + 1 * l.val = l.val
    rw [h]; simp

/-- An entry of the sines' block. -/
theorem block_s (t : Fin cfg0.N) (r : Fin 256) (l : Fin 128) :
    (iblk m c 2 t : Vec Ideal S256x128 .f32) (ix2 r l)
      = sinTable (m ((c : Thread nD τ).loc main_arg2)) (ix2 ⟨256 * t.val + r.val, rows_lt t _ r.isLt⟩ l) := by
  rw [← V_sin]
  unfold iblk
  rw [View.read_apply]
  show V m c main_v7 _ = V m c main_v7 _
  congr 1
  funext a
  apply Fin.ext
  have h := index_2 t
  fin_cases a
  · show win0_2.index t 0 * 256 + 1 * r.val = 256 * t.val + r.val
    rw [h]; simp; omega
  · show win0_2.index t 1 * 128 + 1 * l.val = l.val
    rw [h]; simp

/-- An entry of the block mask's block. -/
theorem block_mask (t : Fin cfg0.N) (n l : Fin 256) :
    (iblk m c 3 t : Vec Ideal S256x256 .bf16) (ix2 n l) = hostBlocks (ix2 n l) := by
  rw [← V_blocks m c]
  unfold iblk
  rw [View.read_apply]
  show V m c main_v16 _ = V m c main_v16 _
  congr 1
  funext a
  apply Fin.ext
  have h := index_3 t
  fin_cases a
  · show win0_3.index t 0 * 256 + 1 * n.val = n.val
    rw [h]; simp
  · show win0_3.index t 1 * 256 + 1 * l.val = l.val
    rw [h]; simp

/-- An entry of the head mask's block. -/
theorem block_heads (t : Fin cfg0.N) (n : Fin 8) (l : Fin 256) :
    (iblk m c 4 t : Vec Ideal S8x256 .f32) (ix2 n l) = hostHeads (ix2 n l) := by
  rw [← V_heads m c]
  unfold iblk
  rw [View.read_apply]
  show V m c main_v24 _ = V m c main_v24 _
  congr 1
  funext a
  apply Fin.ext
  have h := index_4 t
  fin_cases a
  · show win0_4.index t 0 * 8 + 1 * n.val = n.val
    rw [h]; simp
  · show win0_4.index t 1 * 256 + 1 * l.val = l.val
    rw [h]; simp

end Retention

end
-- ==== Proof.RetFold.lean ====
/- The retention kernel's grid: 17 points of 256 rows, each two units per batch. After each point the result's block holds
   the recurrence's outputs and the carried buffer the recurrence's state; so the array the kernel leaves is the recurrence. -/
module

public import proofs.«01_k».proof.Proof.Gen.KernelIdeal.Value
public import proofs.«01_k».proof.Proof.RetOpen
public import proofs.«01_k».proof.Proof.RetChunk
public import proofs.«01_k».proof.Proof.RetHost

@[expose] public section

set_option maxRecDepth 65536

noncomputable section

namespace Retention

open Cert.KernelIdeal Cert.KernelIdeal.Gen Cert.KernelIdeal.Value Idealize.ShloMosaic Idealize.ShloMosaic.TcCoe Idealize.ShloMosaic.Tactic

/-! ## The recurrence's rows, from the arrays -/

/-- The queries: the first 256 lanes times one eighth, rotated. -/
def queries (X : ℕ → ℕ → ℕ → ℝ) (C S : ℕ → ℕ → ℝ) (b t l : ℕ) : ℝ := rotary (fun n => X b t n * (1 / 8)) (C t) (S t) l

/-- The keys: the next 256 lanes, rotated. -/
def keys (X : ℕ → ℕ → ℕ → ℝ) (C S : ℕ → ℕ → ℝ) (b t l : ℕ) : ℝ := rotary (fun n => X b t (256 + n)) (C t) (S t) l

/-- The values: the next 256 lanes. -/
def values (X : ℕ → ℕ → ℕ → ℝ) (b t l : ℕ) : ℝ := X b t (512 + l)

/-- The retention of batch `b` at row `t` and lane `l`: lane `l % 64` of head `l / 64`. -/
def retention (X : ℕ → ℕ → ℕ → ℝ) (C S : ℕ → ℕ → ℝ) (b t l : ℕ) : ℝ :=
  output (gamma (l / 64)) (head (queries X C S b) (l / 64)) (head (keys X C S b) (l / 64)) (head (values X b) (l / 64)) t (l % 64)

/-! ## One point -/

section Point

variable {x0 : Vec Ideal S4x256x1024 .f32} {x1 x2 : Vec Ideal S256x128 .f32} {x3 : Vec Ideal S256x256 .bf16}
  {x4 : Vec Ideal S8x256 .f32} {X : ℕ → ℕ → ℕ → ℝ} {C S : ℕ → ℕ → ℝ} {base : ℕ}

/-- One batch entry's state read out of the stack. -/
theorem stateOf_at (x : Vec Ideal S4x256x256 .f32) (b : ℕ) (hb : b < 4) (n l : Fin 256) :
    stateOf x b hb (ix2 n l) = x (ix3 ⟨b, hb⟩ n l) := by
  have h : ∀ y : FVec Ideal S1x256x256 .f32, shapeCast S256x256 y shapeCasts_S1x256x256_S256x256 (ix2 n l)
      = y (ix3 (0 : Fin 1) n l) := by
    intro y
    pointwise []
  unfold stateOf
  rw [h]
  show x _ = x _
  congr 1
  funext a
  apply Fin.ext
  fin_cases a <;> simp [LoadRect.idx_apply, Rect.unit, ix3]

/-- The head mask as the call reads it. -/
theorem headMask_at (h4 : ∀ (h : Fin 8) (l : Fin 256), x4 (ix2 h l) = ((if l.val / 64 = h.val then 1 else 0 : ℝ) : EReal))
    (h : Fin 8) (l : Fin 256) : headMask x4 (ix2 h l) = ((if l.val / 64 = h.val then 1 else 0 : ℝ) : EReal) := by
  rw [← h4]
  unfold headMask k0_pay17
  pointwise []

/-- The block mask as the call reads it. -/
theorem blockMask_at (h3 : ∀ n l : Fin 256, x3 (ix2 n l) = ((if n.val / 64 = l.val / 64 then 1 else 0 : ℝ) : EReal))
    (n l : Fin 256) : blockMask x3 (ix2 n l) = ((if n.val / 64 = l.val / 64 then 1 else 0 : ℝ) : EReal) := by
  rw [← h3]
  unfold blockMask k0_pay16
  pointwise []

/-- The state after a unit, over the reals. -/
theorem carryOf_real (H : Block x0 x1 x2 X C S base)
    (h3 : ∀ n l : Fin 256, x3 (ix2 n l) = ((if n.val / 64 = l.val / 64 then 1 else 0 : ℝ) : EReal))
    (b ci : ℕ) (hb : b < 4) (hc : ci < 2) (st : FVec Ideal S256x256 .f32)
    (hst : ∀ n l : Fin 256, st (ix2 n l) = ((blockState (keys X C S b) (values X b) (base + 128 * ci) n l : ℝ) : EReal)) (n l : Fin 256) :
    carryOf x0 x1 x2 x3 b ci hb hc st (ix2 n l)
      = ((blockState (keys X C S b) (values X b) (base + 128 * ci + 128) n l : ℝ) : EReal) :=
  carry_real (keys X C S b) (values X b) (base + 128 * ci) (blockMask_at h3) (fun j l => keyOf_at H b ci hb hc j l)
    (fun j l => valueOf_at H b ci hb hc j l) hst n l

/-- A unit's result, over the reals. -/
theorem resultOf_real (H : Block x0 x1 x2 X C S base)
    (h4 : ∀ (h : Fin 8) (l : Fin 256), x4 (ix2 h l) = ((if l.val / 64 = h.val then 1 else 0 : ℝ) : EReal))
    (b ci : ℕ) (hb : b < 4) (hc : ci < 2) (st : FVec Ideal S256x256 .f32)
    (hst : ∀ n l : Fin 256, st (ix2 n l) = ((blockState (keys X C S b) (values X b) (base + 128 * ci) n l : ℝ) : EReal))
    (j : Fin 128) (l : Fin 256) :
    resultOf x0 x1 x2 x4 b ci hb hc st (ix2 j l) = ((retention X C S b (base + 128 * ci + j) l : ℝ) : EReal) :=
  result_real (queries X C S b) (keys X C S b) (values X b) (base + 128 * ci) (headMask_at h4)
    (fun j l => queryOf_at H b ci hb hc j l) (fun j l => keyOf_at H b ci hb hc j l) (fun j l => valueOf_at H b ci hb hc j l) hst j l

/-- The state before a unit, over the reals. -/
theorem stateBefore_real (H : Block x0 x1 x2 X C S base)
    (h3 : ∀ n l : Fin 256, x3 (ix2 n l) = ((if n.val / 64 = l.val / 64 then 1 else 0 : ℝ) : EReal))
    (s : ∀ b : ℕ, b < 4 → FVec Ideal S256x256 .f32)
    (hs : ∀ b hb (n l : Fin 256), s b hb (ix2 n l) = ((blockState (keys X C S b) (values X b) base n l : ℝ) : EReal))
    (b : ℕ) (hb : b < 4) (ci : ℕ) (hc : ci < 2) (n l : Fin 256) :
    stateBefore x0 x1 x2 x3 s b hb ci (ix2 n l)
      = ((blockState (keys X C S b) (values X b) (base + 128 * ci) n l : ℝ) : EReal) := by
  have h : ci = 0 ∨ ci = 1 := by omega
  rcases h with rfl | rfl
  · exact hs b hb n l
  · exact carryOf_real H h3 b 0 hb (by omega) _ (hs b hb) n l

/-- A point's result, from a carried state that is the recurrence's, is the recurrence's. -/
theorem pointResult_real (H : Block x0 x1 x2 X C S base)
    (h3 : ∀ n l : Fin 256, x3 (ix2 n l) = ((if n.val / 64 = l.val / 64 then 1 else 0 : ℝ) : EReal))
    (h4 : ∀ (h : Fin 8) (l : Fin 256), x4 (ix2 h l) = ((if l.val / 64 = h.val then 1 else 0 : ℝ) : EReal))
    (s : ∀ b : ℕ, b < 4 → FVec Ideal S256x256 .f32)
    (hs : ∀ b hb (n l : Fin 256), s b hb (ix2 n l) = ((blockState (keys X C S b) (values X b) base n l : ℝ) : EReal))
    (b : Fin 4) (r l : Fin 256) :
    pointResult x0 x1 x2 x3 x4 s (ix3 b r l) = ((retention X C S b (base + r) l : ℝ) : EReal) := by
  have hr := r.isLt
  rw [pointResult_at x0 x1 x2 x3 x4 s b (r.val / 128) b.isLt (by omega) ⟨r.val % 128, Nat.mod_lt _ (by omega)⟩ l _ rfl
    (by show r.val = 128 * (r.val / 128) + r.val % 128; omega) rfl,
    resultOf_real H h4 b _ b.isLt _ _ (stateBefore_real H h3 s hs b b.isLt _ (by omega))]
  rw [show base + 128 * (r.val / 128) + r.val % 128 = base + r.val by omega]

/-- A point's carried state, from one that is the recurrence's, is the recurrence's 256 rows on. -/
theorem pointState_real (H : Block x0 x1 x2 X C S base)
    (h3 : ∀ n l : Fin 256, x3 (ix2 n l) = ((if n.val / 64 = l.val / 64 then 1 else 0 : ℝ) : EReal))
    (s : ∀ b : ℕ, b < 4 → FVec Ideal S256x256 .f32)
    (hs : ∀ b hb (n l : Fin 256), s b hb (ix2 n l) = ((blockState (keys X C S b) (values X b) base n l : ℝ) : EReal))
    (b : Fin 4) (n l : Fin 256) :
    pointState x0 x1 x2 x3 s (ix3 b n l) = ((blockState (keys X C S b) (values X b) (base + 256) n l : ℝ) : EReal) := by
  rw [pointState_at x0 x1 x2 x3 s b b.isLt n l _ rfl rfl rfl,
    carryOf_real H h3 b 1 b.isLt (by omega) _ (stateBefore_real H h3 s hs b b.isLt 1 (by omega))]

end Point

/-! ## The whole grid -/

/-- The projections as real rows. -/
def realRows (p : FVec Ideal S4x4352x1024 .f32) (b t l : ℕ) : ℝ :=
  if h : b < 4 ∧ t < 4352 ∧ l < 1024 then (p (ix3 ⟨b, h.1⟩ ⟨t, h.2.1⟩ ⟨l, h.2.2⟩)).toReal else 0

/-- The cosines by row: ones over the context's 256 rows. -/
def realCos (a : FVec Ideal S4096x32 .f32) (t j : ℕ) : ℝ :=
  if t < 256 then 1 else if h : t - 256 < 4096 ∧ j < 32 then (a (ix2 ⟨t - 256, h.1⟩ ⟨j, h.2⟩)).toReal else 0

/-- The sines by row: zeros over the context's 256 rows. -/
def realSin (a : FVec Ideal S4096x32 .f32) (t j : ℕ) : ℝ :=
  if t < 256 then 0 else if h : t - 256 < 4096 ∧ j < 32 then (a (ix2 ⟨t - 256, h.1⟩ ⟨j, h.2⟩)).toReal else 0

variable (m : (ℓ : Loc nD τ sig) → Buf (Elt Ideal) ℓ) (c : Dev nD)
  (p : FVec Ideal S4x4352x1024 .f32) (cos sin : FVec Ideal S4096x32 .f32)
  (ep : m ((c : Thread nD τ).loc main_arg0) = p) (ec : m ((c : Thread nD τ).loc main_arg1) = cos)
  (es : m ((c : Thread nD τ).loc main_arg2) = sin)
  (fp : ∀ i, ((p i).toReal : EReal) = p i) (fc : ∀ i, ((cos i).toReal : EReal) = cos i) (fs : ∀ i, ((sin i).toReal : EReal) = sin i)

include ep ec es fp fc fs in
/-- The blocks that a grid point reads. -/
theorem block (t : Fin cfg0.N) :
    Block (iblk m c 0 t) (iblk m c 1 t) (iblk m c 2 t) (realRows p) (realCos cos) (realSin sin) (256 * t.val) where
  x b r l := by
    rw [block_x, ep]
    unfold realRows
    rw [dif_pos ⟨b.isLt, rows_lt t _ r.isLt, l.isLt⟩, fp]
  c r l := by
    have hb := rows_lt t _ r.isLt
    rw [block_c, ec, cosTable_at]
    unfold realCos
    by_cases h : 256 * t.val + r.val < 256
    · rw [dif_pos h, if_pos h]; rfl
    · rw [dif_neg h, if_neg h, dif_pos ⟨by omega, by omega⟩, fc]
  s r l := by
    have hb := rows_lt t _ r.isLt
    rw [block_s, es, sinTable_at]
    unfold realSin
    by_cases h : 256 * t.val + r.val < 256
    · rw [dif_pos h, if_pos h]; simp
    · rw [dif_neg h, if_neg h, dif_pos ⟨by omega, by omega⟩]
      by_cases h' : l.val % 64 < 32
      · rw [if_pos h', if_pos h', EReal.coe_neg, fs]
      · rw [if_neg h', if_neg h', fs]

/-- The first state is zero. -/
theorem zeroState_at (b : ℕ) (hb : b < 4) (K V : ℕ → ℕ → ℝ) (n l : Fin 256) :
    (stateOf (F := Ideal) (k0_pay4 (F := Ideal)) b hb : FVec Ideal S256x256 .f32) (ix2 n l) = ((blockState K V 0 n l : ℝ) : EReal) := by
  rw [stateOf_at]
  unfold k0_pay4 blockState
  pointwise []
  simp [state]

include ep ec es fp fc fs in
/-- What each point leaves: the recurrence's outputs of its rows, and the recurrence's state after them. -/
theorem points (n : ℕ) (hn : n < cfg0.N) :
    (∀ (b : Fin 4) (r l : Fin 256), (outsAt0 m c n hn).1 (ix3 b r l)
      = ((retention (realRows p) (realCos cos) (realSin sin) b (256 * n + r) l : ℝ) : EReal))
    ∧ ∀ (b : Fin 4) (k l : Fin 256), (outsAt0 m c n hn).2 (ix3 b k l)
      = ((blockState (keys (realRows p) (realCos cos) (realSin sin) b) (values (realRows p) b) (256 * n + 256) k l : ℝ) : EReal) := by
  induction n with
  | zero =>
    have e := outsAt0_A m c ⟨0, hn⟩ rfl
    simp only at e
    rw [e]
    have H := block m c p cos sin ep ec es fp fc fs ⟨0, hn⟩
    constructor
    · intro b r l
      simp only
      rw [out_A]
      exact pointResult_real H (fun n l => (block_mask m c _ n l).trans (hostBlocks_at n l))
        (fun h l => (block_heads m c _ h l).trans (hostHeads_at h l)) _ (fun b hb n l => zeroState_at b hb _ _ n l) b r l
    · intro b k l
      simp only
      rw [state_A]
      exact pointState_real H (fun n l => (block_mask m c _ n l).trans (hostBlocks_at n l))
        _ (fun b hb n l => zeroState_at b hb _ _ n l) b k l
  | succ n ih =>
    have hN : cfg0.N = 17 := N_0
    have e := outsAt0_B m c ⟨n + 1, hn⟩ (by simp only; omega)
    simp only at e
    rw [e]
    have H := block m c p cos sin ep ec es fp fc fs ⟨n + 1, hn⟩
    obtain ⟨_, ih2⟩ := ih (by omega)
    constructor
    · intro b r l
      simp only
      rw [out_B]
      exact pointResult_real H (fun n l => (block_mask m c _ n l).trans (hostBlocks_at n l))
        (fun h l => (block_heads m c _ h l).trans (hostHeads_at h l)) _
        (fun b hb k l => (stateOf_at _ b hb k l).trans (ih2 ⟨b, hb⟩ k l)) b r l
    · intro b k l
      simp only
      rw [state_B]
      exact pointState_real H (fun n l => (block_mask m c _ n l).trans (hostBlocks_at n l))
        _ (fun b hb k l => (stateOf_at _ b hb k l).trans (ih2 ⟨b, hb⟩ k l)) b k l

include ep ec es fp fc fs in
/-- The array the kernel leaves is the retention of the arguments. -/
theorem final (b : Fin 4) (t : Fin 4352) (l : Fin 256) :
    (G5 m c : FVec Ideal S4x4352x256 .f32) (ix3 b t l)
      = ((retention (realRows p) (realCos cos) (realSin sin) b t l : ℝ) : EReal) := by
  have hN : cfg0.N = 17 := N_0
  have hb := b.isLt
  have ht := t.isLt
  have hl := l.isLt
  have hpt : pt5Of (ix3 b t l) = t.val / 256 := by
    show 17 * (b.val / 4 - 0) + 1 * (t.val / 256 - 0) + 1 * (l.val / 256 - 0) = t.val / 256
    omega
  have hlt : t.val / 256 < cfg0.N := by omega
  show G5 m c (ix3 b t l) = _
  unfold G5
  rw [dif_pos (by rw [hpt]; exact hlt), fold0_congr m c _ _ (t.val / 256) (by omega) hpt, ← outsAt0_sweep m c _ hlt]
  have hloc : loc5Of (ix3 b t l) = ix3 b ⟨t.val % 256, Nat.mod_lt _ (by omega)⟩ l := by
    funext a
    apply Fin.ext
    fin_cases a
    · show b.val % 4 = b.val; omega
    · rfl
    · show l.val % 256 = l.val; omega
  rw [hloc, (points m c p cos sin ep ec es fp fc fs _ hlt).1]
  rw [show 256 * (t.val / 256) + t.val % 256 = t.val by omega]

end Retention

end
-- ==== Proof.RefLog.lean ====
/- What one trip of the reference takes from the trip's number: where its slices start, the heads' logarithms, their
   running sums over the chunk's 64 rows, and the mask of the rows up to a row. -/
module

public import proofs.«01_k».proof.Proof.RetChunk
public import proofs.«01_k».proof.Proof.Gen.ReferenceIdeal.Step

@[expose] public section

set_option maxRecDepth 65536

noncomputable section

namespace Retention

open Idealize.ShloMosaic Cert.ReferenceIdeal Cert.ReferenceIdeal.Gen Cert.ReferenceIdeal.Step

/-- A fold that adds one term per entry is the start plus the sum of the terms. -/
theorem foldl_sum (n : ℕ) (f : Fin n → EReal) (z : EReal) :
    (List.finRange n).foldl (fun r k => r + f k) z = z + ∑ k, f k := by
  have h : ∀ (L : List (Fin n)) (z : EReal), L.foldl (fun r k => r + f k) z = z + (L.map f).sum := by
    intro L
    induction L with
    | nil => intro z; simp
    | cons a L ih => intro z; rw [List.foldl_cons, ih, List.map_cons, List.sum_cons, add_assoc]
  rw [h, Fin.sum_univ_def]

/-- The coordinate on axis `a` of the window's position number `n`. -/
def windowAt (n : Fin (Shape.numel ⟨4, ![1, 64, 1, 1]⟩)) (a : Fin 4) : ℕ :=
  ((Shape.rowMajor ⟨4, ![1, 64, 1, 1]⟩).symm n a).val

/-- Where the window's positions lie: along the rows. -/
theorem window_pos (n : Fin (Shape.numel ⟨4, ![1, 64, 1, 1]⟩)) (a : Fin 4) :
    windowAt n a = (![0, n.val, 0, 0] : Fin 4 → ℕ) a := by
  revert n a
  decide +kernel

/-- Of the 64 positions of row `i`'s window the last `i + 1` lie inside the chunk. -/
theorem window_count (i : ℕ) (hi : i < 64) (g : ℝ) :
    ∑ n ∈ Finset.range 64, (if 63 ≤ i + n then g else 0) = ((i + 1 : ℕ) : ℝ) * g := by
  rw [← Finset.sum_filter, Finset.sum_const, nsmul_eq_mul]
  congr 2
  rw [show (Finset.range 64).filter (fun n => 63 ≤ i + n) = Finset.Ico (63 - i) 64 from by
    ext n; simp only [Finset.mem_filter, Finset.mem_range, Finset.mem_Ico]; omega]
  rw [Nat.card_Ico]; omega

/-- The running sum of a chunk whose rows all hold a head's number is the number times the rows so far. -/
theorem running (x : FVec Ideal S4x64x4x1 .f32) (z : FVec Ideal S_ .f32) (hz : ∀ k, z k = 0) (g : Fin 4 → ℝ)
    (hx : ∀ b i h k, x (ix4 b i h k) = ((g h : ℝ) : EReal)) (hr) (hu) (b : Fin 4) (i : Fin 64) (h : Fin 4) (k : Fin 1) :
    Host.reduceWindowAdd (F := Ideal) (t := S4x64x4x1) ![1, 64, 1, 1] ![1, 1, 1, 1] ![0, 63, 0, 0] ![0, 0, 0, 0] x z hr hu (ix4 b i h k)
      = ((((i.val + 1 : ℕ) : ℝ) * g h : ℝ) : EReal) := by
  show Host.reduceWindow (· + ·) ![1, 64, 1, 1] ![1, 1, 1, 1] ![0, 63, 0, 0] ![0, 0, 0, 0] x (fun _ : (⟨0, ![]⟩ : Shape).Idx => z (Shape.Idx.first hu)) hr (by decide) (ix4 b i h k) = _
  unfold Host.reduceWindow
  rw [foldl_sum, hz, zero_add, ← window_count i.val i.isLt, ← sum_fin]
  refine Finset.sum_congr rfl fun n _ => ?_
  have w0 : windowAt n 0 = 0 := window_pos n 0
  have w1 : windowAt n 1 = n.val := window_pos n 1
  have w2 : windowAt n 2 = 0 := window_pos n 2
  have w3 : windowAt n 3 = 0 := window_pos n 3
  have hb := b.isLt
  have hi := i.isLt
  have hh := h.isLt
  have hk := k.isLt
  by_cases hin : 63 ≤ i.val + n.val
  · rw [if_pos hin]
    refine (dif_pos ?_).trans ?_
    · intro a
      fin_cases a
      · show 0 ≤ b.val * 1 + windowAt n 0 ∧ b.val * 1 + windowAt n 0 - 0 < 4
        rw [w0]; omega
      · have := n.isLt
        show 63 ≤ i.val * 1 + windowAt n 1 ∧ i.val * 1 + windowAt n 1 - 63 < 64
        rw [w1]
        have hn : n.val < 64 := n.isLt
        omega
      · show 0 ≤ h.val * 1 + windowAt n 2 ∧ h.val * 1 + windowAt n 2 - 0 < 4
        rw [w2]; omega
      · show 0 ≤ k.val * 1 + windowAt n 3 ∧ k.val * 1 + windowAt n 3 - 0 < 1
        rw [w3]; omega
    · have hn : n.val < 64 := n.isLt
      refine (congrArg x ?_).trans (hx b ⟨i.val + n.val - 63, by omega⟩ h k)
      funext a
      apply Fin.ext
      fin_cases a
      · show b.val * 1 + windowAt n 0 - 0 = b.val
        rw [w0]; omega
      · show i.val * 1 + windowAt n 1 - 63 = i.val + n.val - 63
        rw [w1]; omega
      · show h.val * 1 + windowAt n 2 - 0 = h.val
        rw [w2]; omega
      · show k.val * 1 + windowAt n 3 - 0 = k.val
        rw [w3]; omega
  · rw [if_neg hin]
    refine (dif_neg ?_).trans ?_
    · intro hc
      have h1 : 63 ≤ i.val * 1 + windowAt n 1 := (hc 1).1
      rw [w1] at h1
      omega
    · rfl

/-- The mask is the lower triangle. -/
theorem mask_word (i k : Fin 64) : (K_main_v66 (F := Ideal)) (ix5 (0 : Fin 1) i k (0 : Fin 1) (0 : Fin 1))
    = if k.val ≤ i.val then 1#1 else 0#1 := by
  unfold K_main_v66 K_main_v65 K_main_v64 K_main_call0_v5 K_main_call0_v4 K_main_call0_v2 K_main_call0_v3 K_main_call0_v1
    K_main_call0_v0 K_main_call0_c K_main_call0_c_0 K_main_c
  pointwise []
  revert i k
  decide +kernel

/-- The constant two. -/
theorem two_word : Ideal.ofBits .f32 1073741824#32 = ((2 : ℝ) : EReal) := by
  simp [Ideal.ofBits, Ideal.ieee, -EReal.coe_mul]; norm_num

/-- The constant minus five. -/
theorem fiveWord : Ideal.ofBits .f32 3231711232#32 = ((-5 : ℝ) : EReal) := by
  simp [Ideal.ofBits, Ideal.ieee, -EReal.coe_mul]; norm_num

/-- The reference's logarithm of a head is the logarithm of its decay. -/
theorem log_at (h : Fin 4) : (K_main_v10 (F := Ideal)) (ix1 h) = ((Real.log (gamma h) : ℝ) : EReal) := by
  unfold K_main_v10 K_main_v9 K_main_v8 K_main_v7 K_main_v6 K_main_v5 K_main_v4 K_main_cst K_main_cst_0
  pointwise []
  rw [two_word, fiveWord]
  have hs : FloatOps.sitofp (F := Ideal) FTy.f32 (BitVec.ofNat 32 h.val) = ((h.val : ℝ) : EReal) := by
    show (((BitVec.ofNat 32 h.val).toInt : ℝ) : EReal) = _
    rw [show (BitVec.ofNat 32 h.val).toInt = (h.val : ℤ) from by revert h; decide +kernel]
    simp
  rw [hs, ← EReal.coe_sub]
  have hp : Ideal.pow ((2 : ℝ) : EReal) ((-5 - (h.val : ℝ) : ℝ) : EReal) = ((1 / 2 ^ (5 + h.val) : ℝ) : EReal) := by
    show ((Real.rpow 2 (-5 - (h.val : ℝ)) : ℝ) : EReal) = _
    congr 1
    show (2 : ℝ) ^ (-5 - (h.val : ℝ)) = _
    rw [show (-5 - (h.val : ℝ)) = -((5 + h.val : ℕ) : ℝ) from by push_cast; ring, Real.rpow_neg (by norm_num), Real.rpow_natCast]
    ring
  rw [hp, ← EReal.coe_neg]
  have hg := gamma_pos h.val
  show Ideal.log (1 + _) = _
  rw [show (1 : EReal) = ((1 : ℝ) : EReal) from rfl, ← EReal.coe_add, ← sub_eq_add_neg]
  show (if gamma h.val ≤ 0 then (⊥ : EReal) else ((Real.log (gamma h.val) : ℝ) : EReal)) = _
  rw [if_neg (not_le.mpr hg)]

end Retention
-- ==== Proof.RefChunk.lean ====
/- One trip of the reference: its 64 rows' outputs and the state after them, as the recurrence's. -/
module

public import proofs.«01_k».proof.Proof.RetFold
public import proofs.«01_k».proof.Proof.RefLog
public import Idealize.ShloMosaic.Lib.DynamicIndex

@[expose] public section

set_option maxRecDepth 65536

noncomputable section

namespace Retention

open Idealize.ShloMosaic Cert.ReferenceIdeal Cert.ReferenceIdeal.Gen Cert.ReferenceIdeal.Step

variable (j : ℕ) (s : State Ideal)

/-- The trip's number as a word, read signed, is the number. -/
theorem trip_word (hj : j < 68) : (BitVec.ofNat 32 j).toInt = (j : ℤ) := by
  have h : ∀ n : Fin 68, (BitVec.ofNat 32 n.val).toInt = (n.val : ℤ) := by decide +kernel
  exact h ⟨j, hj⟩

/-- The trip's slice of an array of 68 chunks is chunk `j`. -/
theorem slice_chunk (hj : j < 68) (x : FVec Ideal S68x4x64x4x64 .f32) (st : Fin 5 → ℤ) (h0 : st 0 = j) (h1 : st 1 = 0) (h2 : st 2 = 0)
    (h3 : st 3 = 0) (h4 : st 4 = 0) (hs) (b : Fin 4) (i : Fin 64) (h : Fin 4) (d : Fin 64) :
    shapeCast S4x64x4x64 (Host.dynamicSlice S1x4x64x4x64 x st hs) shapeCasts_S1x4x64x4x64_S4x64x4x64 (ix4 b i h d)
      = x (ix5 ⟨j, hj⟩ b i h d) := by
  rw [Host.dynamicSlice_eq_extractStridedSlice _ x st ![j, 0, 0, 0, 0] hs ⟨rfl, fun a => by fin_cases a <;> simp [S68x4x64x4x64, S1x4x64x4x64]; omega⟩
    (fun a => by fin_cases a <;> simp [h0, h1, h2, h3, h4])]
  pointwise []

/-- The chunk of queries that trip `j` reads. -/
theorem query_at (hj : j < 68) (b : Fin 4) (i : Fin 64) (h : Fin 4) (d : Fin 64) :
    b5 j s (ix4 b i h d) = s.main_v76_0 (ix5 ⟨j, hj⟩ b i h d) := by
  unfold b5 b4
  exact slice_chunk j hj _ _ (trip_word j hj) rfl rfl rfl rfl _ b i h d

/-- The chunk of keys that trip `j` reads. -/
theorem key_at (hj : j < 68) (b : Fin 4) (i : Fin 64) (h : Fin 4) (d : Fin 64) :
    b11 j s (ix4 b i h d) = s.main_v76_1 (ix5 ⟨j, hj⟩ b i h d) := by
  unfold b11 b10
  exact slice_chunk j hj _ _ (trip_word j hj) rfl rfl rfl rfl _ b i h d

/-- The chunk of values that trip `j` reads. -/
theorem value_at (hj : j < 68) (b : Fin 4) (i : Fin 64) (h : Fin 4) (d : Fin 64) :
    b17 j s (ix4 b i h d) = s.main_v76_2 (ix5 ⟨j, hj⟩ b i h d) := by
  unfold b17 b16
  exact slice_chunk j hj _ _ (trip_word j hj) rfl rfl rfl rfl _ b i h d

/-- The trip's slice of the heads' logarithms is its chunk `j`. -/
theorem slice_logs (hj : j < 68) (x : FVec Ideal S68x4x64x4x1 .f32) (st : Fin 5 → ℤ) (h0 : st 0 = j) (h1 : st 1 = 0) (h2 : st 2 = 0)
    (h3 : st 3 = 0) (h4 : st 4 = 0) (hs) (b : Fin 4) (i : Fin 64) (h : Fin 4) (k : Fin 1) :
    shapeCast S4x64x4x1 (Host.dynamicSlice S1x4x64x4x1 x st hs) shapeCasts_S1x4x64x4x1_S4x64x4x1 (ix4 b i h k)
      = x (ix5 ⟨j, hj⟩ b i h k) := by
  rw [Host.dynamicSlice_eq_extractStridedSlice _ x st ![j, 0, 0, 0, 0] hs ⟨rfl, fun a => by fin_cases a <;> simp [S68x4x64x4x1, S1x4x64x4x1]; omega⟩
    (fun a => by fin_cases a <;> simp [h0, h1, h2, h3, h4])]
  pointwise []
  rw [Subsingleton.elim k 0]

/-- Every entry of the logarithms' chunks is its head's logarithm. -/
theorem logs_at (n : Fin 68) (b : Fin 4) (i : Fin 64) (h : Fin 4) (k : Fin 1) :
    K_main_v74 (F := Ideal) (ix5 n b i h k) = ((Real.log (gamma h) : ℝ) : EReal) := by
  unfold K_main_v74 K_main_v73 K_main_v62 K_main_v58 K_main_v57 K_main_v21 K_main_v20
  pointwise []
  simp only [log_at, dite_eq_ite, ite_self]

/-- The logarithms that trip `j` reads. -/
theorem lg_at (hj : j < 68) (b : Fin 4) (i : Fin 64) (h : Fin 4) (k : Fin 1) :
    b23 j s (ix4 b i h k) = ((Real.log (gamma h) : ℝ) : EReal) := by
  unfold b23 b22
  exact (slice_logs j hj _ _ (trip_word j hj) rfl rfl rfl rfl _ b i h k).trans (logs_at _ b i h k)

/-- The running sum over a whole chunk. -/
theorem total_at (hj : j < 68) (b : Fin 4) (i : Fin 64) (h : Fin 4) (k : Fin 1) :
    b26 j s (ix4 b i h k) = ((((i.val + 1 : ℕ) : ℝ) * Real.log (gamma h) : ℝ) : EReal) := by
  unfold b26
  refine running _ _ ?_ (fun h => Real.log (gamma h)) (fun b i h k => lg_at j s hj b i h k) _ _ b i h k
  intro z
  unfold b25 b24
  pointwise []

/-- A head's logarithm is not positive. -/
theorem log_gamma_neg (h : ℕ) : Real.log (gamma h) ≤ 0 := by
  apply Real.log_nonpos (gamma_pos h).le
  unfold gamma
  have : (0:ℝ) ≤ 1 / 2 ^ (5 + h) := by positivity
  linarith

/-- The decayed scores of rows `i` and `k`. -/
theorem decay_at (a : EReal) (i k : ℕ) (h : ℕ) (w : BitVec 1) (hw : w = if k ≤ i then 1#1 else 0#1) :
    Scalar.select w (a * Ideal.exp (min (((((i + 1 : ℕ) : ℝ) * Real.log (gamma h) : ℝ) : EReal) - ((((k + 1 : ℕ) : ℝ) * Real.log (gamma h) : ℝ) : EReal)) 0)) 0
      = a * ((if k ≤ i then gamma h ^ (i - k) else 0 : ℝ) : EReal) := by
  rw [hw]
  by_cases hle : k ≤ i
  · rw [if_pos hle, if_pos hle, ValueIdx.select_one, ← exp_row, ← EReal.coe_sub]
    rw [show ((i + 1 : ℕ) : ℝ) * Real.log (gamma h) - ((k + 1 : ℕ) : ℝ) * Real.log (gamma h) = ((i - k : ℕ) : ℝ) * Real.log (gamma h) from by
      rw [Nat.cast_sub hle]; push_cast; ring]
    rw [min_eq_left, EReal.coe_mul]
    exact_mod_cast mul_nonpos_of_nonneg_of_nonpos (Nat.cast_nonneg _) (log_gamma_neg h)
  · rw [if_neg hle, if_neg hle, ValueIdx.select_zero, EReal.coe_zero, mul_zero]

section Trip

variable {Q K V : ℕ → ℕ → ℕ → ℝ}

/-- What the reference's arrays hold before trip `j`: the rows of all chunks and the recurrence's state. -/
structure Holds (j : ℕ) (s : State Ideal) (Q K V : ℕ → ℕ → ℕ → ℝ) : Prop where
  q : ∀ (n : Fin 68) (b : Fin 4) (i : Fin 64) (h : Fin 4) (d : Fin 64),
    s.main_v76_0 (ix5 n b i h d) = ((head (Q b) h (64 * n + i) d : ℝ) : EReal)
  k : ∀ (n : Fin 68) (b : Fin 4) (i : Fin 64) (h : Fin 4) (d : Fin 64),
    s.main_v76_1 (ix5 n b i h d) = ((head (K b) h (64 * n + i) d : ℝ) : EReal)
  v : ∀ (n : Fin 68) (b : Fin 4) (i : Fin 64) (h : Fin 4) (d : Fin 64),
    s.main_v76_2 (ix5 n b i h d) = ((head (V b) h (64 * n + i) d : ℝ) : EReal)
  st : ∀ (b : Fin 4) (h : Fin 4) (d e : Fin 64),
    s.main_v76_6 (ix4 b h d e) = ((state (gamma h) (head (K b) h) (head (V b) h) (64 * j) d e : ℝ) : EReal)
  out : ∀ (n : Fin 68) (b : Fin 4) (i : Fin 64) (h : Fin 4) (e : Fin 64), n.val < j →
    s.main_v76_7 (ix5 n b i h e) = ((output (gamma h) (head (Q b) h) (head (K b) h) (head (V b) h) (64 * n + i) e : ℝ) : EReal)

variable {j s}

/-- A decayed score of one chunk, over the reals. -/
theorem score_real (H : Holds j s Q K V) (hj : j < 68) (b : Fin 4) (i k : Fin 64) (h : Fin 4) :
    b44 j s (ix4 b i k h) = (((∑ d ∈ Finset.range 64, head (Q b) h (64 * j + i) d * head (K b) h (64 * j + k) d)
      * (if k.val ≤ i.val then gamma h ^ (i.val - k.val) else 0) : ℝ) : EReal) := by
  unfold b44 b43 b42 b41 b40 b39 b38 b37 b36 b35 b34 b33 b32 b31 b30 b29 b28 b27
  pointwise []
  rw [total_at _ _ hj, total_at _ _ hj, decay_at _ _ _ _ _ (mask_word i k)]
  rw [EReal.coe_mul, ← sum_fin]
  congr 1
  refine Finset.sum_congr rfl fun d _ => ?_
  rw [key_at j s hj, query_at j s hj, H.q, H.k, ← EReal.coe_mul, mul_comm]

/-- A chunk's result, over the reals. -/
theorem out_real (H : Holds j s Q K V) (hj : j < 68) (b : Fin 4) (i : Fin 64) (h : Fin 4) (e : Fin 64) :
    b65 j s (ix4 b i h e)
      = ((output (gamma h) (head (Q b) h) (head (K b) h) (head (V b) h) (64 * j + i) e : ℝ) : EReal) := by
  unfold b65 b46 b51 b45 b50 b49 b48 b47
  pointwise []
  rw [output_run _ _ _ _ _ 64 _ _ i.isLt, EReal.coe_add]
  congr 1
  · rw [← sum_fin]
    refine Finset.sum_congr rfl fun k _ => ?_
    rw [value_at j s hj, H.v, score_real H hj, ← EReal.coe_mul, mul_comm]
  · rw [Finset.mul_sum, ← sum_fin]
    refine Finset.sum_congr rfl fun d _ => ?_
    rw [query_at j s hj, H.q, H.st, total_at _ _ hj, EReal.coe_mul ((i.val + 1 : ℕ) : ℝ), exp_row, ← EReal.coe_mul, ← EReal.coe_mul]
    congr 1
    ring

/-- The state after a chunk, over the reals. -/
theorem state_real (H : Holds j s Q K V) (hj : j < 68) (b : Fin 4) (h : Fin 4) (d e : Fin 64) :
    b64 j s (ix4 b h d e) = ((state (gamma h) (head (K b) h) (head (V b) h) (64 * (j + 1)) d e : ℝ) : EReal) := by
  unfold b64 b63 b62 b61 b60 b59 b58 b57 b56 b55 b54 b53 b52
  pointwise []
  rw [Nat.mul_add, state_add, EReal.coe_add]
  congr 1
  · rw [total_at _ _ hj, EReal.coe_mul (((63 : Fin 64).val + 1 : ℕ) : ℝ), exp_row, H.st, ← EReal.coe_mul]
    rfl
  · rw [← sum_fin]
    refine Finset.sum_congr rfl fun k _ => ?_
    rw [key_at j s hj, value_at j s hj, H.v, H.k, total_at _ _ hj, total_at _ _ hj, ← EReal.coe_sub]
    have hk := k.isLt
    rw [show (((63 : Fin 64).val + 1 : ℕ) : ℝ) * Real.log (gamma h) - ((k.val + 1 : ℕ) : ℝ) * Real.log (gamma h)
        = ((64 * 1 - 1 - k.val : ℕ) : ℝ) * Real.log (gamma h) from by
      rw [show 64 * 1 - 1 - k.val = 63 - k.val from by omega, Nat.cast_sub (by omega)]
      show ((63 + 1 : ℕ) : ℝ) * _ - _ = _
      push_cast; ring]
    rw [EReal.coe_mul (((64 * 1 - 1 - k.val : ℕ) : ℝ)), exp_row, ← EReal.coe_mul, ← EReal.coe_mul]
    congr 1
    ring

/-- A write of one chunk at chunk `j`: chunk `j` is the written one, the others stay. -/
theorem write_chunk (hj : j < 68) (x : FVec Ideal S68x4x64x4x64 .f32) (u : FVec Ideal S1x4x64x4x64 .f32) (st : Fin 5 → ℤ)
    (h0 : st 0 = j) (h1 : st 1 = 0) (h2 : st 2 = 0)
    (h3 : st 3 = 0) (h4 : st 4 = 0) (hs) (n : Fin 68) (b : Fin 4) (i : Fin 64) (h : Fin 4) (d : Fin 64) :
    Host.dynamicUpdateSlice x u st hs (ix5 n b i h d) = if n.val = j then u (ix5 0 b i h d) else x (ix5 n b i h d) := by
  rw [Host.dynamicUpdateSlice_eq_updateSlice x u st hs ![j, 0, 0, 0, 0]
    (fun a => by fin_cases a <;> simp [h0, h1, h2, h3, h4, S68x4x64x4x64, S1x4x64x4x64]; omega)
    ⟨rfl, fun a => by fin_cases a <;> simp [S68x4x64x4x64, S1x4x64x4x64]; omega⟩]
  pointwise []
  by_cases hn : n.val = j
  · refine (dif_pos ⟨hn.ge, by omega⟩).trans ?_
    rw [if_pos hn]
    exact congrArg (fun k => u (ix5 k b i h d)) (Subsingleton.elim _ _)
  · refine (dif_neg (by omega)).trans ?_
    rw [if_neg hn]

/-- The buffer of outputs with the trip's chunk written: chunk `j` is the trip's, the others stay. -/
theorem buffer_at (hj : j < 68) (n : Fin 68) (b : Fin 4) (i : Fin 64) (h : Fin 4) (e : Fin 64) :
    b71 j s (ix5 n b i h e) = if n.val = j then b65 j s (ix4 b i h e) else s.main_v76_7 (ix5 n b i h e) := by
  have h66 : b66 j s (ix5 0 b i h e) = b65 j s (ix4 b i h e) := by
    unfold b66
    pointwise []
  rw [← h66]
  unfold b71
  exact write_chunk hj _ _ _ (trip_word j hj) rfl rfl rfl rfl _ n b i h e

/-- One trip keeps the invariant. -/
theorem holds_step (H : Holds j s Q K V) (hj : j < 68) : Holds (j + 1) (step j s) Q K V where
  q := H.q
  k := H.k
  v := H.v
  st b h d e := state_real H hj b h d e
  out n b i h e hn := by
    show b71 j s _ = _
    rw [buffer_at hj]
    by_cases hnj : n.val = j
    · rw [if_pos hnj, out_real H hj, hnj]
    · rw [if_neg hnj]
      exact H.out n b i h e (by omega)

end Trip

end Retention
-- ==== Proof.RefEntry.lean ====
/- What the reference's loop starts from: its buffers after the operations before the loop. -/
module

public import proofs.«01_k».proof.Proof.Gen.ReferenceIdeal.Run
public import proofs.«01_k».proof.Proof.Gen.ReferenceIdeal.Step
public import Idealize.ShloMosaic.Lib.Tactic

@[expose] public section

set_option maxRecDepth 65536

noncomputable section

namespace Retention

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

variable (m : (ℓ : Loc nD τ sig) → Buf (Elt F) ℓ) (c : Dev nD)

/-- The loop starts from the zero state. -/
theorem entry_6 : entryContents preI m c (Proc.devRef .tc main_v76_6) = K_main_v63 (F := F) := by
  simp only [entryContents, afterL_cons, afterL_nil]
  after_reads_simp
  rfl

/-- The loop starts from the zero buffer. -/
theorem entry_7 : entryContents preI m c (Proc.devRef .tc main_v76_7) = K_main_v75 (F := F) := by
  simp only [entryContents, afterL_cons, afterL_nil]
  after_reads_simp
  rfl

/-- The loop starts from the logarithms' chunks. -/
theorem entry_3 : entryContents preI m c (Proc.devRef .tc main_v76_3) = K_main_v74 (F := F) := by
  simp only [entryContents, afterL_cons, afterL_nil]
  after_reads_simp
  rfl

/-- The loop starts from the mask. -/
theorem entry_4 : entryContents preI m c (Proc.devRef .tc main_v76_4) = K_main_v66 (F := F) := by
  simp only [entryContents, afterL_cons, afterL_nil]
  after_reads_simp
  rfl

/-- The loop starts from the number zero. -/
theorem entry_5 : entryContents preI m c (Proc.devRef .tc main_v76_5) = constantI S_ 32 (BitVec.ofNat 32 0) := by
  simp only [entryContents, afterL_cons, afterL_nil]
  after_reads_simp
  rfl

set_option maxHeartbeats 1000000 in
/-- The loop starts from the queries. -/
theorem entry_0 : entryContents preI m c (Proc.devRef .tc main_v76_0) = A_main_v68 (m ((c.tc : Thread nD τ).loc main_arg0)) (m ((c.tc : Thread nD τ).loc main_arg1)) (m ((c.tc : Thread nD τ).loc main_arg2)) := by
  simp only [entryContents, afterL_cons, afterL_nil]
  after_reads_simp
  rfl

set_option maxHeartbeats 1000000 in
/-- The loop starts from the keys. -/
theorem entry_1 : entryContents preI m c (Proc.devRef .tc main_v76_1) = A_main_v70 (m ((c.tc : Thread nD τ).loc main_arg0)) (m ((c.tc : Thread nD τ).loc main_arg1)) (m ((c.tc : Thread nD τ).loc main_arg2)) := by
  simp only [entryContents, afterL_cons, afterL_nil]
  after_reads_simp
  rfl

/-- The loop starts from the values. -/
theorem entry_2 : entryContents preI m c (Proc.devRef .tc main_v76_2) = A_main_v72 (m ((c.tc : Thread nD τ).loc main_arg0)) (m ((c.tc : Thread nD τ).loc main_arg1)) (m ((c.tc : Thread nD τ).loc main_arg2)) := by
  simp only [entryContents, afterL_cons, afterL_nil]
  after_reads_simp
  rfl

end Retention
-- ==== Proof.RefTrips.lean ====
/- The reference's run, trip by trip: what the loop's buffers hold before each trip is a state of the sequence
   `init`, `step 0`, `step 1`, …; so the result is the one of state 68. -/
module

public import proofs.«01_k».proof.Proof.Gen.ReferenceIdeal.Run
public import proofs.«01_k».proof.Proof.Gen.ReferenceIdeal.Step
public import proofs.«01_k».proof.Proof.RefEntry
public import Idealize.ShloMosaic.Lib.Tactic

@[expose] public section

set_option maxRecDepth 65536

noncomputable section

namespace Retention

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]

/-- The state that a valuation of the loop's buffers holds. -/
def stateIn (V : Valuation τ sig (Elt F)) : State F where
  main_v76_6 := V (Proc.devRef .tc main_v76_6)
  main_v76_7 := V (Proc.devRef .tc main_v76_7)
  main_v76_0 := V (Proc.devRef .tc main_v76_0)
  main_v76_1 := V (Proc.devRef .tc main_v76_1)
  main_v76_2 := V (Proc.devRef .tc main_v76_2)

/-- The valuation before trip `j`: the state `s`, the trip's number, the logarithms' chunks and the mask. -/
structure Before (V : Valuation τ sig (Elt F)) (s : State F) (j : ℕ) : Prop where
  st : stateIn V = s
  num : V (Proc.devRef .tc main_v76_5) = constantI S_ 32 (BitVec.ofNat 32 j)
  logs : V (Proc.devRef .tc main_v76_3) = K_main_v74 (F := F)
  mask : V (Proc.devRef .tc main_v76_4) = K_main_v66 (F := F)

variable {V : Valuation τ sig (Elt F)} {s : State F} {j : ℕ}

/-- One trip's new state. -/
theorem next_state (h : Before V s j) : Cert.ReferenceIdeal.Value.step_main_v76_6 V = (step j s).main_v76_6 := by
  rw [← h.st]
  simp only [Cert.ReferenceIdeal.Value.step_main_v76_6, res_main_while0b_v81, res_main_while0b_v82, res_main_while0b_v105, res_main_while0b_v84]
  rw [h.num, h.logs]
  sl_kernel_rfl

/-- One trip's new result buffer. -/
theorem next_buffer (h : Before V s j) : Cert.ReferenceIdeal.Value.step_main_v76_7 V = (step j s).main_v76_7 := by
  rw [← h.st]
  simp only [Cert.ReferenceIdeal.Value.step_main_v76_7, res_main_while0b_v80, res_main_while0b_v81, res_main_while0b_v82, res_main_while0b_v84]
  rw [h.num, h.logs, h.mask]
  sl_kernel_rfl

/-- One trip's next number. -/
theorem next_number (h : Before V s j) : Cert.ReferenceIdeal.Value.step_main_v76_5 V = constantI S_ 32 (BitVec.ofNat 32 (j + 1)) := by
  unfold Cert.ReferenceIdeal.Value.step_main_v76_5
  rw [h.num]
  funext i
  show BitVec.ofNat 32 j + 1#32 = BitVec.ofNat 32 (j + 1)
  simp only [BitVec.ofNat_add]

/-- One trip takes the valuation to the next state and the next number. -/
theorem before_next (h : Before V s j) : Before (STEP V) (step j s) (j + 1) where
  st := by
    have e6 := (STEP_main_v76_6 V).trans (next_state h)
    have e7 := (STEP_main_v76_7 V).trans (next_buffer h)
    have e0 := STEP_main_v76_0 V
    have e1 := STEP_main_v76_1 V
    have e2 := STEP_main_v76_2 V
    unfold stateIn
    rw [e6, e7, e0, e1, e2, ← h.st]
    rfl
  num := (STEP_main_v76_5 V).trans (next_number h)
  logs := (STEP_main_v76_3 V).trans h.logs
  mask := (STEP_main_v76_4 V).trans h.mask

/-- The result read off a valuation is the result read off its state. -/
theorem result_of (h : Before V s j) : out_main_v79 V = R_main_v79 s := by
  rw [← h.st]
  unfold out_main_v79 R_main_v79
  rfl

variable (m : (ℓ : Loc nD τ sig) → Buf (Elt F) ℓ) (c : Dev nD)

/-- The reference's states, trip by trip. -/
def tripsOf (p : (⟨S4x4352x1024, .f32⟩ : BufTy).Contents (Elt F)) (cos sin : (⟨S4096x32, .f32⟩ : BufTy).Contents (Elt F)) : ℕ → State F
  | 0 => init p cos sin
  | n + 1 => step n (tripsOf p cos sin n)

/-- The states of a run's own arguments. -/
abbrev tripsAt : ℕ → State F :=
  tripsOf (m ((c.tc : Thread nD τ).loc main_arg0)) (m ((c.tc : Thread nD τ).loc main_arg1)) (m ((c.tc : Thread nD τ).loc main_arg2))

/-- The valuation before every trip. -/
theorem before_trips : ∀ n, Before (STEP^[n] (entryContents preI m c)) (tripsAt m c n) n
  | 0 => {
      st := by
        show stateIn (entryContents preI m c) = _
        unfold stateIn
        rw [entry_0, entry_1, entry_2, entry_6, entry_7]
        rfl
      num := entry_5 m c
      logs := entry_3 m c
      mask := entry_4 m c }
  | n + 1 => by
    rw [Function.iterate_succ_apply']
    exact before_next (before_trips n)

/-- Every run of the reference ends with the result read off state 68, its arguments unchanged. -/
theorem reference_run (ρ : Dev nD → PrngReg) :
    θ_run (defs (F := F)) (onTc (τ := τ) (main (F := F))) ⟨m, fun _ => 0, ρ⟩ fun r => ∀ c : Dev nD,
      r.2.mem ((c.tc : Thread nD τ).loc main_v79) = R_main_v79 (tripsAt m c 68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result_of (before_trips m c 68)), (h c).2⟩) (Value.run m ρ)

end Retention
-- ==== Proof.RefRows.lean ====
/- The reference's rows before its first trip: queries, keys and values, in chunks of 64 rows. -/
module

public import proofs.«01_k».proof.Proof.RefChunk
public import proofs.«01_k».proof.Proof.RefTrips

@[expose] public section

set_option maxRecDepth 65536

noncomputable section

namespace Retention

open Idealize.ShloMosaic Cert.ReferenceIdeal Cert.ReferenceIdeal.Gen Cert.ReferenceIdeal.Step

variable (p : FVec Ideal S4x4352x1024 .f32) (cos sin : FVec Ideal S4096x32 .f32)
  (fp : ∀ i, ((p i).toReal : EReal) = p i) (fc : ∀ i, ((cos i).toReal : EReal) = cos i) (fs : ∀ i, ((sin i).toReal : EReal) = sin i)

/-- All rows, in chunks: chunk `n`'s row `i` is row `64 n + i`. -/
theorem chunk_at (x : FVec Ideal S4x4352x4x64 .f32) (n : Fin 68) (b : Fin 4) (i : Fin 64) (h : Fin 4) (d : Fin 64) :
    transpose S68x4x64x4x64 [1, 0, 2, 3, 4] (shapeCast S4x68x64x4x64 x shapeCasts_S4x4352x4x64_S4x68x64x4x64)
        transposes_S4x68x64x4x64_S68x4x64x4x64_1_0_2_3_4 (ix5 n b i h d)
      = x (ix4 b ⟨64 * n.val + i.val, by omega⟩ h d) := by
  pointwise []
  congr 2
  exact Fin.ext (by show n.val * 64 + i.val = 64 * n.val + i.val; omega)

/-- The context's rows, then the latent rows. -/
theorem joined_at (x : FVec Ideal S4x256x4x64 .f32) (y : FVec Ideal S4x4096x4x64 .f32) (b : Fin 4) (t : Fin 4352) (h : Fin 4) (d : Fin 64)
    (r : ℝ) (hx : ∀ u : Fin 256, t.val = u.val → x (ix4 b u h d) = (r : EReal))
    (hy : ∀ u : Fin 4096, t.val = 256 + u.val → y (ix4 b u h d) = (r : EReal)) :
    concatenate S4x4352x4x64 1 [⟨S4x256x4x64, x⟩, ⟨S4x4096x4x64, y⟩] concatenates_S4x256x4x64_S4x4096x4x64_S4x4352x4x64_d1 (ix4 b t h d)
      = (r : EReal) := by
  pointwise []
  by_cases ht : t.val < 256
  · exact (dif_pos ht).trans (hx _ rfl)
  · exact (dif_neg ht).trans (hy _ (by show t.val = 256 + (t.val - 256); omega))

/-- The rotary turn of the latent rows: the first 32 lanes of a head against its last 32. -/
def turned (x : FVec Ideal S4x4096x4x64 .f32) : FVec Ideal S4x4096x4x64 .f32 :=
  concatenate S4x4096x4x64 3 [⟨S4x4096x4x32,
    subf (mulf (extractStridedSlice S4x4096x4x32 ![0, 0, 0, 0] x slices_S4x4096x4x64_S4x4096x4x32_0_0_0_0) (A_main_v33 (F := Ideal) p cos sin))
      (mulf (extractStridedSlice S4x4096x4x32 ![0, 0, 0, 32] x slices_S4x4096x4x64_S4x4096x4x32_0_0_0_32) (A_main_v35 (F := Ideal) p cos sin))⟩,
    ⟨S4x4096x4x32,
    addf (mulf (extractStridedSlice S4x4096x4x32 ![0, 0, 0, 32] x slices_S4x4096x4x64_S4x4096x4x32_0_0_0_32) (A_main_v38 (F := Ideal) p cos sin))
      (mulf (extractStridedSlice S4x4096x4x32 ![0, 0, 0, 0] x slices_S4x4096x4x64_S4x4096x4x32_0_0_0_0) (A_main_v40 (F := Ideal) p cos sin))⟩]
    concatenates_S4x4096x4x32_S4x4096x4x32_S4x4096x4x64_d3

/-- The cosine that a latent row and lane read. -/
theorem cosRow (b : Fin 4) (t : Fin 4096) (h : Fin 4) (j : Fin 32) :
    A_main_v33 (F := Ideal) p cos sin (ix4 b t h j) = cos (ix2 t j) := by
  unfold A_main_v33 A_main_v2
  pointwise []

/-- The sine that a latent row and lane read. -/
theorem sinRow (b : Fin 4) (t : Fin 4096) (h : Fin 4) (j : Fin 32) :
    A_main_v35 (F := Ideal) p cos sin (ix4 b t h j) = sin (ix2 t j) := by
  unfold A_main_v35 A_main_v3
  pointwise []

/-- A cosine argument as a real. -/
theorem realCos_at (a : FVec Ideal S4096x32 .f32) (fa : ∀ i, ((a i).toReal : EReal) = a i) (t : Fin 4096) (j : Fin 32) :
    ((realCos a (256 + t.val) j.val : ℝ) : EReal) = a (ix2 t j) := by
  unfold realCos
  rw [if_neg (by omega), dif_pos ⟨by omega, j.isLt⟩, fa]
  congr 2
  exact Fin.ext (by show 256 + t.val - 256 = t.val; omega)

/-- A sine argument as a real. -/
theorem realSin_at (a : FVec Ideal S4096x32 .f32) (fa : ∀ i, ((a i).toReal : EReal) = a i) (t : Fin 4096) (j : Fin 32) :
    ((realSin a (256 + t.val) j.val : ℝ) : EReal) = a (ix2 t j) := by
  unfold realSin
  rw [if_neg (by omega), dif_pos ⟨by omega, j.isLt⟩, fa]
  congr 2
  exact Fin.ext (by show 256 + t.val - 256 = t.val; omega)

include fc fs in
/-- The rotation of a latent row, over the reals. -/
theorem turned_at (x : FVec Ideal S4x4096x4x64 .f32) (Y : ℕ → ℕ → ℝ) (b : Fin 4)
    (hx : ∀ (t : Fin 4096) (h : Fin 4) (d : Fin 64), x (ix4 b t h d) = ((Y (256 + t) (64 * h + d) : ℝ) : EReal))
    (t : Fin 4096) (h : Fin 4) (d : Fin 64) :
    turned p cos sin x (ix4 b t h d)
      = ((rotary (Y (256 + t)) (realCos cos (256 + t)) (realSin sin (256 + t)) (64 * h + d) : ℝ) : EReal) := by
  have hd := d.isLt
  unfold turned
  rw [show A_main_v38 (F := Ideal) p cos sin = A_main_v33 (F := Ideal) p cos sin from rfl,
    show A_main_v40 (F := Ideal) p cos sin = A_main_v35 (F := Ideal) p cos sin from rfl]
  pointwise [cosRow, sinRow, hx]
  unfold rotary
  have hm : (64 * h.val + d.val) % 64 = d.val := by omega
  by_cases hlt : d.val < 32
  · refine (dif_pos hlt).trans ?_
    have h32 : (64 * h.val + d.val) % 32 = d.val := by omega
    rw [hm, if_pos hlt, h32, ← realCos_at cos fc t ⟨d.val, hlt⟩, ← realSin_at sin fs t ⟨d.val, hlt⟩, ← EReal.coe_mul, ← EReal.coe_mul, ← EReal.coe_sub]
    congr 1
    rw [show 64 * h.val + (32 + d.val) = 64 * h.val + d.val + 32 from by omega]
    ring
  · refine (dif_neg hlt).trans ?_
    have h32 : (64 * h.val + d.val) % 32 = d.val - 32 := by omega
    rw [hm, if_neg hlt, h32, ← realCos_at cos fc t ⟨d.val - 32, by omega⟩, ← realSin_at sin fs t ⟨d.val - 32, by omega⟩, ← EReal.coe_mul, ← EReal.coe_mul, ← EReal.coe_add]
    congr 1
    rw [show 64 * h.val + (32 + (d.val - 32)) = 64 * h.val + d.val from by omega,
      show 64 * h.val + (d.val - 32) = 64 * h.val + d.val - 32 from by omega]

/-- Without a turn the rows stay. -/
theorem rotary_context (x : ℕ → ℝ) (a a' : FVec Ideal S4096x32 .f32) (t l : ℕ) (ht : t < 256) :
    rotary x (realCos a t) (realSin a' t) l = x l := by
  unfold rotary realCos realSin
  simp [ht]

include fp in
/-- An entry of the projections as a real. -/
theorem realRows_at (b : Fin 4) (t : Fin 4352) (l : Fin 1024) : ((realRows p b t l : ℝ) : EReal) = p (ix3 b t l) := by
  unfold realRows
  rw [dif_pos ⟨b.isLt, t.isLt, l.isLt⟩, fp]

include fp in
/-- A context row's query. -/
theorem contextQuery (b : Fin 4) (t : Fin 256) (h : Fin 4) (d : Fin 64) :
    A_main_v17 (F := Ideal) p cos sin (ix4 b t h d) = ((realRows p b t (64 * h + d) * (1 / 8) : ℝ) : EReal) := by
  unfold A_main_v17 A_main_v15 K_main_v16 K_main_cst_1 A_main_v11 A_main_v0
  pointwise [eighth]
  rw [EReal.coe_mul, ← realRows_at p fp]
  congr 3
  show h.val * 64 + d.val = _; omega

include fp in
/-- A context row's key. -/
theorem contextKey (b : Fin 4) (t : Fin 256) (h : Fin 4) (d : Fin 64) :
    A_main_v18 (F := Ideal) p cos sin (ix4 b t h d) = ((realRows p b t (256 + (64 * h + d)) : ℝ) : EReal) := by
  unfold A_main_v18 A_main_v12 A_main_v0
  pointwise []
  rw [← realRows_at p fp]
  congr 2
  show 256 + (h.val * 64 + d.val) = _; omega

include fp in
/-- A context row's value. -/
theorem contextValue (b : Fin 4) (t : Fin 256) (h : Fin 4) (d : Fin 64) :
    A_main_v19 (F := Ideal) p cos sin (ix4 b t h d) = ((realRows p b t (512 + (64 * h + d)) : ℝ) : EReal) := by
  unfold A_main_v19 A_main_v13 A_main_v0
  pointwise []
  rw [← realRows_at p fp]
  congr 2
  show 512 + (h.val * 64 + d.val) = _; omega

include fp in
/-- A latent row's query. -/
theorem latentQuery (b : Fin 4) (t : Fin 4096) (h : Fin 4) (d : Fin 64) :
    A_main_v28 (F := Ideal) p cos sin (ix4 b t h d) = ((realRows p b (256 + t) (64 * h + d) * (1 / 8) : ℝ) : EReal) := by
  unfold A_main_v28 A_main_v26 K_main_v27 K_main_cst_2 A_main_v22 A_main_v1
  pointwise [eighth]
  rw [EReal.coe_mul, ← realRows_at p fp]
  congr 3
  show h.val * 64 + d.val = _; omega

include fp in
/-- A latent row's key. -/
theorem latentKey (b : Fin 4) (t : Fin 4096) (h : Fin 4) (d : Fin 64) :
    A_main_v29 (F := Ideal) p cos sin (ix4 b t h d) = ((realRows p b (256 + t) (256 + (64 * h + d)) : ℝ) : EReal) := by
  unfold A_main_v29 A_main_v23 A_main_v1
  pointwise []
  rw [← realRows_at p fp]
  congr 2
  show 256 + (h.val * 64 + d.val) = _; omega

include fp in
/-- A latent row's value. -/
theorem latentValue (b : Fin 4) (t : Fin 4096) (h : Fin 4) (d : Fin 64) :
    A_main_v30 (F := Ideal) p cos sin (ix4 b t h d) = ((realRows p b (256 + t) (512 + (64 * h + d)) : ℝ) : EReal) := by
  unfold A_main_v30 A_main_v24 A_main_v1
  pointwise []
  rw [← realRows_at p fp]
  congr 2
  show 512 + (h.val * 64 + d.val) = _; omega

include fp fc fs in
/-- The reference's queries, chunk by chunk. -/
theorem queries_at (n : Fin 68) (b : Fin 4) (i : Fin 64) (h : Fin 4) (d : Fin 64) :
    A_main_v68 (F := Ideal) p cos sin (ix5 n b i h d)
      = ((head (queries (realRows p) (realCos cos) (realSin sin) b) h (64 * n + i) d : ℝ) : EReal) := by
  unfold A_main_v68 A_main_v67
  refine (chunk_at _ n b i h d).trans ?_
  unfold A_main_v59
  refine joined_at _ _ b _ h d _ (fun u hu => ?_) (fun u hu => ?_)
  · simp only at hu
    unfold head queries
    rw [hu, contextQuery p cos sin fp, rotary_context _ _ _ _ _ u.isLt]
  · simp only at hu
    unfold head queries
    rw [hu]
    exact turned_at p cos sin fc fs (A_main_v28 (F := Ideal) p cos sin) (fun t l => realRows p b t l * (1 / 8)) b
      (fun t h d => latentQuery p cos sin fp b t h d) u h d

include fp fc fs in
/-- The reference's keys, chunk by chunk. -/
theorem keys_at (n : Fin 68) (b : Fin 4) (i : Fin 64) (h : Fin 4) (d : Fin 64) :
    A_main_v70 (F := Ideal) p cos sin (ix5 n b i h d)
      = ((head (keys (realRows p) (realCos cos) (realSin sin) b) h (64 * n + i) d : ℝ) : EReal) := by
  unfold A_main_v70 A_main_v69
  refine (chunk_at _ n b i h d).trans ?_
  unfold A_main_v60
  refine joined_at _ _ b _ h d _ (fun u hu => ?_) (fun u hu => ?_)
  · simp only at hu
    unfold head keys
    rw [hu, contextKey p cos sin fp, rotary_context _ _ _ _ _ u.isLt]
  · simp only at hu
    unfold head keys
    rw [hu]
    exact turned_at p cos sin fc fs (A_main_v29 (F := Ideal) p cos sin) (fun t l => realRows p b t (256 + l)) b
      (fun t h d => latentKey p cos sin fp b t h d) u h d

include fp in
/-- The reference's values, chunk by chunk. -/
theorem values_at (n : Fin 68) (b : Fin 4) (i : Fin 64) (h : Fin 4) (d : Fin 64) :
    A_main_v72 (F := Ideal) p cos sin (ix5 n b i h d)
      = ((head (values (realRows p) b) h (64 * n + i) d : ℝ) : EReal) := by
  unfold A_main_v72 A_main_v71
  refine (chunk_at _ n b i h d).trans ?_
  unfold A_main_v61
  refine joined_at _ _ b _ h d _ (fun u hu => ?_) (fun u hu => ?_)
  · simp only at hu
    unfold head values
    rw [hu, contextValue p cos sin fp]
  · simp only at hu
    unfold head values
    rw [hu, latentValue p cos sin fp]

include fp fc fs in
/-- The invariant holds before every trip. -/
theorem trips_holds (n : ℕ) (hn : n ≤ 68) : Holds n (tripsOf (F := Ideal) p cos sin n) (queries (realRows p) (realCos cos) (realSin sin))
    (keys (realRows p) (realCos cos) (realSin sin)) (values (realRows p)) := by
  induction n with
  | zero =>
    exact {
      q := queries_at p cos sin fp fc fs
      k := keys_at p cos sin fp fc fs
      v := values_at p cos sin fp
      st := fun b h d e => by
        show K_main_v63 (F := Ideal) (ix4 b h d e) = _
        unfold K_main_v63 K_main_cst_3
        pointwise []
        simp [state]
      out := fun n b i h e hn => absurd hn (Nat.not_lt_zero _) }
  | succ n ih => exact holds_step (ih (by omega)) (by omega)

include fp fc fs in
/-- The array the reference leaves: the recurrence at every row and lane. -/
theorem reference_at (b : Fin 4) (t : Fin 4352) (l : Fin 256) :
    R_main_v79 (tripsOf (F := Ideal) p cos sin 68) (ix3 b t l)
      = ((retention (realRows p) (realCos cos) (realSin sin) b t l : ℝ) : EReal) := by
  have H := trips_holds p cos sin fp fc fs 68 le_rfl
  unfold R_main_v79
  pointwise []
  rw [H.out _ _ _ _ _ (by show t.val / 64 < 68; omega)]
  unfold retention
  rw [show 64 * (⟨t.val / 64, by omega⟩ : Fin 68).val + (⟨t.val % 64, by omega⟩ : Fin 64).val = t.val from by
    show 64 * (t.val / 64) + t.val % 64 = t.val; omega]

end Retention
-- ==== Proof.RetClaim.lean ====
/- The claims about the retention: its frames, its named logarithms, and the equation of the two arrays. -/
module

public import proofs.«01_k».proof.Defs
public import proofs.«01_k».proof.Proof.RefRows
public import proofs.«01_k».proof.Proof.Gen.KernelIdeal.Frame
public import proofs.«01_k».proof.Proof.Gen.Pre_finite
public import Idealize.ShloMosaic.Lib.Quiescent

@[expose] public section

set_option maxRecDepth 65536

noncomputable section

namespace Retention

open Idealize.ShloMosaic Idealize.ShloMosaic.TcCoe Idealize.SL.Sem

/-- The retention kernel over exact numbers runs to its end, at rest, its arguments unchanged. -/
theorem frame_kernel : Cert.quiescent_KernelIdeal := fun m ρ _ => Cert.KernelIdeal.Gen.frame m ρ

/-- The same from finite arguments. -/
theorem frame_kernel_finite : Cert.quiescent_KernelIdeal_pre_finite := fun m ρ _ => Cert.KernelIdeal.Gen.frame m ρ

/-- The retention reference runs to its end, at rest, its arguments unchanged. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from finite arguments. -/
theorem frame_reference_finite : Cert.quiescent_ReferenceIdeal_pre_finite := fun m ρ _ => frame_reference m ρ trivial

/-- The four rounded logarithms stand for the logarithms of the heads' decays. -/
theorem preserves : Cert.preserves_Kernel_KernelIdeal :=
  ⟨IdealRules.named_const.statement Cert.KernelIdeal.κ "log_gamma_0" .f32 0xBD020AEC#32 _ rfl,
    IdealRules.named_const.statement Cert.KernelIdeal.κ "log_gamma_1" .f32 0xBC8102B3#32 _ rfl,
    IdealRules.named_const.statement Cert.KernelIdeal.κ "log_gamma_2" .f32 0xBC0080AC#32 _ rfl,
    IdealRules.named_const.statement Cert.KernelIdeal.κ "log_gamma_3" .f32 0xBB80402B#32 _ rfl⟩

/-- The constant infinity. -/
theorem infWord : Ideal.ofBits .f32 0x7F800000#32 = (⊤ : EReal) := by
  simp [Ideal.ofBits, Ideal.ieee]

/-- A number whose magnitude compares below infinity is real. -/
theorem real_of_abs (x : EReal) (h : FloatOps.cmpf (F := Ideal) (φ := .f32) .olt (FloatOps.absf (F := Ideal) (φ := .f32) x) (⊤ : EReal) = 1#1) :
    ((x.toReal : ℝ) : EReal) = x := by
  induction x using EReal.rec with
  | bot =>
    have h' : (if (max (⊥ : EReal) (-⊥)) < ⊤ then 1#1 else 0#1) = 1#1 := h
    simp at h'
  | top =>
    have h' : (if (max (⊤ : EReal) (-⊤)) < ⊤ then 1#1 else 0#1) = 1#1 := h
    simp at h'
  | coe r => rfl

/-- The arguments of a run that the precondition holds of are real numbers. -/
theorem finite_args (m) (h : Cert.Pre_KernelIdeal_finite m) (c : Dev Cert.KernelIdeal.nD) :
    (∀ i, (((m ((c : Thread Cert.KernelIdeal.nD Cert.KernelIdeal.τ).loc Cert.KernelIdeal.main_arg0) : FVec Ideal Cert.KernelIdeal.S4x4352x1024 .f32) i).toReal : EReal)
      = (m ((c : Thread Cert.KernelIdeal.nD Cert.KernelIdeal.τ).loc Cert.KernelIdeal.main_arg0) : FVec Ideal Cert.KernelIdeal.S4x4352x1024 .f32) i)
    ∧ (∀ i, (((m ((c : Thread Cert.KernelIdeal.nD Cert.KernelIdeal.τ).loc Cert.KernelIdeal.main_arg1) : FVec Ideal Cert.KernelIdeal.S4096x32 .f32) i).toReal : EReal)
      = (m ((c : Thread Cert.KernelIdeal.nD Cert.KernelIdeal.τ).loc Cert.KernelIdeal.main_arg1) : FVec Ideal Cert.KernelIdeal.S4096x32 .f32) i)
    ∧ (∀ i, (((m ((c : Thread Cert.KernelIdeal.nD Cert.KernelIdeal.τ).loc Cert.KernelIdeal.main_arg2) : FVec Ideal Cert.KernelIdeal.S4096x32 .f32) i).toReal : EReal)
      = (m ((c : Thread Cert.KernelIdeal.nD Cert.KernelIdeal.τ).loc Cert.KernelIdeal.main_arg2) : FVec Ideal Cert.KernelIdeal.S4096x32 .f32) i) := by
  obtain ⟨h0, h1, h2⟩ := h c
  refine ⟨fun i => real_of_abs _ ?_, fun i => real_of_abs _ ?_, fun i => real_of_abs _ ?_⟩
  · rw [← infWord]; exact congrFun h0 i
  · rw [← infWord]; exact congrFun h1 i
  · rw [← infWord]; exact congrFun h2 i

/-- From finite arguments the retention kernel and its reference leave the same array. -/
theorem equation : Cert.algebraic_KernelIdeal_ReferenceIdeal_pre_finite := by
  intro m ρ m' ρ' hpre hag
  refine ⟨fun c => Cert.KernelIdeal.Value.G5 m c, Cert.KernelIdeal.Value.run m ρ, ?_⟩
  refine (θ_run Cert.ReferenceIdeal.defs _ _).mono (fun _ h c => ⟨(h c).1.trans ?_, (h c).2⟩)
    (reference_run (F := Ideal) m' ρ')
  obtain ⟨e0, e1, e2⟩ := hag c
  obtain ⟨f0, f1, f2⟩ := finite_args m hpre c
  funext i
  idx_vars i
  unfold tripsAt
  rw [e0, e1, e2]
  exact (reference_at _ _ _ f0 f1 f2 i0 i1 i2).trans (final m c _ _ _ rfl rfl rfl f0 f1 f2 i0 i1 i2).symm

end Retention
-- ==== Proof.MixUnit.lean ====
/- The mixing and feed-forward kernel's operations, named: what its code computes for a half tile of 256 rows. -/
module

public import proofs.«01_k».proof.Proof.Gen.Kernel2Ideal.Frame

@[expose] public section

set_option maxRecDepth 65536

noncomputable section

namespace Mix

open Cert.Kernel2Ideal Cert.Kernel2Ideal.Gen Idealize.ShloMosaic Idealize.ShloMosaic.TcCoe

variable {F : FTy → Type} [FloatOps F]

/-- The root-mean-square normalisation of each row, times the weights. -/
def rms (x : FVec F S256x1024 .f32) (w : FVec F S1x1024 .f32) : FVec F S256x1024 .f32 :=
  mulf (mulf x (broadcastTo S256x1024 (rsqrt (addf (divf
      (shapeCast S256x1 (multiReduction .add [1] S256 (mulf x x) 0x00000000#32 reduces_S256x1024_S256 (.inl rfl) rfl)
        shapeCasts_S256_S256x1)
      (broadcast S256x1 (Scalar.ofBits .f32 0x44800000#32)))
      (broadcast S256x1 (Scalar.ofBits .f32 0x358637BD#32)))) broadcasts_S256x1_S256x1024))
    (broadcastTo S256x1024 w broadcasts_S1x1024_S256x1024)

/-- The output projection of a tile's three mixers side by side. -/
def proj (g : FVec F S512x256 .bf16) (s : FVec F S512x512 .bf16) (r : FVec F S512x256 .bf16)
    (wo : FVec F S1x1024x1024 .bf16) : FVec F S512x1024 .f32 :=
  matmul dot_S512x1024_S1024x1024_S512x1024_1_0_0_1_n_n none
    (concatenate S512x1024 1 [⟨S512x256, g⟩, ⟨S512x512, s⟩, ⟨S512x256, r⟩] concatenates_S512x256_S512x512_S512x256_S512x1024_d1)
    (shapeCast S1024x1024 wo shapeCasts_S1x1024x1024_S1024x1024) (constant S512x1024 .f32 0x00000000#32)

/-- One row of the modulation table. -/
def modRow (x : FVec F S1x1x6144 .f32) : FVec F S1x6144 .f32 := shapeCast S1x6144 x shapeCasts_S1x1x6144_S1x6144

/-- The residual after the mixers: the rows plus the gated normalised projection. -/
def mid (md : FVec F S1x6144 .f32) (h p : FVec F S256x1024 .f32) (w : FVec F S1x1024 .f32) : FVec F S256x1024 .f32 :=
  addf h (mulf (broadcastTo S256x1024 (extractStridedSlice S1x1024 ![0, 2048] md slices_S1x6144_o0_2048_S1x1024)
    broadcasts_S1x1024_S256x1024) (rms p w))

/-- The feed-forward's input: the residual normalised, scaled and shifted. -/
def hidden (md : FVec F S1x6144 .f32) (h1 : FVec F S256x1024 .f32) (w : FVec F S1x1024 .f32) : FVec F S256x1024 .bf16 :=
  truncf .bf16 (addf (mulf (rms h1 w) (broadcastTo S256x1024
      (addf (broadcast S1x1024 (Scalar.ofBits .f32 0x3F800000#32))
        (extractStridedSlice S1x1024 ![0, 4096] md slices_S1x6144_o0_4096_S1x1024)) broadcasts_S1x1024_S256x1024))
    (broadcastTo S256x1024 (extractStridedSlice S1x1024 ![0, 3072] md slices_S1x6144_o0_3072_S1x1024)
      broadcasts_S1x1024_S256x1024)) bitsLt_bf16_f32

/-- A block of 256 columns of the feed-forward's first product. -/
def gemm (hb : FVec F S512x1024 .bf16) (w : FVec F S1x1024x256 .bf16) : FVec F S512x256 .f32 :=
  matmul dot_S512x1024_S1024x256_S512x256_1_0_0_1_n_n none hb (shapeCast S1024x256 w shapeCasts_S1x1024x256_S1024x256)
    (constant S512x256 .f32 0x00000000#32)

/-- The gated activation of a block of columns. -/
def act (hb : FVec F S512x1024 .bf16) (wg wu : FVec F S1x1024x256 .bf16) : FVec F S512x256 .bf16 :=
  truncf .bf16 (mulf (mulf (gemm hb wg) (logistic (gemm hb wg))) (gemm hb wu)) bitsLt_bf16_f32

/-- The block's share of the feed-forward's second product. -/
def share (a : FVec F S512x256 .bf16) (w : FVec F S1x256x1024 .bf16) : FVec F S512x1024 .f32 :=
  matmul dot_S512x256_S256x1024_S512x1024_1_0_0_1_n_n none a (shapeCast S256x1024 w shapeCasts_S1x256x1024_S256x1024)
    (constant S512x1024 .f32 0x00000000#32)

/-- The result: the residual plus the gated normalised feed-forward. -/
def out (md : FVec F S1x6144 .f32) (h1 acc : FVec F S256x1024 .f32) (w : FVec F S1x1024 .f32) : FVec F S256x1024 .f32 :=
  addf h1 (mulf (broadcastTo S256x1024 (extractStridedSlice S1x1024 ![0, 5120] md slices_S1x6144_o0_5120_S1x1024)
    broadcasts_S1x1024_S256x1024) (rms acc w))

/-! ## The loads -/

/-- The rows of a tile from row `o` on. -/
def half (x : Vec F S512x1024 .f32) (o : ℕ) (ho : o ≤ 256) : FVec F S256x1024 .f32 :=
  View.ld x (Rect.unit ![o, 0] S256x1024.size (by intro a; fin_cases a <;> simp [S256x1024, S512x1024] <;> omega))

/-- A tile's half of the projection. -/
def cut (p : FVec F S512x1024 .f32) : ℕ → FVec F S256x1024 .f32
  | 0 => extractStridedSlice S256x1024 ![0, 0] p slices_S512x1024_o0_0_S256x1024
  | _ + 1 => extractStridedSlice S256x1024 ![256, 0] p slices_S512x1024_o256_0_S256x1024

/-- The whole of a tile of 512 by 256. -/
def all256 (x : Vec F S512x256 .bf16) : FVec F S512x256 .bf16 :=
  View.ld x (Rect.unit ![0, 0] S512x256.size inb_S512x256_S512x256_0_0)

/-- The whole of a tile of 512 by 512. -/
def all512 (x : Vec F S512x512 .bf16) : FVec F S512x512 .bf16 :=
  View.ld x (Rect.unit ![0, 0] S512x512.size inb_S512x512_S512x512_0_0)

/-- The whole of a tile of 512 by 1024. -/
def all1024 (x : Vec F S512x1024 .bf16) : FVec F S512x1024 .bf16 :=
  View.ld x (Rect.unit ![0, 0] S512x1024.size inb_S512x1024_S512x1024_0_0)

/-- The whole projection matrix. -/
def allWo (x : Vec F S1x1024x1024 .bf16) : FVec F S1x1024x1024 .bf16 :=
  View.ld x (Rect.unit ![0, 0, 0] S1x1024x1024.size inb_S1x1024x1024_S1x1024x1024_0_0_0)

/-- The whole of a row of weights. -/
def allW (x : Vec F S1x1024 .f32) : FVec F S1x1024 .f32 :=
  View.ld x (Rect.unit ![0, 0] S1x1024.size inb_S1x1024_S1x1024_0_0)

/-- One row of the modulation table, from a position. -/
def table (x : Vec F S8x1x6144 .f32) (off : Fin 3 → ℕ) (h : ∀ a, off a + S1x1x6144.size a ≤ S8x1x6144.size a) :
    FVec F S1x6144 .f32 := modRow (View.ld x (Rect.unit off S1x1x6144.size h))

/-- 256 columns of the feed-forward's first matrix, from column `o` on. -/
def cols (x : Vec F S1x1024x5632 .bf16) (o : ℕ) (ho : o ≤ 5376) : FVec F S1x1024x256 .bf16 :=
  View.ld x (Rect.unit ![0, 0, o] S1x1024x256.size (by intro a; fin_cases a <;> simp [S1x1024x256, S1x1024x5632] <;> omega))

/-- 256 rows of the feed-forward's second matrix, from row `o` on. -/
def rows (x : Vec F S1x2816x1024 .bf16) (o : ℕ) (ho : o ≤ 2560) : FVec F S1x256x1024 .bf16 :=
  View.ld x (Rect.unit ![0, o, 0] S1x256x1024.size (by intro a; fin_cases a <;> simp [S1x256x1024, S1x2816x1024] <;> omega))

/-- Chunk `n` of the feed-forward. -/
def chunk (hb : FVec F S512x1024 .bf16) (x12 : Vec F S1x1024x5632 .bf16) (x13 : Vec F S1x2816x1024 .bf16) (n : ℕ)
    (hn : n < 11) : FVec F S512x1024 .f32 :=
  share (act hb (cols x12 (256 * n) (by omega)) (cols x12 (2816 + 256 * n) (by omega))) (rows x13 (256 * n) (by omega))

/-- The feed-forward after chunks `0` to `n`. -/
def accOf (hb : FVec F S512x1024 .bf16) (x12 : Vec F S1x1024x5632 .bf16) (x13 : Vec F S1x2816x1024 .bf16) :
    (n : ℕ) → n < 11 → FVec F S512x1024 .f32
  | 0, h => chunk hb x12 x13 0 h
  | n + 1, h => addf (accOf hb x12 x13 n (by omega)) (chunk hb x12 x13 (n + 1) h)

/-! ## The stores -/

/-- The stores of the accumulator, last first, each reading the one before. -/
def accPieces {κ : Kind} {sp : Space} (v : View sig κ sp S512x1024 .f32) (hb : FVec F S512x1024 .bf16)
    (x12 : Vec F S1x1024x5632 .bf16) (x13 : Vec F S1x2816x1024 .bf16) :
    (n : ℕ) → n < 11 → List (View.Piece (Elt F) S512x1024 .f32)
  | 0, h => [⟨Rect.unit ![0, 0] S512x1024.size inb_S512x1024_S512x1024_0_0,
      shapeCast S512x1024 (chunk hb x12 x13 0 h) shapeCasts_S512x1024_S512x1024⟩]
  | n + 1, h => ⟨Rect.unit ![0, 0] S512x1024.size inb_S512x1024_S512x1024_0_0,
      shapeCast S512x1024 (addf (v.readCov (accPieces v hb x12 x13 n (by omega))
        (Rect.unit ![0, 0] S512x1024.size inb_S512x1024_S512x1024_0_0).toLoadRect)
        (chunk hb x12 x13 (n + 1) h)) shapeCasts_S512x1024_S512x1024⟩ :: accPieces v hb x12 x13 n (by omega)

/-- Two stores of half a tile each, the second half first. -/
def pieces {e : EltTy} (p q : S256x1024.Idx → Elt F e) : List (View.Piece (Elt F) S512x1024 e) :=
  [⟨Rect.unit ![256, 0] S256x1024.size inb_S512x1024_S256x1024_256_0, q⟩,
    ⟨Rect.unit ![0, 0] S256x1024.size inb_S512x1024_S256x1024_0_0, p⟩]

/-- The residual of a half tile, from the tile's blocks. -/
def midOf (x0 : Vec F S512x1024 .f32) (x1 : Vec F S512x256 .bf16) (x2 : Vec F S512x512 .bf16) (x3 : Vec F S512x256 .bf16)
    (x9 : Vec F S1x1024x1024 .bf16) (x10 : Vec F S1x1024 .f32) (md : FVec F S1x6144 .f32) (k : ℕ) (hk : k < 2) :
    FVec F S256x1024 .f32 :=
  mid md (half x0 (256 * k) (by omega)) (cut (proj (all256 x1) (all512 x2) (all256 x3) (allWo x9)) k) (allW x10)

/-- The feed-forward's input of a half tile, from the tile's blocks. -/
def hiddenOf (x0 : Vec F S512x1024 .f32) (x1 : Vec F S512x256 .bf16) (x2 : Vec F S512x512 .bf16) (x3 : Vec F S512x256 .bf16)
    (x9 : Vec F S1x1024x1024 .bf16) (x10 x11 : Vec F S1x1024 .f32) (md : FVec F S1x6144 .f32) (k : ℕ) (hk : k < 2) :
    FVec F S256x1024 .bf16 :=
  hidden md (midOf x0 x1 x2 x3 x9 x10 md k hk) (allW x11)

/-- The two stores of a tile's residual. -/
def midPieces (x0 : Vec F S512x1024 .f32) (x1 : Vec F S512x256 .bf16) (x2 : Vec F S512x512 .bf16) (x3 : Vec F S512x256 .bf16)
    (x9 : Vec F S1x1024x1024 .bf16) (x10 : Vec F S1x1024 .f32) (md md' : FVec F S1x6144 .f32) :
    List (View.Piece (Elt F) S512x1024 .f32) :=
  pieces (shapeCast S256x1024 (midOf x0 x1 x2 x3 x9 x10 md 0 (by omega)) shapeCasts_S256x1024_S256x1024)
    (shapeCast S256x1024 (midOf x0 x1 x2 x3 x9 x10 md' 1 (by omega)) shapeCasts_S256x1024_S256x1024)

/-- The two stores of a tile's feed-forward input. -/
def hiddenPieces (x0 : Vec F S512x1024 .f32) (x1 : Vec F S512x256 .bf16) (x2 : Vec F S512x512 .bf16) (x3 : Vec F S512x256 .bf16)
    (x9 : Vec F S1x1024x1024 .bf16) (x10 x11 : Vec F S1x1024 .f32) (md md' : FVec F S1x6144 .f32) :
    List (View.Piece (Elt F) S512x1024 .bf16) :=
  pieces (shapeCast S256x1024 (hiddenOf x0 x1 x2 x3 x9 x10 x11 md 0 (by omega)) shapeCasts_S256x1024_S256x1024)
    (shapeCast S256x1024 (hiddenOf x0 x1 x2 x3 x9 x10 x11 md' 1 (by omega)) shapeCasts_S256x1024_S256x1024)

/-- The two stores of a tile's result, from the residual and the feed-forward's input. -/
def outPieces {κ : Kind} {sp : Space} (v : View sig κ sp S512x1024 .f32) (h1 h1' : FVec F S256x1024 .f32)
    (hb : FVec F S512x1024 .bf16) (x12 : Vec F S1x1024x5632 .bf16) (x13 : Vec F S1x2816x1024 .bf16) (x14 : Vec F S1x1024 .f32)
    (md md' : FVec F S1x6144 .f32) : List (View.Piece (Elt F) S512x1024 .f32) :=
  pieces
    (out md h1 (v.readCov (accPieces v hb x12 x13 10 (by omega))
      (Rect.unit (s := S512x1024) ![0, 0] S256x1024.size inb_S512x1024_S256x1024_0_0).toLoadRect) (allW x14))
    (out md' h1' (v.readCov (accPieces v hb x12 x13 10 (by omega))
      (Rect.unit (s := S512x1024) ![256, 0] S256x1024.size inb_S512x1024_S256x1024_256_0).toLoadRect) (allW x14))

end Mix
-- ==== Proof.MixOpen.lean ====
/- What each grid point of the mixing and feed-forward kernel stores, in terms of the named operations. -/
module

public import Idealize.ShloMosaic.Lib.Tactic
public import proofs.«01_k».proof.Proof.MixUnit

@[expose] public section

set_option maxRecDepth 65536

noncomputable section

namespace Mix

open Cert.Kernel2Ideal Cert.Kernel2Ideal.Gen Idealize.ShloMosaic Idealize.ShloMosaic.TcCoe Idealize.ShloMosaic.Tactic

variable {F : FTy → Type} [FloatOps F]

/-- What a view of a whole buffer reads of a block put there. -/
abbrev rd {κ : Kind} {sp : Space} {s : Shape} {e : EltTy} (a : Memref sig κ sp s e) (h : a.IsWhole) (x : Vec F s e) : Vec F s e :=
  a.view.read (Elt F) (h.unread x)

/-- The feed-forward input the first grid point reads back. -/
theorem v200_rawA (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) (hq0 : ∀ a, ((![4, 0, 0] : Fin 3 → ℕ)) a + S1x1x6144.size a ≤ S8x1x6144.size a) (hq1 : ∀ a, ((![0, 0, 0] : Fin 3 → ℕ)) a + S1x1x6144.size a ≤ S8x1x6144.size a) :
    (kernelRun0_A.sl.v200 c i arg1 harg1 arg2 harg2 arg3 harg3 arg4 harg4 arg9 harg9 arg10 harg10 arg11 harg11 arg12 harg12 arg19 hc0 x0 x1 x2 x3 x8 x9 x10 x11)
      = (arg19.view.readCov (hiddenPieces (rd arg1 harg1 x0) (rd arg2 harg2 x1) (rd arg3 harg3 x2) (rd arg4 harg4 x3) (rd arg10 harg10 x9) (rd arg11 harg11 x10) (rd arg12 harg12 x11) (table (rd arg9 harg9 x8) (![4, 0, 0]) hq0) (table (rd arg9 harg9 x8) (![0, 0, 0]) hq1)) (Rect.unit ![0, 0] S512x1024.size inb_S512x1024_S512x1024_0_0).toLoadRect) := by sl_kernel_rfl

/-- The first half of the residual the first grid point reads back. -/
theorem v431_rawA (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) (hq0 : ∀ a, ((![4, 0, 0] : Fin 3 → ℕ)) a + S1x1x6144.size a ≤ S8x1x6144.size a) (hq1 : ∀ a, ((![0, 0, 0] : Fin 3 → ℕ)) a + S1x1x6144.size a ≤ S8x1x6144.size a) :
    (kernelRun0_A.sl.v431 c i arg1 harg1 arg2 harg2 arg3 harg3 arg4 harg4 arg9 harg9 arg10 harg10 arg11 harg11 arg17 hc0 x0 x1 x2 x3 x8 x9 x10)
      = (arg17.view.readCov (midPieces (rd arg1 harg1 x0) (rd arg2 harg2 x1) (rd arg3 harg3 x2) (rd arg4 harg4 x3) (rd arg10 harg10 x9) (rd arg11 harg11 x10) (table (rd arg9 harg9 x8) (![4, 0, 0]) hq0) (table (rd arg9 harg9 x8) (![0, 0, 0]) hq1)) (Rect.unit (s := S512x1024) ![0, 0] S256x1024.size inb_S512x1024_S256x1024_0_0).toLoadRect) := by sl_kernel_rfl

/-- The second half of the residual the first grid point reads back. -/
theorem v485_rawA (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) (hq0 : ∀ a, ((![4, 0, 0] : Fin 3 → ℕ)) a + S1x1x6144.size a ≤ S8x1x6144.size a) (hq1 : ∀ a, ((![0, 0, 0] : Fin 3 → ℕ)) a + S1x1x6144.size a ≤ S8x1x6144.size a) :
    (kernelRun0_A.sl.v485 c i arg1 harg1 arg2 harg2 arg3 harg3 arg4 harg4 arg9 harg9 arg10 harg10 arg11 harg11 arg17 hc0 x0 x1 x2 x3 x8 x9 x10)
      = (arg17.view.readCov (midPieces (rd arg1 harg1 x0) (rd arg2 harg2 x1) (rd arg3 harg3 x2) (rd arg4 harg4 x3) (rd arg10 harg10 x9) (rd arg11 harg11 x10) (table (rd arg9 harg9 x8) (![4, 0, 0]) hq0) (table (rd arg9 harg9 x8) (![0, 0, 0]) hq1)) (Rect.unit (s := S512x1024) ![256, 0] S256x1024.size inb_S512x1024_S256x1024_256_0).toLoadRect) := by sl_kernel_rfl

/-- The stores of the result at the first grid point. -/
theorem out_rawA (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) (hq0 : ∀ a, ((![4, 0, 0] : Fin 3 → ℕ)) a + S1x1x6144.size a ≤ S8x1x6144.size a) (hq1 : ∀ a, ((![0, 0, 0] : Fin 3 → ℕ)) a + S1x1x6144.size a ≤ S8x1x6144.size a) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14).1
      = outPieces arg21.view (kernelRun0_A.sl.v431 c i arg1 harg1 arg2 harg2 arg3 harg3 arg4 harg4 arg9 harg9 arg10 harg10 arg11 harg11 arg17 hc0 x0 x1 x2 x3 x8 x9 x10) (kernelRun0_A.sl.v485 c i arg1 harg1 arg2 harg2 arg3 harg3 arg4 harg4 arg9 harg9 arg10 harg10 arg11 harg11 arg17 hc0 x0 x1 x2 x3 x8 x9 x10) (kernelRun0_A.sl.v200 c i arg1 harg1 arg2 harg2 arg3 harg3 arg4 harg4 arg9 harg9 arg10 harg10 arg11 harg11 arg12 harg12 arg19 hc0 x0 x1 x2 x3 x8 x9 x10 x11) (rd arg13 harg13 x12) (rd arg14 harg14 x13) (rd arg15 harg15 x14) (table (rd arg9 harg9 x8) (k0_off3 i 0#32) ho0) (table (rd arg9 harg9 x8) (k0_off3 i 1#32) ho1) := by sl_kernel_rfl

/-- The stores of the next tile’s residual at the first grid point. -/
theorem mid_rawA (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) (hq0 : ∀ a, ((![4, 0, 0] : Fin 3 → ℕ)) a + S1x1x6144.size a ≤ S8x1x6144.size a) (hq1 : ∀ a, ((![0, 0, 0] : Fin 3 → ℕ)) a + S1x1x6144.size a ≤ S8x1x6144.size a) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14).2.2.1
      = midPieces (rd arg5 harg5 x4) (rd arg6 harg6 x5) (rd arg7 harg7 x6) (rd arg8 harg8 x7) (rd arg10 harg10 x9) (rd arg11 harg11 x10) (table (rd arg9 harg9 x8) (k0_off2 i 0#32) hp0) (table (rd arg9 harg9 x8) (k0_off2 i 1#32) hp1) := by sl_kernel_rfl

/-- The stores of the next tile’s feed-forward input at the first grid point. -/
theorem hid_rawA (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) (hq0 : ∀ a, ((![4, 0, 0] : Fin 3 → ℕ)) a + S1x1x6144.size a ≤ S8x1x6144.size a) (hq1 : ∀ a, ((![0, 0, 0] : Fin 3 → ℕ)) a + S1x1x6144.size a ≤ S8x1x6144.size a) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14).2.2.2.2.1
      = hiddenPieces (rd arg5 harg5 x4) (rd arg6 harg6 x5) (rd arg7 harg7 x6) (rd arg8 harg8 x7) (rd arg10 harg10 x9) (rd arg11 harg11 x10) (rd arg12 harg12 x11) (table (rd arg9 harg9 x8) (k0_off2 i 0#32) hp0) (table (rd arg9 harg9 x8) (k0_off2 i 1#32) hp1) := by sl_kernel_rfl

/-- The stores of the result at an odd grid point. -/
theorem out_rawB (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : ¬cond0_0 i) (hc1 : ¬cond0_1 i) (hc2 : cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (xs1 : Vec F S512x1024 .f32) (xs3 : Vec F S512x1024 .bf16) (hp0 : ∀ a, (k0_off4 i 0#32) a + S1x1x6144.size a ≤ S8x1x6144.size a) (hp1 : ∀ a, (k0_off4 i 1#32) a + S1x1x6144.size a ≤ S8x1x6144.size a) (ho0 : ∀ a, (k0_off5 i 0#32) a + S1x1x6144.size a ≤ S8x1x6144.size a) (ho1 : ∀ a, (k0_off5 i 1#32) a + S1x1x6144.size a ≤ S8x1x6144.size a) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 xs1 xs3).1
      = outPieces arg21.view (half (rd arg18 harg18 xs1) 0 (by omega)) (half (rd arg18 harg18 xs1) 256 (by omega)) (all1024 (rd arg20 harg20 xs3)) (rd arg13 harg13 x12) (rd arg14 harg14 x13) (rd arg15 harg15 x14) (table (rd arg9 harg9 x8) (k0_off5 i 0#32) ho0) (table (rd arg9 harg9 x8) (k0_off5 i 1#32) ho1) := by sl_kernel_rfl

/-- The stores of the next tile’s residual at an odd grid point. -/
theorem mid_rawB (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : ¬cond0_0 i) (hc1 : ¬cond0_1 i) (hc2 : cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (xs1 : Vec F S512x1024 .f32) (xs3 : Vec F S512x1024 .bf16) (hp0 : ∀ a, (k0_off4 i 0#32) a + S1x1x6144.size a ≤ S8x1x6144.size a) (hp1 : ∀ a, (k0_off4 i 1#32) a + S1x1x6144.size a ≤ S8x1x6144.size a) (ho0 : ∀ a, (k0_off5 i 0#32) a + S1x1x6144.size a ≤ S8x1x6144.size a) (ho1 : ∀ a, (k0_off5 i 1#32) a + S1x1x6144.size a ≤ S8x1x6144.size a) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 xs1 xs3).2.1
      = midPieces (rd arg5 harg5 x4) (rd arg6 harg6 x5) (rd arg7 harg7 x6) (rd arg8 harg8 x7) (rd arg10 harg10 x9) (rd arg11 harg11 x10) (table (rd arg9 harg9 x8) (k0_off4 i 0#32) hp0) (table (rd arg9 harg9 x8) (k0_off4 i 1#32) hp1) := by sl_kernel_rfl

/-- The stores of the next tile’s feed-forward input at an odd grid point. -/
theorem hid_rawB (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : ¬cond0_0 i) (hc1 : ¬cond0_1 i) (hc2 : cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (xs1 : Vec F S512x1024 .f32) (xs3 : Vec F S512x1024 .bf16) (hp0 : ∀ a, (k0_off4 i 0#32) a + S1x1x6144.size a ≤ S8x1x6144.size a) (hp1 : ∀ a, (k0_off4 i 1#32) a + S1x1x6144.size a ≤ S8x1x6144.size a) (ho0 : ∀ a, (k0_off5 i 0#32) a + S1x1x6144.size a ≤ S8x1x6144.size a) (ho1 : ∀ a, (k0_off5 i 1#32) a + S1x1x6144.size a ≤ S8x1x6144.size a) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 xs1 xs3).2.2.2.1
      = hiddenPieces (rd arg5 harg5 x4) (rd arg6 harg6 x5) (rd arg7 harg7 x6) (rd arg8 harg8 x7) (rd arg10 harg10 x9) (rd arg11 harg11 x10) (rd arg12 harg12 x11) (table (rd arg9 harg9 x8) (k0_off4 i 0#32) hp0) (table (rd arg9 harg9 x8) (k0_off4 i 1#32) hp1) := by sl_kernel_rfl

/-- The stores of the result at a later even grid point. -/
theorem out_rawC (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : ¬cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (xs0 : Vec F S512x1024 .f32) (xs2 : Vec F S512x1024 .bf16) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 xs0 xs2).1
      = outPieces arg21.view (half (rd arg17 harg17 xs0) 0 (by omega)) (half (rd arg17 harg17 xs0) 256 (by omega)) (all1024 (rd arg19 harg19 xs2)) (rd arg13 harg13 x12) (rd arg14 harg14 x13) (rd arg15 harg15 x14) (table (rd arg9 harg9 x8) (k0_off3 i 0#32) ho0) (table (rd arg9 harg9 x8) (k0_off3 i 1#32) ho1) := by sl_kernel_rfl

/-- The stores of the next tile’s residual at a later even grid point. -/
theorem mid_rawC (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : ¬cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (xs0 : Vec F S512x1024 .f32) (xs2 : Vec F S512x1024 .bf16) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 xs0 xs2).2.2.1
      = midPieces (rd arg5 harg5 x4) (rd arg6 harg6 x5) (rd arg7 harg7 x6) (rd arg8 harg8 x7) (rd arg10 harg10 x9) (rd arg11 harg11 x10) (table (rd arg9 harg9 x8) (k0_off2 i 0#32) hp0) (table (rd arg9 harg9 x8) (k0_off2 i 1#32) hp1) := by sl_kernel_rfl

/-- The stores of the next tile’s feed-forward input at a later even grid point. -/
theorem hid_rawC (c : Dev nD) (i : grid0.Coords) (arg1 : Memref sig .tc .vmem S512x1024 .f32) (harg1 : arg1.IsWhole) (arg2 : Memref sig .tc .vmem S512x256 .bf16) (harg2 : arg2.IsWhole) (arg3 : Memref sig .tc .vmem S512x512 .bf16) (harg3 : arg3.IsWhole) (arg4 : Memref sig .tc .vmem S512x256 .bf16) (harg4 : arg4.IsWhole) (arg5 : Memref sig .tc .vmem S512x1024 .f32) (harg5 : arg5.IsWhole) (arg6 : Memref sig .tc .vmem S512x256 .bf16) (harg6 : arg6.IsWhole) (arg7 : Memref sig .tc .vmem S512x512 .bf16) (harg7 : arg7.IsWhole) (arg8 : Memref sig .tc .vmem S512x256 .bf16) (harg8 : arg8.IsWhole) (arg9 : Memref sig .tc .vmem S8x1x6144 .f32) (harg9 : arg9.IsWhole) (arg10 : Memref sig .tc .vmem S1x1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024x5632 .bf16) (harg13 : arg13.IsWhole) (arg14 : Memref sig .tc .vmem S1x2816x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .f32) (harg17 : arg17.IsWhole) (arg18 : Memref sig .tc .vmem S512x1024 .f32) (harg18 : arg18.IsWhole) (arg19 : Memref sig .tc .vmem S512x1024 .bf16) (harg19 : arg19.IsWhole) (arg20 : Memref sig .tc .vmem S512x1024 .bf16) (harg20 : arg20.IsWhole) (arg21 : Memref sig .tc .vmem S512x1024 .f32) (harg21 : arg21.IsWhole) (hc0 : ¬cond0_0 i) (hc1 : cond0_1 i) (hc2 : ¬cond0_2 i)
    (x0 : Vec F S512x1024 .f32) (x1 : Vec F S512x256 .bf16) (x2 : Vec F S512x512 .bf16) (x3 : Vec F S512x256 .bf16) (x4 : Vec F S512x1024 .f32) (x5 : Vec F S512x256 .bf16) (x6 : Vec F S512x512 .bf16) (x7 : Vec F S512x256 .bf16) (x8 : Vec F S8x1x6144 .f32) (x9 : Vec F S1x1024x1024 .bf16) (x10 : Vec F S1x1024 .f32) (x11 : Vec F S1x1024 .f32) (x12 : Vec F S1x1024x5632 .bf16) (x13 : Vec F S1x2816x1024 .bf16) (x14 : Vec F S1x1024 .f32) (xs0 : Vec F S512x1024 .f32) (xs2 : Vec F S512x1024 .bf16) (hp0 : ∀ a, (k0_off2 i 0#32) a + S1x1x6144.size a ≤ S8x1x6144.size a) (hp1 : ∀ a, (k0_off2 i 1#32) a + S1x1x6144.size a ≤ S8x1x6144.size a) (ho0 : ∀ a, (k0_off3 i 0#32) a + S1x1x6144.size a ≤ S8x1x6144.size a) (ho1 : ∀ a, (k0_off3 i 1#32) a + S1x1x6144.size a ≤ S8x1x6144.size a) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 hc2 x0 x1 x2 x3 x4 x5 x6 x7 x8 x9 x10 x11 x12 x13 x14 xs0 xs2).2.2.2.2.1
      = hiddenPieces (rd arg5 harg5 x4) (rd arg6 harg6 x5) (rd arg7 harg7 x6) (rd arg8 harg8 x7) (rd arg10 harg10 x9) (rd arg11 harg11 x10) (rd arg12 harg12 x11) (table (rd arg9 harg9 x8) (k0_off2 i 0#32) hp0) (table (rd arg9 harg9 x8) (k0_off2 i 1#32) hp1) := by sl_kernel_rfl

end Mix
-- ==== Proof.MixSpec.lean ====
/- The mixing and feed-forward block on one row, over the extended reals, and the feed-forward's sum cut into blocks. -/
module

public import Idealize.ShloMosaic.Lib.Pointwise

@[expose] public section

noncomputable section

namespace Mix

open Idealize.ShloMosaic

/-- The root-mean-square normalisation of a row, times the weights. -/
def rmsRow (x w : Fin 1024 → EReal) (k : Fin 1024) : EReal :=
  x k * Ideal.rsqrt (Ideal.div (∑ j, x j * x j) (Ideal.ofBits .f32 0x44800000#32) + Ideal.ofBits .f32 0x358637BD#32) * w k

/-- The three mixers' rows side by side. -/
def mixedRow (g : Fin 256 → EReal) (s : Fin 512 → EReal) (r : Fin 256 → EReal) (x : Fin 1024) : EReal :=
  if h : x.val < 256 then g ⟨x.val, h⟩
  else if h' : x.val - 256 < 512 then s ⟨x.val - 256, h'⟩ else r ⟨x.val - 256 - 512, by omega⟩

/-- The output projection of a row. -/
def projRow (z : Fin 1024 → EReal) (wo : Fin 1024 → Fin 1024 → EReal) (k : Fin 1024) : EReal := ∑ x, z x * wo x k

/-- The residual row after the mixers. -/
def midRow (md : Fin 6144 → EReal) (h p w : Fin 1024 → EReal) (k : Fin 1024) : EReal :=
  h k + md ⟨2048 + k.val, by omega⟩ * rmsRow p w k

/-- The feed-forward's input row. -/
def hiddenRow (md : Fin 6144 → EReal) (h w : Fin 1024 → EReal) (k : Fin 1024) : EReal :=
  rmsRow h w k * (1 + md ⟨4096 + k.val, by omega⟩) + md ⟨3072 + k.val, by omega⟩

/-- The feed-forward's first product. -/
def gateRow (hb : Fin 1024 → EReal) (w : Fin 1024 → Fin 5632 → EReal) (n : Fin 5632) : EReal := ∑ x, hb x * w x n

/-- The gated activation. -/
def actRow (hb : Fin 1024 → EReal) (w : Fin 1024 → Fin 5632 → EReal) (n : Fin 2816) : EReal :=
  gateRow hb w ⟨n.val, by omega⟩ * Ideal.logistic (gateRow hb w ⟨n.val, by omega⟩) * gateRow hb w ⟨2816 + n.val, by omega⟩

/-- The feed-forward's second product. -/
def ffRow (hb : Fin 1024 → EReal) (w : Fin 1024 → Fin 5632 → EReal) (v : Fin 2816 → Fin 1024 → EReal) (k : Fin 1024) : EReal :=
  ∑ n, actRow hb w n * v n k

/-- The result row. -/
def outRow (md : Fin 6144 → EReal) (h ff w : Fin 1024 → EReal) (k : Fin 1024) : EReal :=
  h k + md ⟨5120 + k.val, by omega⟩ * rmsRow ff w k

/-- One term of the feed-forward's second product, zero past the end. -/
def term (hb : Fin 1024 → EReal) (w : Fin 1024 → Fin 5632 → EReal) (v : Fin 2816 → Fin 1024 → EReal) (k : Fin 1024) (n : ℕ) :
    EReal :=
  if h : n < 2816 then actRow hb w ⟨n, h⟩ * v ⟨n, h⟩ k else 0

/-- The second product is the sum of its terms. -/
theorem ffRow_eq (hb : Fin 1024 → EReal) (w : Fin 1024 → Fin 5632 → EReal) (v : Fin 2816 → Fin 1024 → EReal) (k : Fin 1024) :
    ffRow hb w v k = ∑ n ∈ Finset.range 2816, term hb w v k n := by
  rw [Finset.sum_range]
  refine Finset.sum_congr rfl fun n _ => ?_
  unfold term
  rw [dif_pos n.isLt]

/-- A further block of 256 terms. -/
theorem block_add (f : ℕ → EReal) (n : ℕ) :
    ∑ j ∈ Finset.range (256 * (n + 1)), f j + ∑ x : Fin 256, f (256 * (n + 1) + x.val)
      = ∑ j ∈ Finset.range (256 * (n + 1 + 1)), f j := by
  rw [show 256 * (n + 1 + 1) = 256 * (n + 1) + 256 by ring, Finset.sum_range_add, ← Finset.sum_range (fun x => f (256 * (n + 1) + x))]

/-- The whole block on one row. -/
def resultRow (md : Fin 6144 → EReal) (h : Fin 1024 → EReal) (z : Fin 1024 → EReal) (wo : Fin 1024 → Fin 1024 → EReal)
    (w10 w11 : Fin 1024 → EReal) (w12 : Fin 1024 → Fin 5632 → EReal) (w13 : Fin 2816 → Fin 1024 → EReal) (w14 : Fin 1024 → EReal) :
    Fin 1024 → EReal :=
  outRow md (midRow md h (projRow z wo) w10)
    (ffRow (hiddenRow md (midRow md h (projRow z wo) w10) w11) w12 w13) w14

end Mix
-- ==== Proof.MixLanes.lean ====
/- The mixing and feed-forward kernel's named operations, read at an index over the extended reals. -/
module

public import proofs.«01_k».proof.Proof.MixUnit
public import proofs.«01_k».proof.Proof.MixSpec
public import Idealize.ShloMosaic.Lib.Tactic
public import Idealize.ShloMosaic.Lib.Pipeline.Value

@[expose] public section

set_option maxRecDepth 65536

noncomputable section

namespace Mix

open Cert.Kernel2Ideal Cert.Kernel2Ideal.Gen Idealize.ShloMosaic Idealize.ShloMosaic.TcCoe Idealize.ShloMosaic.Tactic

/-- The normalisation of a row. -/
theorem rms_at (x : FVec Ideal S256x1024 .f32) (w : FVec Ideal S1x1024 .f32) (r : Fin 256) (k : Fin 1024) :
    rms x w (ix2 r k) = rmsRow (fun j => x (ix2 r j)) (fun j => w (ix2 0 j)) k := by
  unfold rms
  pointwise []
  rfl

/-- The projection of a row. -/
theorem proj_at (g : FVec Ideal S512x256 .bf16) (s : FVec Ideal S512x512 .bf16) (r : FVec Ideal S512x256 .bf16)
    (wo : FVec Ideal S1x1024x1024 .bf16) (i : Fin 512) (k : Fin 1024) :
    proj g s r wo (ix2 i k)
      = projRow (mixedRow (fun j => g (ix2 i j)) (fun j => s (ix2 i j)) (fun j => r (ix2 i j))) (fun x k => wo (ix3 0 x k)) k := by
  unfold proj
  pointwise []
  rfl

/-- The residual row. -/
theorem mid_at (md : FVec Ideal S1x6144 .f32) (h p : FVec Ideal S256x1024 .f32) (w : FVec Ideal S1x1024 .f32) (r : Fin 256)
    (k : Fin 1024) :
    mid md h p w (ix2 r k)
      = midRow (fun l => md (ix2 0 l)) (fun j => h (ix2 r j)) (fun j => p (ix2 r j)) (fun j => w (ix2 0 j)) k := by
  unfold mid
  pointwise []
  rw [rms_at]
  rfl

/-- The feed-forward's input row. -/
theorem hidden_at (md : FVec Ideal S1x6144 .f32) (h : FVec Ideal S256x1024 .f32) (w : FVec Ideal S1x1024 .f32) (r : Fin 256)
    (k : Fin 1024) :
    hidden md h w (ix2 r k) = hiddenRow (fun l => md (ix2 0 l)) (fun j => h (ix2 r j)) (fun j => w (ix2 0 j)) k := by
  unfold hidden
  pointwise []
  rw [rms_at]
  rfl

/-- The result row. -/
theorem out_at (md : FVec Ideal S1x6144 .f32) (h acc : FVec Ideal S256x1024 .f32) (w : FVec Ideal S1x1024 .f32) (r : Fin 256)
    (k : Fin 1024) :
    out md h acc w (ix2 r k)
      = outRow (fun l => md (ix2 0 l)) (fun j => h (ix2 r j)) (fun j => acc (ix2 r j)) (fun j => w (ix2 0 j)) k := by
  unfold out
  pointwise []
  rw [rms_at]
  rfl

/-- A block of columns of the first product. -/
theorem gemm_at (hb : FVec Ideal S512x1024 .bf16) (w : FVec Ideal S1x1024x256 .bf16) (i : Fin 512) (k : Fin 256) :
    gemm hb w (ix2 i k) = ∑ x, hb (ix2 i x) * w (ix3 0 x k) := by
  unfold gemm
  pointwise []

/-- The activation of a block of columns. -/
theorem act_at (hb : FVec Ideal S512x1024 .bf16) (wg wu : FVec Ideal S1x1024x256 .bf16) (i : Fin 512) (k : Fin 256) :
    act hb wg wu (ix2 i k) = gemm hb wg (ix2 i k) * Ideal.logistic (gemm hb wg (ix2 i k)) * gemm hb wu (ix2 i k) := by
  unfold act
  pointwise []

/-- The block's share of the second product. -/
theorem share_at (a : FVec Ideal S512x256 .bf16) (w : FVec Ideal S1x256x1024 .bf16) (i : Fin 512) (k : Fin 1024) :
    share a w (ix2 i k) = ∑ x, a (ix2 i x) * w (ix3 0 x k) := by
  unfold share
  pointwise []

/-! ## The loads -/

/-- An entry of half a tile. -/
theorem half_at (x : Vec Ideal S512x1024 .f32) (o : ℕ) (ho : o ≤ 256) (r : Fin 256) (k : Fin 1024) :
    half x o ho (ix2 r k) = x (ix2 ⟨o + r.val, by omega⟩ k) := by
  unfold half
  show x _ = x _
  congr 1
  funext a
  apply Fin.ext
  fin_cases a <;> simp [LoadRect.idx_apply, Rect.unit, ix2]

/-- An entry of half the projection. -/
theorem cut_at (p : FVec Ideal S512x1024 .f32) (k : ℕ) (hk : k < 2) (r : Fin 256) (l : Fin 1024) :
    cut p k (ix2 r l) = p (ix2 ⟨256 * k + r.val, by omega⟩ l) := by
  match k, hk with
  | 0, _ =>
    unfold cut
    pointwise []
  | 1, _ =>
    unfold cut
    pointwise []

/-- Loading all of a block. -/
theorem all256_eq (x : Vec Ideal S512x256 .bf16) : all256 x = x := View.ld_unit_zero (by funext a; fin_cases a <;> rfl) _ x

/-- Loading all of a block. -/
theorem all512_eq (x : Vec Ideal S512x512 .bf16) : all512 x = x := View.ld_unit_zero (by funext a; fin_cases a <;> rfl) _ x

/-- Loading all of a block. -/
theorem all1024_eq (x : Vec Ideal S512x1024 .bf16) : all1024 x = x := View.ld_unit_zero (by funext a; fin_cases a <;> rfl) _ x

/-- Loading all of a block. -/
theorem allWo_eq (x : Vec Ideal S1x1024x1024 .bf16) : allWo x = x := View.ld_unit_zero (by funext a; fin_cases a <;> rfl) _ x

/-- Loading all of a block. -/
theorem allW_eq (x : Vec Ideal S1x1024 .f32) : allW x = x := View.ld_unit_zero (by funext a; fin_cases a <;> rfl) _ x

/-- An entry of a row of the modulation table. -/
theorem table_at (x : Vec Ideal S8x1x6144 .f32) (off : Fin 3 → ℕ) (h : ∀ a, off a + S1x1x6144.size a ≤ S8x1x6144.size a)
    (q : Fin 8) (hq : off = ![q.val, 0, 0]) (l : Fin 6144) : table x off h (ix2 0 l) = x (ix3 q 0 l) := by
  subst hq
  have e : ∀ y : FVec Ideal S1x1x6144 .f32, modRow y (ix2 0 l) = y (ix3 0 0 l) := by
    intro y
    unfold modRow
    pointwise []
  unfold table
  rw [e]
  show x _ = x _
  congr 1
  funext a
  apply Fin.ext
  fin_cases a <;> simp [LoadRect.idx_apply, Rect.unit, ix3]

/-- An entry of a block of columns. -/
theorem cols_at (x : Vec Ideal S1x1024x5632 .bf16) (o : ℕ) (ho : o ≤ 5376) (r : Fin 1024) (k : Fin 256) :
    cols x o ho (ix3 0 r k) = x (ix3 0 r ⟨o + k.val, by omega⟩) := by
  unfold cols
  show x _ = x _
  congr 1
  funext a
  apply Fin.ext
  fin_cases a <;> simp [LoadRect.idx_apply, Rect.unit, ix3]

/-- An entry of a block of rows. -/
theorem rows_at (x : Vec Ideal S1x2816x1024 .bf16) (o : ℕ) (ho : o ≤ 2560) (r : Fin 256) (k : Fin 1024) :
    rows x o ho (ix3 0 r k) = x (ix3 0 ⟨o + r.val, by omega⟩ k) := by
  unfold rows
  show x _ = x _
  congr 1
  funext a
  apply Fin.ext
  fin_cases a <;> simp [LoadRect.idx_apply, Rect.unit, ix3]

/-- A chunk of the feed-forward is 256 of its terms. -/
theorem chunk_at (hb : FVec Ideal S512x1024 .bf16) (x12 : Vec Ideal S1x1024x5632 .bf16) (x13 : Vec Ideal S1x2816x1024 .bf16)
    (n : ℕ) (hn : n < 11) (i : Fin 512) (k : Fin 1024) :
    chunk hb x12 x13 n hn (ix2 i k)
      = ∑ x : Fin 256, term (fun j => hb (ix2 i j)) (fun a b => x12 (ix3 0 a b)) (fun a b => x13 (ix3 0 a b)) k (256 * n + x.val) := by
  unfold chunk
  rw [share_at]
  refine Finset.sum_congr rfl fun x _ => ?_
  rw [act_at, gemm_at, gemm_at, rows_at]
  simp only [cols_at]
  unfold term
  rw [dif_pos (by omega)]
  unfold actRow gateRow
  simp only [Nat.add_assoc]

/-- The accumulator after chunk `n` is the sum of the terms so far. -/
theorem accOf_at (hb : FVec Ideal S512x1024 .bf16) (x12 : Vec Ideal S1x1024x5632 .bf16) (x13 : Vec Ideal S1x2816x1024 .bf16)
    (n : ℕ) (hn : n < 11) (i : Fin 512) (k : Fin 1024) :
    accOf hb x12 x13 n hn (ix2 i k)
      = ∑ j ∈ Finset.range (256 * (n + 1)),
          term (fun j => hb (ix2 i j)) (fun a b => x12 (ix3 0 a b)) (fun a b => x13 (ix3 0 a b)) k j := by
  induction n with
  | zero =>
    rw [show 256 * (0 + 1) = 256 from rfl, Finset.sum_range]
    refine (chunk_at hb x12 x13 0 hn i k).trans ?_
    simp only [Nat.mul_zero, Nat.zero_add]
  | succ n ih =>
    rw [← block_add, ← ih (by omega), ← chunk_at hb x12 x13 (n + 1) hn]
    rfl

/-- The accumulator at the end is the feed-forward's second product. -/
theorem acc_at (hb : FVec Ideal S512x1024 .bf16) (x12 : Vec Ideal S1x1024x5632 .bf16) (x13 : Vec Ideal S1x2816x1024 .bf16)
    (i : Fin 512) (k : Fin 1024) :
    accOf hb x12 x13 10 (by omega) (ix2 i k)
      = ffRow (fun j => hb (ix2 i j)) (fun a b => x12 (ix3 0 a b)) (fun a b => x13 (ix3 0 a b)) k := by
  rw [accOf_at, ffRow_eq]

end Mix
-- ==== Proof.MixTile.lean ====
/- What a grid point's stores leave in a tile of 512 rows, row by row, over the extended reals. -/
module

public import proofs.«01_k».proof.Proof.MixLanes

@[expose] public section

set_option maxRecDepth 65536

noncomputable section

namespace Mix

open Cert.Kernel2Ideal Cert.Kernel2Ideal.Gen Idealize.ShloMosaic Idealize.ShloMosaic.TcCoe Idealize.ShloMosaic.Tactic

/-- A tile from its two halves. -/
def both {e : EltTy} (p q : S256x1024.Idx → Elt Ideal e) : S512x1024.Idx → Elt Ideal e := fun y =>
  if h : (y 0).val < 256 then p (ix2 ⟨(y 0).val, h⟩ ⟨(y 1).val, (y 1).isLt⟩)
  else q (ix2 ⟨(y 0).val - 256, by have h : (y 0).val < 512 := (y 0).isLt; omega⟩ ⟨(y 1).val, (y 1).isLt⟩)

/-- Two stores of half a tile each leave the tile. -/
theorem canon_pieces {e : EltTy} (p q : S256x1024.Idx → Elt Ideal e) : View.canon (pieces p q) = both p q := by
  funext y
  refine View.canon_apply_of_pieces (both p q) (pieces p q) ?_ y (View.cover_of_tiledL (pieces p q) S256x1024.size (by sl_kernel_rfl) y)
  intro t ht
  simp only [pieces, List.mem_cons, List.not_mem_nil, or_false] at ht
  rcases ht with rfl | rfl
  · intro x
    change S256x1024.Idx at x
    idx_vars x
    have hx := x0.isLt
    unfold both
    refine Eq.trans ?_ (dif_neg ?_).symm
    · show q _ = q _
      congr 1
      refine congrArg₂ ix2 (Fin.ext ?_) (Fin.ext ?_)
      · show x0.val = 256 + 1 * x0.val - 256; omega
      · show x1.val = 0 + 1 * x1.val; omega
    · show ¬ 256 + 1 * x0.val < 256; omega
  · intro x
    change S256x1024.Idx at x
    idx_vars x
    have hx := x0.isLt
    unfold both
    refine Eq.trans ?_ (dif_pos ?_).symm
    · show p _ = p _
      congr 1
      refine congrArg₂ ix2 (Fin.ext ?_) (Fin.ext ?_)
      · show x0.val = 0 + 1 * x0.val; omega
      · show x1.val = 0 + 1 * x1.val; omega
    · show 0 + 1 * x0.val < 256; omega

/-- A tile in the first half. -/
theorem both_lo {e : EltTy} (p q : S256x1024.Idx → Elt Ideal e) (i : Fin 512) (k : Fin 1024) (h : i.val < 256) :
    both p q (ix2 i k) = p (ix2 ⟨i.val, h⟩ k) := dif_pos h

/-- A tile in the second half. -/
theorem both_hi {e : EltTy} (p q : S256x1024.Idx → Elt Ideal e) (i : Fin 512) (k : Fin 1024) (h : ¬ i.val < 256) :
    both p q (ix2 i k) = q (ix2 ⟨i.val - 256, by omega⟩ k) := dif_neg h

/-- Recasting to the same shape. -/
theorem cast_half (x : FVec Ideal S256x1024 .f32) (r : Fin 256) (k : Fin 1024) :
    (shapeCast S256x1024 x shapeCasts_S256x1024_S256x1024 : FVec Ideal S256x1024 .f32) (ix2 r k) = x (ix2 r k) := by pointwise []

/-- Recasting to the same shape. -/
theorem cast_half' (x : FVec Ideal S256x1024 .bf16) (r : Fin 256) (k : Fin 1024) :
    (shapeCast S256x1024 x shapeCasts_S256x1024_S256x1024 : FVec Ideal S256x1024 .bf16) (ix2 r k) = x (ix2 r k) := by pointwise []

/-- Recasting to the same shape. -/
theorem cast_tile (x : FVec Ideal S512x1024 .f32) :
    (shapeCast S512x1024 x shapeCasts_S512x1024_S512x1024 : FVec Ideal S512x1024 .f32) = x := by
  funext y
  change S512x1024.Idx at y
  idx_vars y
  pointwise []

/-- Reading back all of what the stores left. -/
theorem readAll {κ : Kind} {sp : Space} {e : EltTy} (v : View sig κ sp S512x1024 e) (L : List (View.Piece (Elt Ideal) S512x1024 e)) :
    v.readCov L (Rect.unit (s := S512x1024) ![0, 0] S512x1024.size inb_S512x1024_S512x1024_0_0).toLoadRect = View.canon L := by
  rw [View.readCov_eq_canon']
  exact View.ld_unit_zero (by funext a; fin_cases a <;> rfl) _ (View.canon L)

/-- Reading back the first half of what the stores left. -/
theorem readLo {κ : Kind} {sp : Space} {e : EltTy} (v : View sig κ sp S512x1024 e) (L : List (View.Piece (Elt Ideal) S512x1024 e))
    (r : Fin 256) (k : Fin 1024) :
    v.readCov L (Rect.unit (s := S512x1024) ![0, 0] S256x1024.size inb_S512x1024_S256x1024_0_0).toLoadRect (ix2 r k)
      = View.canon L (ix2 ⟨r.val, by omega⟩ k) := by
  rw [View.readCov_eq_canon']
  show View.canon L _ = View.canon L _
  congr 1
  funext a
  apply Fin.ext
  fin_cases a <;> simp [LoadRect.idx_apply, Rect.unit, ix2]

/-- Reading back the second half of what the stores left. -/
theorem readHi {κ : Kind} {sp : Space} {e : EltTy} (v : View sig κ sp S512x1024 e) (L : List (View.Piece (Elt Ideal) S512x1024 e))
    (r : Fin 256) (k : Fin 1024) :
    v.readCov L (Rect.unit (s := S512x1024) ![256, 0] S256x1024.size inb_S512x1024_S256x1024_256_0).toLoadRect (ix2 r k)
      = View.canon L (ix2 ⟨256 + r.val, by omega⟩ k) := by
  rw [View.readCov_eq_canon']
  show View.canon L _ = View.canon L _
  congr 1
  funext a
  apply Fin.ext
  fin_cases a <;> simp [LoadRect.idx_apply, Rect.unit, ix2]

/-- The accumulator's stores leave the accumulator. -/
theorem canon_acc {κ : Kind} {sp : Space} (v : View sig κ sp S512x1024 .f32) (hb : FVec Ideal S512x1024 .bf16)
    (x12 : Vec Ideal S1x1024x5632 .bf16) (x13 : Vec Ideal S1x2816x1024 .bf16) (n : ℕ) (hn : n < 11) :
    View.canon (accPieces v hb x12 x13 n hn) = accOf hb x12 x13 n hn := by
  induction n with
  | zero =>
    refine (View.canon_cons_unit_zero (by funext a; fin_cases a <;> rfl) _ _ _).trans ?_
    exact cast_tile _
  | succ n ih =>
    refine (View.canon_cons_unit_zero (by funext a; fin_cases a <;> rfl) _ _ _).trans ?_
    rw [cast_tile, readAll, ih]
    rfl

section Rows

variable (x0 : Vec Ideal S512x1024 .f32) (x1 : Vec Ideal S512x256 .bf16) (x2 : Vec Ideal S512x512 .bf16) (x3 : Vec Ideal S512x256 .bf16)
  (x9 : Vec Ideal S1x1024x1024 .bf16) (x10 x11 : Vec Ideal S1x1024 .f32) (md md' : FVec Ideal S1x6144 .f32)

/-- The residual row of a tile. -/
def tileMid (M : Fin 6144 → EReal) (i : Fin 512) : Fin 1024 → EReal :=
  midRow M (fun j => x0 (ix2 i j))
    (projRow (mixedRow (fun j => x1 (ix2 i j)) (fun j => x2 (ix2 i j)) (fun j => x3 (ix2 i j))) (fun a b => x9 (ix3 0 a b)))
    (fun j => x10 (ix2 0 j))

/-- A row of a half tile's residual. -/
theorem midOf_at (k : ℕ) (hk : k < 2) (r : Fin 256) (l : Fin 1024) :
    midOf x0 x1 x2 x3 x9 x10 md k hk (ix2 r l)
      = tileMid x0 x1 x2 x3 x9 x10 (fun j => md (ix2 0 j)) ⟨256 * k + r.val, by omega⟩ l := by
  unfold midOf tileMid
  rw [mid_at, all256_eq, all512_eq, all256_eq, allWo_eq, allW_eq]
  simp only [half_at, cut_at _ k hk, proj_at]

/-- A row of a half tile's feed-forward input. -/
theorem hiddenOf_at (k : ℕ) (hk : k < 2) (r : Fin 256) (l : Fin 1024) :
    hiddenOf x0 x1 x2 x3 x9 x10 x11 md k hk (ix2 r l)
      = hiddenRow (fun j => md (ix2 0 j)) (tileMid x0 x1 x2 x3 x9 x10 (fun j => md (ix2 0 j)) ⟨256 * k + r.val, by omega⟩)
          (fun j => x11 (ix2 0 j)) l := by
  unfold hiddenOf
  rw [hidden_at, allW_eq]
  simp only [midOf_at]

/-- A row of a tile's residual, as its stores leave it. -/
theorem midPieces_at (M : Fin 6144 → EReal) (i : Fin 512) (k : Fin 1024)
    (hlo : i.val < 256 → ∀ l, md (ix2 0 l) = M l) (hhi : ¬ i.val < 256 → ∀ l, md' (ix2 0 l) = M l) :
    View.canon (midPieces x0 x1 x2 x3 x9 x10 md md') (ix2 i k) = tileMid x0 x1 x2 x3 x9 x10 M i k := by
  unfold midPieces
  rw [canon_pieces]
  by_cases h : i.val < 256
  · rw [both_lo _ _ i k h, cast_half, midOf_at]
    simp only [hlo h]
    congr 1
    exact Fin.ext (by simp)
  · rw [both_hi _ _ i k h, cast_half, midOf_at]
    simp only [hhi h]
    congr 1
    exact Fin.ext (by show 256 * 1 + (i.val - 256) = i.val; omega)

/-- A row of a tile's feed-forward input, as its stores leave it. -/
theorem hiddenPieces_at (M : Fin 6144 → EReal) (i : Fin 512) (k : Fin 1024)
    (hlo : i.val < 256 → ∀ l, md (ix2 0 l) = M l) (hhi : ¬ i.val < 256 → ∀ l, md' (ix2 0 l) = M l) :
    View.canon (hiddenPieces x0 x1 x2 x3 x9 x10 x11 md md') (ix2 i k)
      = hiddenRow M (tileMid x0 x1 x2 x3 x9 x10 M i) (fun j => x11 (ix2 0 j)) k := by
  unfold hiddenPieces
  rw [canon_pieces]
  by_cases h : i.val < 256
  · rw [both_lo _ _ i k h, cast_half', hiddenOf_at]
    simp only [hlo h]
    congr 2
    exact Fin.ext (by simp)
  · rw [both_hi _ _ i k h, cast_half', hiddenOf_at]
    simp only [hhi h]
    congr 2
    exact Fin.ext (by show 256 * 1 + (i.val - 256) = i.val; omega)

end Rows

/-- A row of a tile's result, as its stores leave it. -/
theorem outPieces_at {κ : Kind} {sp : Space} (v : View sig κ sp S512x1024 .f32) (h1 h1' : FVec Ideal S256x1024 .f32)
    (hb : FVec Ideal S512x1024 .bf16) (x12 : Vec Ideal S1x1024x5632 .bf16) (x13 : Vec Ideal S1x2816x1024 .bf16)
    (x14 : Vec Ideal S1x1024 .f32) (md md' : FVec Ideal S1x6144 .f32) (M : Fin 6144 → EReal) (H : Fin 1024 → EReal)
    (i : Fin 512) (k : Fin 1024)
    (hlo : i.val < 256 → ∀ l, md (ix2 0 l) = M l) (hhi : ¬ i.val < 256 → ∀ l, md' (ix2 0 l) = M l)
    (glo : ∀ h : i.val < 256, ∀ l, h1 (ix2 ⟨i.val, h⟩ l) = H l)
    (ghi : ¬ i.val < 256 → ∀ l, h1' (ix2 ⟨i.val - 256, by omega⟩ l) = H l) :
    View.canon (outPieces v h1 h1' hb x12 x13 x14 md md') (ix2 i k)
      = outRow M H (ffRow (fun j => hb (ix2 i j)) (fun a b => x12 (ix3 0 a b)) (fun a b => x13 (ix3 0 a b)))
          (fun j => x14 (ix2 0 j)) k := by
  unfold outPieces
  rw [canon_pieces]
  by_cases h : i.val < 256
  · rw [both_lo _ _ i k h, out_at, allW_eq]
    simp only [hlo h, glo h]
    refine congrArg (fun z => outRow M H z (fun j => x14 (ix2 0 j)) k) (funext fun j => ?_)
    exact (readLo v _ ⟨i.val, h⟩ j).trans ((congrFun (canon_acc v hb x12 x13 10 (by omega)) _).trans (acc_at hb x12 x13 i j))
  · have e : 256 + (i.val - 256) = i.val := by omega
    rw [both_hi _ _ i k h, out_at, allW_eq]
    simp only [hhi h, ghi h]
    refine congrArg (fun z => outRow M H z (fun j => x14 (ix2 0 j)) k) (funext fun j => ?_)
    refine (readHi v _ ⟨i.val - 256, by omega⟩ j).trans ((congrFun (canon_acc v hb x12 x13 10 (by omega)) _).trans ?_)
    refine Eq.trans ?_ (acc_at hb x12 x13 i j)
    exact congrArg (fun z => accOf hb x12 x13 10 (by omega) (ix2 z j)) (Fin.ext e)

end Mix
-- ==== Proof.MixBlock.lean ====
/- The blocks that a grid point of the mixing and feed-forward kernel reads, and which rows of the modulation table. -/
module

public import proofs.«01_k».proof.Proof.MixTile

@[expose] public section

set_option maxRecDepth 65536

noncomputable section

namespace Mix

open Cert.Kernel2Ideal Cert.Kernel2Ideal.Gen Idealize.ShloMosaic Idealize.ShloMosaic.TcCoe Idealize.ShloMosaic.Tactic

/-- The modulation row of the 256 rows of number `n`: the context's for a batch's first, the batch's else. -/
def modOf (n : ℕ) : ℕ := if n % 17 < 1 then 4 else n / 17

/-- A modulation row lies in the table. -/
theorem modOf_lt (n : ℕ) (h : n < 68) : modOf n < 8 := by
  unfold modOf
  split <;> omega

/-- The modulation rows of the next tile at an even point. -/
theorem off2 : ∀ t : Fin cfg0.N, t.val % 2 = 0 → k0_off2 (grid0.coords t) 0#32 = ![modOf (2 * (min (t.val + 1) 33)), 0, 0]
    ∧ k0_off2 (grid0.coords t) 1#32 = ![modOf (2 * (min (t.val + 1) 33) + 1), 0, 0] := by decide +kernel

/-- The modulation rows of the next tile at an odd point. -/
theorem off4 : ∀ t : Fin cfg0.N, t.val % 2 = 1 → k0_off4 (grid0.coords t) 0#32 = ![modOf (2 * (min (t.val + 1) 33)), 0, 0]
    ∧ k0_off4 (grid0.coords t) 1#32 = ![modOf (2 * (min (t.val + 1) 33) + 1), 0, 0] := by decide +kernel

/-- The modulation rows of the tile at an even point. -/
theorem off3 : ∀ t : Fin cfg0.N, t.val % 2 = 0 → k0_off3 (grid0.coords t) 0#32 = ![modOf (2 * (t.val)), 0, 0]
    ∧ k0_off3 (grid0.coords t) 1#32 = ![modOf (2 * (t.val) + 1), 0, 0] := by decide +kernel

/-- The modulation rows of the tile at an odd point. -/
theorem off5 : ∀ t : Fin cfg0.N, t.val % 2 = 1 → k0_off5 (grid0.coords t) 0#32 = ![modOf (2 * (t.val)), 0, 0]
    ∧ k0_off5 (grid0.coords t) 1#32 = ![modOf (2 * (t.val) + 1), 0, 0] := by decide +kernel

/-- A row of the table from a position that lies in it. -/
theorem inb_of (off : Fin 3 → ℕ) (n : ℕ) (h : off = ![modOf n, 0, 0]) (hn : n < 68) :
    ∀ a, off a + S1x1x6144.size a ≤ S8x1x6144.size a := by
  subst h
  have := modOf_lt n hn
  intro a
  fin_cases a <;> simp [S1x1x6144, S8x1x6144]
  omega

/-- Window 0's block at a grid point. -/
theorem index_0 : ∀ t : Fin cfg0.N, win0_0.index t = ![0, 0] := by decide +kernel
/-- Window 1's block at a grid point. -/
theorem index_1 : ∀ t : Fin cfg0.N, win0_1.index t = ![0, 0] := by decide +kernel
/-- Window 2's block at a grid point. -/
theorem index_2 : ∀ t : Fin cfg0.N, win0_2.index t = ![0, 0] := by decide +kernel
/-- Window 3's block at a grid point. -/
theorem index_3 : ∀ t : Fin cfg0.N, win0_3.index t = ![0, 0] := by decide +kernel
/-- Window 4's block at a grid point. -/
theorem index_4 : ∀ t : Fin cfg0.N, win0_4.index t = ![min (t.val + 1) 33, 0] := by decide +kernel
/-- Window 5's block at a grid point. -/
theorem index_5 : ∀ t : Fin cfg0.N, win0_5.index t = ![min (t.val + 1) 33, 0] := by decide +kernel
/-- Window 6's block at a grid point. -/
theorem index_6 : ∀ t : Fin cfg0.N, win0_6.index t = ![min (t.val + 1) 33, 0] := by decide +kernel
/-- Window 7's block at a grid point. -/
theorem index_7 : ∀ t : Fin cfg0.N, win0_7.index t = ![min (t.val + 1) 33, 0] := by decide +kernel
/-- Window 8's block at a grid point. -/
theorem index_8 : ∀ t : Fin cfg0.N, win0_8.index t = ![0, 0, 0] := by decide +kernel
/-- Window 9's block at a grid point. -/
theorem index_9 : ∀ t : Fin cfg0.N, win0_9.index t = ![3, 0, 0] := by decide +kernel
/-- Window 10's block at a grid point. -/
theorem index_10 : ∀ t : Fin cfg0.N, win0_10.index t = ![0, 0] := by decide +kernel
/-- Window 11's block at a grid point. -/
theorem index_11 : ∀ t : Fin cfg0.N, win0_11.index t = ![0, 0] := by decide +kernel
/-- Window 12's block at a grid point. -/
theorem index_12 : ∀ t : Fin cfg0.N, win0_12.index t = ![3, 0, 0] := by decide +kernel
/-- Window 13's block at a grid point. -/
theorem index_13 : ∀ t : Fin cfg0.N, win0_13.index t = ![3, 0, 0] := by decide +kernel
/-- Window 14's block at a grid point. -/
theorem index_14 : ∀ t : Fin cfg0.N, win0_14.index t = ![0, 0] := by decide +kernel
/-- Window 15's block at a grid point. -/
theorem index_15 : ∀ t : Fin cfg0.N, win0_15.index t = ![t.val, 0] := by decide +kernel

/-- A tile's row lies in the array. -/
theorem tile_lt (u r : ℕ) (hu : u < 34) (hr : r < 512) : 512 * u + r < 17408 := by omega

variable (m : (ℓ : Loc nD τ sig) → Buf (Elt Ideal) ℓ) (c : Dev nD)

/-- An entry of window 0's block. -/
theorem block_0 (t : Fin cfg0.N) (r : Fin 512) (l : Fin 1024) :
    (iblk m c 0 t : Vec Ideal S512x1024 .f32) (ix2 r l)
      = (m ((c : Thread nD τ).loc main_arg0) : FVec Ideal S17408x1024 .f32) (ix2 ⟨512 * 0 + r.val, tile_lt _ _ (by omega) r.isLt⟩ l) := by
  unfold iblk
  rw [View.read_apply]
  show m ((c : Thread nD τ).loc main_arg0) _ = m ((c : Thread nD τ).loc main_arg0) _
  congr 1
  funext a
  apply Fin.ext
  have h := index_0 t
  fin_cases a
  · show win0_0.index t 0 * 512 + 1 * r.val = 512 * 0 + r.val
    rw [h]; simp
  · show win0_0.index t 1 * 1024 + 1 * l.val = l.val
    rw [h]; simp

/-- An entry of window 1's block. -/
theorem block_1 (t : Fin cfg0.N) (r : Fin 512) (l : Fin 256) :
    (iblk m c 1 t : Vec Ideal S512x256 .bf16) (ix2 r l)
      = (m ((c : Thread nD τ).loc main_arg2) : FVec Ideal S17408x256 .bf16) (ix2 ⟨512 * 0 + r.val, tile_lt _ _ (by omega) r.isLt⟩ l) := by
  unfold iblk
  rw [View.read_apply]
  show m ((c : Thread nD τ).loc main_arg2) _ = m ((c : Thread nD τ).loc main_arg2) _
  congr 1
  funext a
  apply Fin.ext
  have h := index_1 t
  fin_cases a
  · show win0_1.index t 0 * 512 + 1 * r.val = 512 * 0 + r.val
    rw [h]; simp
  · show win0_1.index t 1 * 256 + 1 * l.val = l.val
    rw [h]; simp

/-- An entry of window 2's block. -/
theorem block_2 (t : Fin cfg0.N) (r : Fin 512) (l : Fin 512) :
    (iblk m c 2 t : Vec Ideal S512x512 .bf16) (ix2 r l)
      = (m ((c : Thread nD τ).loc main_arg3) : FVec Ideal S17408x512 .bf16) (ix2 ⟨512 * 0 + r.val, tile_lt _ _ (by omega) r.isLt⟩ l) := by
  unfold iblk
  rw [View.read_apply]
  show m ((c : Thread nD τ).loc main_arg3) _ = m ((c : Thread nD τ).loc main_arg3) _
  congr 1
  funext a
  apply Fin.ext
  have h := index_2 t
  fin_cases a
  · show win0_2.index t 0 * 512 + 1 * r.val = 512 * 0 + r.val
    rw [h]; simp
  · show win0_2.index t 1 * 512 + 1 * l.val = l.val
    rw [h]; simp

/-- An entry of window 3's block. -/
theorem block_3 (t : Fin cfg0.N) (r : Fin 512) (l : Fin 256) :
    (iblk m c 3 t : Vec Ideal S512x256 .bf16) (ix2 r l)
      = (m ((c : Thread nD τ).loc main_arg4) : FVec Ideal S17408x256 .bf16) (ix2 ⟨512 * 0 + r.val, tile_lt _ _ (by omega) r.isLt⟩ l) := by
  unfold iblk
  rw [View.read_apply]
  show m ((c : Thread nD τ).loc main_arg4) _ = m ((c : Thread nD τ).loc main_arg4) _
  congr 1
  funext a
  apply Fin.ext
  have h := index_3 t
  fin_cases a
  · show win0_3.index t 0 * 512 + 1 * r.val = 512 * 0 + r.val
    rw [h]; simp
  · show win0_3.index t 1 * 256 + 1 * l.val = l.val
    rw [h]; simp

/-- An entry of window 4's block. -/
theorem block_4 (t : Fin cfg0.N) (r : Fin 512) (l : Fin 1024) :
    (iblk m c 4 t : Vec Ideal S512x1024 .f32) (ix2 r l)
      = (m ((c : Thread nD τ).loc main_arg0) : FVec Ideal S17408x1024 .f32) (ix2 ⟨512 * (min (t.val + 1) 33) + r.val, tile_lt _ _ (by omega) r.isLt⟩ l) := by
  unfold iblk
  rw [View.read_apply]
  show m ((c : Thread nD τ).loc main_arg0) _ = m ((c : Thread nD τ).loc main_arg0) _
  congr 1
  funext a
  apply Fin.ext
  have h := index_4 t
  fin_cases a
  · show win0_4.index t 0 * 512 + 1 * r.val = 512 * (min (t.val + 1) 33) + r.val
    rw [h]; simp; omega
  · show win0_4.index t 1 * 1024 + 1 * l.val = l.val
    rw [h]; simp

/-- An entry of window 5's block. -/
theorem block_5 (t : Fin cfg0.N) (r : Fin 512) (l : Fin 256) :
    (iblk m c 5 t : Vec Ideal S512x256 .bf16) (ix2 r l)
      = (m ((c : Thread nD τ).loc main_arg2) : FVec Ideal S17408x256 .bf16) (ix2 ⟨512 * (min (t.val + 1) 33) + r.val, tile_lt _ _ (by omega) r.isLt⟩ l) := by
  unfold iblk
  rw [View.read_apply]
  show m ((c : Thread nD τ).loc main_arg2) _ = m ((c : Thread nD τ).loc main_arg2) _
  congr 1
  funext a
  apply Fin.ext
  have h := index_5 t
  fin_cases a
  · show win0_5.index t 0 * 512 + 1 * r.val = 512 * (min (t.val + 1) 33) + r.val
    rw [h]; simp; omega
  · show win0_5.index t 1 * 256 + 1 * l.val = l.val
    rw [h]; simp

/-- An entry of window 6's block. -/
theorem block_6 (t : Fin cfg0.N) (r : Fin 512) (l : Fin 512) :
    (iblk m c 6 t : Vec Ideal S512x512 .bf16) (ix2 r l)
      = (m ((c : Thread nD τ).loc main_arg3) : FVec Ideal S17408x512 .bf16) (ix2 ⟨512 * (min (t.val + 1) 33) + r.val, tile_lt _ _ (by omega) r.isLt⟩ l) := by
  unfold iblk
  rw [View.read_apply]
  show m ((c : Thread nD τ).loc main_arg3) _ = m ((c : Thread nD τ).loc main_arg3) _
  congr 1
  funext a
  apply Fin.ext
  have h := index_6 t
  fin_cases a
  · show win0_6.index t 0 * 512 + 1 * r.val = 512 * (min (t.val + 1) 33) + r.val
    rw [h]; simp; omega
  · show win0_6.index t 1 * 512 + 1 * l.val = l.val
    rw [h]; simp

/-- An entry of window 7's block. -/
theorem block_7 (t : Fin cfg0.N) (r : Fin 512) (l : Fin 256) :
    (iblk m c 7 t : Vec Ideal S512x256 .bf16) (ix2 r l)
      = (m ((c : Thread nD τ).loc main_arg4) : FVec Ideal S17408x256 .bf16) (ix2 ⟨512 * (min (t.val + 1) 33) + r.val, tile_lt _ _ (by omega) r.isLt⟩ l) := by
  unfold iblk
  rw [View.read_apply]
  show m ((c : Thread nD τ).loc main_arg4) _ = m ((c : Thread nD τ).loc main_arg4) _
  congr 1
  funext a
  apply Fin.ext
  have h := index_7 t
  fin_cases a
  · show win0_7.index t 0 * 512 + 1 * r.val = 512 * (min (t.val + 1) 33) + r.val
    rw [h]; simp; omega
  · show win0_7.index t 1 * 256 + 1 * l.val = l.val
    rw [h]; simp

/-- An entry of window 10's block. -/
theorem block_10 (t : Fin cfg0.N) (l : Fin 1024) :
    (iblk m c 10 t : Vec Ideal S1x1024 .f32) (ix2 0 l) = (m ((c : Thread nD τ).loc main_arg6) : FVec Ideal S1x1024 .f32) (ix2 0 l) := by
  unfold iblk
  rw [View.read_apply]
  show m ((c : Thread nD τ).loc main_arg6) _ = m ((c : Thread nD τ).loc main_arg6) _
  congr 1
  funext a
  apply Fin.ext
  have h := index_10 t
  fin_cases a
  · show win0_10.index t 0 * 1 + 1 * 0 = 0
    rw [h]; simp
  · show win0_10.index t 1 * 1024 + 1 * l.val = l.val
    rw [h]; simp

/-- An entry of window 11's block. -/
theorem block_11 (t : Fin cfg0.N) (l : Fin 1024) :
    (iblk m c 11 t : Vec Ideal S1x1024 .f32) (ix2 0 l) = (m ((c : Thread nD τ).loc main_arg7) : FVec Ideal S1x1024 .f32) (ix2 0 l) := by
  unfold iblk
  rw [View.read_apply]
  show m ((c : Thread nD τ).loc main_arg7) _ = m ((c : Thread nD τ).loc main_arg7) _
  congr 1
  funext a
  apply Fin.ext
  have h := index_11 t
  fin_cases a
  · show win0_11.index t 0 * 1 + 1 * 0 = 0
    rw [h]; simp
  · show win0_11.index t 1 * 1024 + 1 * l.val = l.val
    rw [h]; simp

/-- An entry of window 14's block. -/
theorem block_14 (t : Fin cfg0.N) (l : Fin 1024) :
    (iblk m c 14 t : Vec Ideal S1x1024 .f32) (ix2 0 l) = (m ((c : Thread nD τ).loc main_arg10) : FVec Ideal S1x1024 .f32) (ix2 0 l) := by
  unfold iblk
  rw [View.read_apply]
  show m ((c : Thread nD τ).loc main_arg10) _ = m ((c : Thread nD τ).loc main_arg10) _
  congr 1
  funext a
  apply Fin.ext
  have h := index_14 t
  fin_cases a
  · show win0_14.index t 0 * 1 + 1 * 0 = 0
    rw [h]; simp
  · show win0_14.index t 1 * 1024 + 1 * l.val = l.val
    rw [h]; simp

/-- An entry of window 8's block. -/
theorem block_8 (t : Fin cfg0.N) (q : Fin 8) (l : Fin 6144) :
    (iblk m c 8 t : Vec Ideal S8x1x6144 .f32) (ix3 q 0 l) = (m ((c : Thread nD τ).loc main_arg1) : FVec Ideal S8x1x6144 .f32) (ix3 q 0 l) := by
  unfold iblk
  rw [View.read_apply]
  show m ((c : Thread nD τ).loc main_arg1) _ = m ((c : Thread nD τ).loc main_arg1) _
  congr 1
  funext a
  apply Fin.ext
  have h := index_8 t
  fin_cases a
  · show win0_8.index t 0 * 8 + 1 * q.val = q.val
    rw [h]; simp
  · show win0_8.index t 1 * 1 + 1 * 0 = 0
    rw [h]; simp
  · show win0_8.index t 2 * 6144 + 1 * l.val = l.val
    rw [h]; simp

/-- An entry of window 9's block. -/
theorem block_9 (t : Fin cfg0.N) (r : Fin 1024) (l : Fin 1024) :
    (iblk m c 9 t : Vec Ideal S1x1024x1024 .bf16) (ix3 0 r l) = (m ((c : Thread nD τ).loc main_arg5) : FVec Ideal S4x1024x1024 .bf16) (ix3 3 r l) := by
  unfold iblk
  rw [View.read_apply]
  show m ((c : Thread nD τ).loc main_arg5) _ = m ((c : Thread nD τ).loc main_arg5) _
  congr 1
  funext a
  apply Fin.ext
  have h := index_9 t
  fin_cases a
  · show win0_9.index t 0 * 1 + 1 * 0 = 3
    rw [h]; simp
  · show win0_9.index t 1 * 1024 + 1 * r.val = r.val
    rw [h]; simp
  · show win0_9.index t 2 * 1024 + 1 * l.val = l.val
    rw [h]; simp

/-- An entry of window 12's block. -/
theorem block_12 (t : Fin cfg0.N) (r : Fin 1024) (l : Fin 5632) :
    (iblk m c 12 t : Vec Ideal S1x1024x5632 .bf16) (ix3 0 r l) = (m ((c : Thread nD τ).loc main_arg8) : FVec Ideal S4x1024x5632 .bf16) (ix3 3 r l) := by
  unfold iblk
  rw [View.read_apply]
  show m ((c : Thread nD τ).loc main_arg8) _ = m ((c : Thread nD τ).loc main_arg8) _
  congr 1
  funext a
  apply Fin.ext
  have h := index_12 t
  fin_cases a
  · show win0_12.index t 0 * 1 + 1 * 0 = 3
    rw [h]; simp
  · show win0_12.index t 1 * 1024 + 1 * r.val = r.val
    rw [h]; simp
  · show win0_12.index t 2 * 5632 + 1 * l.val = l.val
    rw [h]; simp

/-- An entry of window 13's block. -/
theorem block_13 (t : Fin cfg0.N) (r : Fin 2816) (l : Fin 1024) :
    (iblk m c 13 t : Vec Ideal S1x2816x1024 .bf16) (ix3 0 r l) = (m ((c : Thread nD τ).loc main_arg9) : FVec Ideal S4x2816x1024 .bf16) (ix3 3 r l) := by
  unfold iblk
  rw [View.read_apply]
  show m ((c : Thread nD τ).loc main_arg9) _ = m ((c : Thread nD τ).loc main_arg9) _
  congr 1
  funext a
  apply Fin.ext
  have h := index_13 t
  fin_cases a
  · show win0_13.index t 0 * 1 + 1 * 0 = 3
    rw [h]; simp
  · show win0_13.index t 1 * 2816 + 1 * r.val = r.val
    rw [h]; simp
  · show win0_13.index t 2 * 1024 + 1 * l.val = l.val
    rw [h]; simp

end Mix
-- ==== Proof.MixPoint.lean ====
/- What each grid point of the mixing and feed-forward kernel leaves, as the stores of its named operations. -/
module

public import proofs.«01_k».proof.Proof.MixOpen
public import proofs.«01_k».proof.Proof.MixBlock

@[expose] public section

set_option maxRecDepth 65536

noncomputable section

namespace Mix

open Cert.Kernel2Ideal Cert.Kernel2Ideal.Gen Idealize.ShloMosaic Idealize.ShloMosaic.TcCoe Idealize.ShloMosaic.Tactic

/-- What is read back from a whole buffer is what was put there. -/
theorem rd_eq {sp} {s : Shape} {e : EltTy} (a : Memref sig .tc sp s e) (h : a.IsWhole) (x : Vec Ideal s e) : rd a h x = x :=
  Memref.IsWhole.read_unread _ _

variable (m : (ℓ : Loc nD τ sig) → Buf (Elt Ideal) ℓ) (c : Dev nD)

/-- The result that the first grid point leaves. -/
theorem out_A (t : Fin cfg0.N) (h0 : t.val % 34 = 0) (h1 : t.val % 2 = 0) (h2 : ¬t.val % 2 = 1) (hp0 : ∀ a, (k0_off2 (grid0.coords t) 0#32) a + S1x1x6144.size a ≤ S8x1x6144.size a) (hp1 : ∀ a, (k0_off2 (grid0.coords t) 1#32) a + S1x1x6144.size a ≤ S8x1x6144.size a) (ho0 : ∀ a, (k0_off3 (grid0.coords t) 0#32) a + S1x1x6144.size a ≤ S8x1x6144.size a) (ho1 : ∀ a, (k0_off3 (grid0.coords t) 1#32) a + S1x1x6144.size a ≤ S8x1x6144.size a) (hq0 : ∀ a, (![4, 0, 0] : Fin 3 → ℕ) a + S1x1x6144.size a ≤ S8x1x6144.size a) (hq1 : ∀ a, (![0, 0, 0] : Fin 3 → ℕ) a + S1x1x6144.size a ≤ S8x1x6144.size a) :
    (outsAt0 m c t.val t.isLt).1 = View.canon (outPieces scM0_4.view (scM0_0.view.readCov (midPieces (iblk m c 0 t) (iblk m c 1 t) (iblk m c 2 t) (iblk m c 3 t) (iblk m c 9 t) (iblk m c 10 t) (table (iblk m c 8 t) ![4, 0, 0] hq0) (table (iblk m c 8 t) ![0, 0, 0] hq1)) (Rect.unit (s := S512x1024) ![0, 0] S256x1024.size inb_S512x1024_S256x1024_0_0).toLoadRect) (scM0_0.view.readCov (midPieces (iblk m c 0 t) (iblk m c 1 t) (iblk m c 2 t) (iblk m c 3 t) (iblk m c 9 t) (iblk m c 10 t) (table (iblk m c 8 t) ![4, 0, 0] hq0) (table (iblk m c 8 t) ![0, 0, 0] hq1)) (Rect.unit (s := S512x1024) ![256, 0] S256x1024.size inb_S512x1024_S256x1024_256_0).toLoadRect) (scM0_2.view.readCov (hiddenPieces (iblk m c 0 t) (iblk m c 1 t) (iblk m c 2 t) (iblk m c 3 t) (iblk m c 9 t) (iblk m c 10 t) (iblk m c 11 t) (table (iblk m c 8 t) ![4, 0, 0] hq0) (table (iblk m c 8 t) ![0, 0, 0] hq1)) (Rect.unit (s := S512x1024) ![0, 0] S512x1024.size inb_S512x1024_S512x1024_0_0).toLoadRect) (iblk m c 12 t) (iblk m c 13 t) (iblk m c 14 t) (table (iblk m c 8 t) (k0_off3 (grid0.coords t) 0#32) ho0) (table (iblk m c 8 t) (k0_off3 (grid0.coords t) 1#32) ho1)) := by
  rw [outsAt0_A m c t h0 h1 h2]
  dsimp only
  unfold out0_A_15
  rw [View.read_writes_junk_eq_canon, out_rawA (hp0 := hp0) (hp1 := hp1) (ho0 := ho0) (ho1 := ho1) (hq0 := hq0) (hq1 := hq1), v431_rawA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) hp0 hp1 ho0 ho1 hq0 hq1, v485_rawA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) hp0 hp1 ho0 ho1 hq0 hq1, v200_rawA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) hp0 hp1 ho0 ho1 hq0 hq1]
  simp only [rd, Memref.IsWhole.read_unread]

/-- The next tile’s residual that the first grid point leaves. -/
theorem mid_A (t : Fin cfg0.N) (h0 : t.val % 34 = 0) (h1 : t.val % 2 = 0) (h2 : ¬t.val % 2 = 1) (hp0 : ∀ a, (k0_off2 (grid0.coords t) 0#32) a + S1x1x6144.size a ≤ S8x1x6144.size a) (hp1 : ∀ a, (k0_off2 (grid0.coords t) 1#32) a + S1x1x6144.size a ≤ S8x1x6144.size a) (ho0 : ∀ a, (k0_off3 (grid0.coords t) 0#32) a + S1x1x6144.size a ≤ S8x1x6144.size a) (ho1 : ∀ a, (k0_off3 (grid0.coords t) 1#32) a + S1x1x6144.size a ≤ S8x1x6144.size a) (hq0 : ∀ a, (![4, 0, 0] : Fin 3 → ℕ) a + S1x1x6144.size a ≤ S8x1x6144.size a) (hq1 : ∀ a, (![0, 0, 0] : Fin 3 → ℕ) a + S1x1x6144.size a ≤ S8x1x6144.size a) :
    (outsAt0 m c t.val t.isLt).2.2.1 = View.canon (midPieces (iblk m c 4 t) (iblk m c 5 t) (iblk m c 6 t) (iblk m c 7 t) (iblk m c 9 t) (iblk m c 10 t) (table (iblk m c 8 t) (k0_off2 (grid0.coords t) 0#32) hp0) (table (iblk m c 8 t) (k0_off2 (grid0.coords t) 1#32) hp1)) := by
  rw [outsAt0_A m c t h0 h1 h2]
  dsimp only
  unfold sout0_A_1
  rw [View.read_writes_junk_eq_canon, mid_rawA (hp0 := hp0) (hp1 := hp1) (ho0 := ho0) (ho1 := ho1) (hq0 := hq0) (hq1 := hq1)]
  simp only [rd, Memref.IsWhole.read_unread]

/-- The next tile’s feed-forward input that the first grid point leaves. -/
theorem hid_A (t : Fin cfg0.N) (h0 : t.val % 34 = 0) (h1 : t.val % 2 = 0) (h2 : ¬t.val % 2 = 1) (hp0 : ∀ a, (k0_off2 (grid0.coords t) 0#32) a + S1x1x6144.size a ≤ S8x1x6144.size a) (hp1 : ∀ a, (k0_off2 (grid0.coords t) 1#32) a + S1x1x6144.size a ≤ S8x1x6144.size a) (ho0 : ∀ a, (k0_off3 (grid0.coords t) 0#32) a + S1x1x6144.size a ≤ S8x1x6144.size a) (ho1 : ∀ a, (k0_off3 (grid0.coords t) 1#32) a + S1x1x6144.size a ≤ S8x1x6144.size a) (hq0 : ∀ a, (![4, 0, 0] : Fin 3 → ℕ) a + S1x1x6144.size a ≤ S8x1x6144.size a) (hq1 : ∀ a, (![0, 0, 0] : Fin 3 → ℕ) a + S1x1x6144.size a ≤ S8x1x6144.size a) :
    (outsAt0 m c t.val t.isLt).2.2.2.2 = View.canon (hiddenPieces (iblk m c 4 t) (iblk m c 5 t) (iblk m c 6 t) (iblk m c 7 t) (iblk m c 9 t) (iblk m c 10 t) (iblk m c 11 t) (table (iblk m c 8 t) (k0_off2 (grid0.coords t) 0#32) hp0) (table (iblk m c 8 t) (k0_off2 (grid0.coords t) 1#32) hp1)) := by
  rw [outsAt0_A m c t h0 h1 h2]
  dsimp only
  unfold sout0_A_3
  rw [View.read_writes_junk_eq_canon, hid_rawA (hp0 := hp0) (hp1 := hp1) (ho0 := ho0) (ho1 := ho1) (hq0 := hq0) (hq1 := hq1)]
  simp only [rd, Memref.IsWhole.read_unread]

/-- The result that an odd grid point leaves. -/
theorem out_B (t : Fin cfg0.N) (h0 : ¬t.val % 34 = 0) (h1 : ¬t.val % 2 = 0) (h2 : t.val % 2 = 1) (hp0 : ∀ a, (k0_off4 (grid0.coords t) 0#32) a + S1x1x6144.size a ≤ S8x1x6144.size a) (hp1 : ∀ a, (k0_off4 (grid0.coords t) 1#32) a + S1x1x6144.size a ≤ S8x1x6144.size a) (ho0 : ∀ a, (k0_off5 (grid0.coords t) 0#32) a + S1x1x6144.size a ≤ S8x1x6144.size a) (ho1 : ∀ a, (k0_off5 (grid0.coords t) 1#32) a + S1x1x6144.size a ≤ S8x1x6144.size a) :
    (outsAt0 m c t.val t.isLt).1 = View.canon (outPieces scM0_4.view (half (outsAt0 m c (t.val - 1) (Nat.lt_of_le_of_lt (Nat.sub_le _ _) t.isLt)).2.2.1 0 (by omega)) (half (outsAt0 m c (t.val - 1) (Nat.lt_of_le_of_lt (Nat.sub_le _ _) t.isLt)).2.2.1 256 (by omega)) (all1024 (outsAt0 m c (t.val - 1) (Nat.lt_of_le_of_lt (Nat.sub_le _ _) t.isLt)).2.2.2.2) (iblk m c 12 t) (iblk m c 13 t) (iblk m c 14 t) (table (iblk m c 8 t) (k0_off5 (grid0.coords t) 0#32) ho0) (table (iblk m c 8 t) (k0_off5 (grid0.coords t) 1#32) ho1)) := by
  rw [outsAt0_B m c t h0 h1 h2]
  dsimp only
  unfold out0_B_15
  rw [View.read_writes_junk_eq_canon, out_rawB (hp0 := hp0) (hp1 := hp1) (ho0 := ho0) (ho1 := ho1)]
  rw [rd_eq scM0_1, rd_eq scM0_3]
  simp only [rd, Memref.IsWhole.read_unread]

/-- The next tile’s residual that an odd grid point leaves. -/
theorem mid_B (t : Fin cfg0.N) (h0 : ¬t.val % 34 = 0) (h1 : ¬t.val % 2 = 0) (h2 : t.val % 2 = 1) (hp0 : ∀ a, (k0_off4 (grid0.coords t) 0#32) a + S1x1x6144.size a ≤ S8x1x6144.size a) (hp1 : ∀ a, (k0_off4 (grid0.coords t) 1#32) a + S1x1x6144.size a ≤ S8x1x6144.size a) (ho0 : ∀ a, (k0_off5 (grid0.coords t) 0#32) a + S1x1x6144.size a ≤ S8x1x6144.size a) (ho1 : ∀ a, (k0_off5 (grid0.coords t) 1#32) a + S1x1x6144.size a ≤ S8x1x6144.size a) :
    (outsAt0 m c t.val t.isLt).2.1 = View.canon (midPieces (iblk m c 4 t) (iblk m c 5 t) (iblk m c 6 t) (iblk m c 7 t) (iblk m c 9 t) (iblk m c 10 t) (table (iblk m c 8 t) (k0_off4 (grid0.coords t) 0#32) hp0) (table (iblk m c 8 t) (k0_off4 (grid0.coords t) 1#32) hp1)) := by
  rw [outsAt0_B m c t h0 h1 h2]
  dsimp only
  unfold sout0_B_0
  rw [View.read_writes_junk_eq_canon, mid_rawB (hp0 := hp0) (hp1 := hp1) (ho0 := ho0) (ho1 := ho1)]
  simp only [rd, Memref.IsWhole.read_unread]

/-- The next tile’s feed-forward input that an odd grid point leaves. -/
theorem hid_B (t : Fin cfg0.N) (h0 : ¬t.val % 34 = 0) (h1 : ¬t.val % 2 = 0) (h2 : t.val % 2 = 1) (hp0 : ∀ a, (k0_off4 (grid0.coords t) 0#32) a + S1x1x6144.size a ≤ S8x1x6144.size a) (hp1 : ∀ a, (k0_off4 (grid0.coords t) 1#32) a + S1x1x6144.size a ≤ S8x1x6144.size a) (ho0 : ∀ a, (k0_off5 (grid0.coords t) 0#32) a + S1x1x6144.size a ≤ S8x1x6144.size a) (ho1 : ∀ a, (k0_off5 (grid0.coords t) 1#32) a + S1x1x6144.size a ≤ S8x1x6144.size a) :
    (outsAt0 m c t.val t.isLt).2.2.2.1 = View.canon (hiddenPieces (iblk m c 4 t) (iblk m c 5 t) (iblk m c 6 t) (iblk m c 7 t) (iblk m c 9 t) (iblk m c 10 t) (iblk m c 11 t) (table (iblk m c 8 t) (k0_off4 (grid0.coords t) 0#32) hp0) (table (iblk m c 8 t) (k0_off4 (grid0.coords t) 1#32) hp1)) := by
  rw [outsAt0_B m c t h0 h1 h2]
  dsimp only
  unfold sout0_B_2
  rw [View.read_writes_junk_eq_canon, hid_rawB (hp0 := hp0) (hp1 := hp1) (ho0 := ho0) (ho1 := ho1)]
  simp only [rd, Memref.IsWhole.read_unread]

/-- The result that a later even grid point leaves. -/
theorem out_C (t : Fin cfg0.N) (h0 : ¬t.val % 34 = 0) (h1 : t.val % 2 = 0) (h2 : ¬t.val % 2 = 1) (hp0 : ∀ a, (k0_off2 (grid0.coords t) 0#32) a + S1x1x6144.size a ≤ S8x1x6144.size a) (hp1 : ∀ a, (k0_off2 (grid0.coords t) 1#32) a + S1x1x6144.size a ≤ S8x1x6144.size a) (ho0 : ∀ a, (k0_off3 (grid0.coords t) 0#32) a + S1x1x6144.size a ≤ S8x1x6144.size a) (ho1 : ∀ a, (k0_off3 (grid0.coords t) 1#32) a + S1x1x6144.size a ≤ S8x1x6144.size a) :
    (outsAt0 m c t.val t.isLt).1 = View.canon (outPieces scM0_4.view (half (outsAt0 m c (t.val - 1) (Nat.lt_of_le_of_lt (Nat.sub_le _ _) t.isLt)).2.1 0 (by omega)) (half (outsAt0 m c (t.val - 1) (Nat.lt_of_le_of_lt (Nat.sub_le _ _) t.isLt)).2.1 256 (by omega)) (all1024 (outsAt0 m c (t.val - 1) (Nat.lt_of_le_of_lt (Nat.sub_le _ _) t.isLt)).2.2.2.1) (iblk m c 12 t) (iblk m c 13 t) (iblk m c 14 t) (table (iblk m c 8 t) (k0_off3 (grid0.coords t) 0#32) ho0) (table (iblk m c 8 t) (k0_off3 (grid0.coords t) 1#32) ho1)) := by
  rw [outsAt0_C m c t h0 h1 h2]
  dsimp only
  unfold out0_C_15
  rw [View.read_writes_junk_eq_canon, out_rawC (hp0 := hp0) (hp1 := hp1) (ho0 := ho0) (ho1 := ho1)]
  rw [rd_eq scM0_0, rd_eq scM0_2]
  simp only [rd, Memref.IsWhole.read_unread]

/-- The next tile’s residual that a later even grid point leaves. -/
theorem mid_C (t : Fin cfg0.N) (h0 : ¬t.val % 34 = 0) (h1 : t.val % 2 = 0) (h2 : ¬t.val % 2 = 1) (hp0 : ∀ a, (k0_off2 (grid0.coords t) 0#32) a + S1x1x6144.size a ≤ S8x1x6144.size a) (hp1 : ∀ a, (k0_off2 (grid0.coords t) 1#32) a + S1x1x6144.size a ≤ S8x1x6144.size a) (ho0 : ∀ a, (k0_off3 (grid0.coords t) 0#32) a + S1x1x6144.size a ≤ S8x1x6144.size a) (ho1 : ∀ a, (k0_off3 (grid0.coords t) 1#32) a + S1x1x6144.size a ≤ S8x1x6144.size a) :
    (outsAt0 m c t.val t.isLt).2.2.1 = View.canon (midPieces (iblk m c 4 t) (iblk m c 5 t) (iblk m c 6 t) (iblk m c 7 t) (iblk m c 9 t) (iblk m c 10 t) (table (iblk m c 8 t) (k0_off2 (grid0.coords t) 0#32) hp0) (table (iblk m c 8 t) (k0_off2 (grid0.coords t) 1#32) hp1)) := by
  rw [outsAt0_C m c t h0 h1 h2]
  dsimp only
  unfold sout0_C_1
  rw [View.read_writes_junk_eq_canon, mid_rawC (hp0 := hp0) (hp1 := hp1) (ho0 := ho0) (ho1 := ho1)]
  simp only [rd, Memref.IsWhole.read_unread]

/-- The next tile’s feed-forward input that a later even grid point leaves. -/
theorem hid_C (t : Fin cfg0.N) (h0 : ¬t.val % 34 = 0) (h1 : t.val % 2 = 0) (h2 : ¬t.val % 2 = 1) (hp0 : ∀ a, (k0_off2 (grid0.coords t) 0#32) a + S1x1x6144.size a ≤ S8x1x6144.size a) (hp1 : ∀ a, (k0_off2 (grid0.coords t) 1#32) a + S1x1x6144.size a ≤ S8x1x6144.size a) (ho0 : ∀ a, (k0_off3 (grid0.coords t) 0#32) a + S1x1x6144.size a ≤ S8x1x6144.size a) (ho1 : ∀ a, (k0_off3 (grid0.coords t) 1#32) a + S1x1x6144.size a ≤ S8x1x6144.size a) :
    (outsAt0 m c t.val t.isLt).2.2.2.2 = View.canon (hiddenPieces (iblk m c 4 t) (iblk m c 5 t) (iblk m c 6 t) (iblk m c 7 t) (iblk m c 9 t) (iblk m c 10 t) (iblk m c 11 t) (table (iblk m c 8 t) (k0_off2 (grid0.coords t) 0#32) hp0) (table (iblk m c 8 t) (k0_off2 (grid0.coords t) 1#32) hp1)) := by
  rw [outsAt0_C m c t h0 h1 h2]
  dsimp only
  unfold sout0_C_3
  rw [View.read_writes_junk_eq_canon, hid_rawC (hp0 := hp0) (hp1 := hp1) (ho0 := ho0) (ho1 := ho1)]
  simp only [rd, Memref.IsWhole.read_unread]

end Mix
-- ==== Proof.MixRows.lean ====
/- Each grid point of the mixing and feed-forward kernel leaves its tile's result rows. -/
module

public import proofs.«01_k».proof.Proof.MixPoint

@[expose] public section

set_option maxRecDepth 65536

noncomputable section

namespace Mix

open Cert.Kernel2Ideal Cert.Kernel2Ideal.Gen Idealize.ShloMosaic Idealize.ShloMosaic.TcCoe Idealize.ShloMosaic.Tactic

/-- A first half's row is a row of the tile. -/
theorem lo_lt (i : Fin 256) : i.val < 512 := by omega

/-- A second half's row is a row of the tile. -/
theorem hi_lt (i : Fin 256) : 256 + i.val < 512 := by omega

section Spec

variable (a0 : FVec Ideal S17408x1024 .f32) (a1 : FVec Ideal S8x1x6144 .f32) (a2 : FVec Ideal S17408x256 .bf16)
  (a3 : FVec Ideal S17408x512 .bf16) (a4 : FVec Ideal S17408x256 .bf16) (a5 : FVec Ideal S4x1024x1024 .bf16)
  (a6 a7 : FVec Ideal S1x1024 .f32) (a8 : FVec Ideal S4x1024x5632 .bf16) (a9 : FVec Ideal S4x2816x1024 .bf16)
  (a10 : FVec Ideal S1x1024 .f32)

/-- The modulation row of row `R`. -/
def modAt (R : Fin 17408) (l : Fin 6144) : EReal := a1 (ix3 ⟨modOf (R.val / 256), modOf_lt _ (by omega)⟩ 0 l)

/-- The residual after the mixers, at row `R`. -/
def midAt (R : Fin 17408) : Fin 1024 → EReal :=
  midRow (modAt a1 R) (fun j => a0 (ix2 R j))
    (projRow (mixedRow (fun j => a2 (ix2 R j)) (fun j => a3 (ix2 R j)) (fun j => a4 (ix2 R j))) (fun a b => a5 (ix3 3 a b)))
    (fun j => a6 (ix2 0 j))

/-- The feed-forward's input at row `R`. -/
def hiddenAt (R : Fin 17408) : Fin 1024 → EReal :=
  hiddenRow (modAt a1 R) (midAt a0 a1 a2 a3 a4 a5 a6 R) (fun j => a7 (ix2 0 j))

/-- The result at row `R`. -/
def resultAt (R : Fin 17408) : Fin 1024 → EReal :=
  outRow (modAt a1 R) (midAt a0 a1 a2 a3 a4 a5 a6 R)
    (ffRow (hiddenAt a0 a1 a2 a3 a4 a5 a6 a7 R) (fun a b => a8 (ix3 3 a b)) (fun a b => a9 (ix3 3 a b))) (fun j => a10 (ix2 0 j))

section Tile

variable (u : ℕ) (hu : u < 34) (off off' : Fin 3 → ℕ)
  (h : ∀ a, off a + S1x1x6144.size a ≤ S8x1x6144.size a) (h' : ∀ a, off' a + S1x1x6144.size a ≤ S8x1x6144.size a)
  (e : off = ![modOf (2 * u), 0, 0]) (e' : off' = ![modOf (2 * u + 1), 0, 0]) (x8 : Vec Ideal S8x1x6144 .f32)
  (r8 : ∀ (q : Fin 8) (l : Fin 6144), x8 (ix3 q 0 l) = a1 (ix3 q 0 l))

include e r8 in
/-- The first half's modulation row is its rows'. -/
theorem table_lo (i : Fin 512) (hi : i.val < 256) (l : Fin 6144) :
    table x8 off h (ix2 0 l) = modAt a1 ⟨512 * u + i.val, tile_lt _ _ hu i.isLt⟩ l := by
  rw [table_at x8 off h ⟨modOf (2 * u), modOf_lt _ (by omega)⟩ e l, r8]
  unfold modAt
  congr 2
  apply Fin.ext
  show modOf (2 * u) = modOf ((512 * u + i.val) / 256)
  congr 1
  omega

include e' r8 in
/-- The second half's modulation row is its rows'. -/
theorem table_hi (i : Fin 512) (hi : ¬ i.val < 256) (l : Fin 6144) :
    table x8 off' h' (ix2 0 l) = modAt a1 ⟨512 * u + i.val, tile_lt _ _ hu i.isLt⟩ l := by
  rw [table_at x8 off' h' ⟨modOf (2 * u + 1), modOf_lt _ (by omega)⟩ e' l, r8]
  unfold modAt
  congr 2
  apply Fin.ext
  show modOf (2 * u + 1) = modOf ((512 * u + i.val) / 256)
  congr 1
  omega

variable (x0 : Vec Ideal S512x1024 .f32) (x1 : Vec Ideal S512x256 .bf16) (x2 : Vec Ideal S512x512 .bf16) (x3 : Vec Ideal S512x256 .bf16)
  (x9 : Vec Ideal S1x1024x1024 .bf16) (x10 x11 : Vec Ideal S1x1024 .f32)
  (r0 : ∀ (i : Fin 512) (l : Fin 1024), x0 (ix2 i l) = a0 (ix2 ⟨512 * u + i.val, tile_lt _ _ hu i.isLt⟩ l))
  (r1 : ∀ (i : Fin 512) (l : Fin 256), x1 (ix2 i l) = a2 (ix2 ⟨512 * u + i.val, tile_lt _ _ hu i.isLt⟩ l))
  (r2 : ∀ (i : Fin 512) (l : Fin 512), x2 (ix2 i l) = a3 (ix2 ⟨512 * u + i.val, tile_lt _ _ hu i.isLt⟩ l))
  (r3 : ∀ (i : Fin 512) (l : Fin 256), x3 (ix2 i l) = a4 (ix2 ⟨512 * u + i.val, tile_lt _ _ hu i.isLt⟩ l))
  (r9 : ∀ (a b : Fin 1024), x9 (ix3 0 a b) = a5 (ix3 3 a b))
  (r10 : ∀ l : Fin 1024, x10 (ix2 0 l) = a6 (ix2 0 l)) (r11 : ∀ l : Fin 1024, x11 (ix2 0 l) = a7 (ix2 0 l))

include r0 r1 r2 r3 r9 r10 in
/-- A tile's residual row, from the tile's blocks. -/
theorem tileMid_eq (i : Fin 512) :
    tileMid x0 x1 x2 x3 x9 x10 (modAt a1 ⟨512 * u + i.val, tile_lt _ _ hu i.isLt⟩) i
      = midAt a0 a1 a2 a3 a4 a5 a6 ⟨512 * u + i.val, tile_lt _ _ hu i.isLt⟩ := by
  unfold tileMid midAt
  simp only [r0, r1, r2, r3, r9, r10]

include e e' r8 r0 r1 r2 r3 r9 r10 in
/-- The stored residual of a tile. -/
theorem mid_tile (i : Fin 512) (k : Fin 1024) :
    View.canon (midPieces x0 x1 x2 x3 x9 x10 (table x8 off h) (table x8 off' h')) (ix2 i k)
      = midAt a0 a1 a2 a3 a4 a5 a6 ⟨512 * u + i.val, tile_lt _ _ hu i.isLt⟩ k := by
  rw [midPieces_at x0 x1 x2 x3 x9 x10 _ _ (modAt a1 ⟨512 * u + i.val, tile_lt _ _ hu i.isLt⟩) i k
    (fun hi => table_lo a1 u hu off h e x8 r8 i hi) (fun hi => table_hi a1 u hu off' h' e' x8 r8 i hi)]
  rw [tileMid_eq a0 a1 a2 a3 a4 a5 a6 u hu x0 x1 x2 x3 x9 x10 r0 r1 r2 r3 r9 r10]

include e e' r8 r0 r1 r2 r3 r9 r10 r11 in
/-- The stored feed-forward input of a tile. -/
theorem hidden_tile (i : Fin 512) (k : Fin 1024) :
    View.canon (hiddenPieces x0 x1 x2 x3 x9 x10 x11 (table x8 off h) (table x8 off' h')) (ix2 i k)
      = hiddenAt a0 a1 a2 a3 a4 a5 a6 a7 ⟨512 * u + i.val, tile_lt _ _ hu i.isLt⟩ k := by
  rw [hiddenPieces_at x0 x1 x2 x3 x9 x10 x11 _ _ (modAt a1 ⟨512 * u + i.val, tile_lt _ _ hu i.isLt⟩) i k
    (fun hi => table_lo a1 u hu off h e x8 r8 i hi) (fun hi => table_hi a1 u hu off' h' e' x8 r8 i hi)]
  rw [tileMid_eq a0 a1 a2 a3 a4 a5 a6 u hu x0 x1 x2 x3 x9 x10 r0 r1 r2 r3 r9 r10]
  unfold hiddenAt
  simp only [r11]

variable {κ : Kind} {sp : Space} (v : View sig κ sp S512x1024 .f32) (g g' : FVec Ideal S256x1024 .f32) (hb : FVec Ideal S512x1024 .bf16)
  (x12 : Vec Ideal S1x1024x5632 .bf16) (x13 : Vec Ideal S1x2816x1024 .bf16) (x14 : Vec Ideal S1x1024 .f32)
  (rg : ∀ (i : Fin 256) (l : Fin 1024), g (ix2 i l) = midAt a0 a1 a2 a3 a4 a5 a6 ⟨512 * u + i.val, tile_lt _ _ hu (lo_lt i)⟩ l)
  (rg' : ∀ (i : Fin 256) (l : Fin 1024), g' (ix2 i l) = midAt a0 a1 a2 a3 a4 a5 a6 ⟨512 * u + (256 + i.val), tile_lt _ _ hu (hi_lt i)⟩ l)
  (rb : ∀ (i : Fin 512) (l : Fin 1024), hb (ix2 i l) = hiddenAt a0 a1 a2 a3 a4 a5 a6 a7 ⟨512 * u + i.val, tile_lt _ _ hu i.isLt⟩ l)
  (r12 : ∀ (a : Fin 1024) (b : Fin 5632), x12 (ix3 0 a b) = a8 (ix3 3 a b))
  (r13 : ∀ (a : Fin 2816) (b : Fin 1024), x13 (ix3 0 a b) = a9 (ix3 3 a b)) (r14 : ∀ l : Fin 1024, x14 (ix2 0 l) = a10 (ix2 0 l))

include e e' r8 rg rg' rb r12 r13 r14 in
/-- The stored result of a tile. -/
theorem out_tile (i : Fin 512) (k : Fin 1024) :
    View.canon (outPieces v g g' hb x12 x13 x14 (table x8 off h) (table x8 off' h')) (ix2 i k)
      = resultAt a0 a1 a2 a3 a4 a5 a6 a7 a8 a9 a10 ⟨512 * u + i.val, tile_lt _ _ hu i.isLt⟩ k := by
  rw [outPieces_at v g g' hb x12 x13 x14 _ _ (modAt a1 ⟨512 * u + i.val, tile_lt _ _ hu i.isLt⟩)
    (midAt a0 a1 a2 a3 a4 a5 a6 ⟨512 * u + i.val, tile_lt _ _ hu i.isLt⟩) i k
    (fun hi => table_lo a1 u hu off h e x8 r8 i hi) (fun hi => table_hi a1 u hu off' h' e' x8 r8 i hi)
    (fun hi l => rg ⟨i.val, hi⟩ l)
    (fun hi l => (rg' ⟨i.val - 256, by omega⟩ l).trans (congrArg (fun R => midAt a0 a1 a2 a3 a4 a5 a6 R l) (Fin.ext (show 512 * u + (256 + (i.val - 256)) = 512 * u + i.val by omega))))]
  unfold resultAt
  simp only [rb, r12, r13, r14]

end Tile

end Spec

end Mix
-- ==== Proof.MixRun.lean ====
/- The mixing and feed-forward kernel's array after its run. -/
module

public import proofs.«01_k».proof.Proof.MixRows

@[expose] public section

set_option maxRecDepth 65536

noncomputable section

namespace Mix

open Cert.Kernel2Ideal Cert.Kernel2Ideal.Gen Idealize.ShloMosaic Idealize.ShloMosaic.TcCoe Idealize.ShloMosaic.Tactic
open Idealize.ShloMosaic.Pipeline Idealize.SL.Sem

variable (m : (ℓ : Loc nD τ sig) → Buf (Elt Ideal) ℓ) (c : Dev nD) (ρ : Dev nD → PrngReg)

/-- The kernel's argument 0. -/
abbrev arg0 : FVec Ideal S17408x1024 .f32 := m ((c : Thread nD τ).loc main_arg0)
/-- The kernel's argument 1. -/
abbrev arg1 : FVec Ideal S8x1x6144 .f32 := m ((c : Thread nD τ).loc main_arg1)
/-- The kernel's argument 2. -/
abbrev arg2 : FVec Ideal S17408x256 .bf16 := m ((c : Thread nD τ).loc main_arg2)
/-- The kernel's argument 3. -/
abbrev arg3 : FVec Ideal S17408x512 .bf16 := m ((c : Thread nD τ).loc main_arg3)
/-- The kernel's argument 4. -/
abbrev arg4 : FVec Ideal S17408x256 .bf16 := m ((c : Thread nD τ).loc main_arg4)
/-- The kernel's argument 5. -/
abbrev arg5 : FVec Ideal S4x1024x1024 .bf16 := m ((c : Thread nD τ).loc main_arg5)
/-- The kernel's argument 6. -/
abbrev arg6 : FVec Ideal S1x1024 .f32 := m ((c : Thread nD τ).loc main_arg6)
/-- The kernel's argument 7. -/
abbrev arg7 : FVec Ideal S1x1024 .f32 := m ((c : Thread nD τ).loc main_arg7)
/-- The kernel's argument 8. -/
abbrev arg8 : FVec Ideal S4x1024x5632 .bf16 := m ((c : Thread nD τ).loc main_arg8)
/-- The kernel's argument 9. -/
abbrev arg9 : FVec Ideal S4x2816x1024 .bf16 := m ((c : Thread nD τ).loc main_arg9)
/-- The kernel's argument 10. -/
abbrev arg10 : FVec Ideal S1x1024 .f32 := m ((c : Thread nD τ).loc main_arg10)

/-- A grid point's number. -/
theorem point_lt (t : Fin cfg0.N) : t.val < 34 := lt_of_lt_of_eq t.isLt N_0

/-- The next tile's number. -/
theorem next_lt (t : Fin cfg0.N) : min (t.val + 1) 33 < 34 := by omega

/-- After an even point: the next tile's residual. -/
theorem mid_after_even (t : Fin cfg0.N) (hp : t.val % 2 = 0) (i : Fin 512) (k : Fin 1024) :
    (outsAt0 m c t.val t.isLt).2.2.1 (ix2 i k) = midAt (arg0 m c) (arg1 m c) (arg2 m c) (arg3 m c) (arg4 m c) (arg5 m c) (arg6 m c) ⟨512 * min (t.val + 1) 33 + i.val, tile_lt _ _ (next_lt t) i.isLt⟩ k := by
  have ht := point_lt t
  by_cases hz : t.val % 34 = 0
  · refine (congrFun (mid_A m c t hz hp (by omega) (inb_of _ _ (off2 t hp).1 (by omega)) (inb_of _ _ (off2 t hp).2 (by omega)) (inb_of _ _ (off3 t hp).1 (by omega)) (inb_of _ _ (off3 t hp).2 (by omega)) (inb_of _ 0 rfl (by omega)) (inb_of _ 1 rfl (by omega))) (ix2 i k)).trans ?_
    exact mid_tile (arg0 m c) (arg1 m c) (arg2 m c) (arg3 m c) (arg4 m c) (arg5 m c) (arg6 m c) (min (t.val + 1) 33) (next_lt t) _ _ _ _ (off2 t hp).1 (off2 t hp).2 (iblk m c 8 t) (block_8 m c t)
      (iblk m c 4 t) (iblk m c 5 t) (iblk m c 6 t) (iblk m c 7 t) (iblk m c 9 t) (iblk m c 10 t) (block_4 m c t) (block_5 m c t) (block_6 m c t) (block_7 m c t) (block_9 m c t) (block_10 m c t) i k
  · refine (congrFun (mid_C m c t hz hp (by omega) (inb_of _ _ (off2 t hp).1 (by omega)) (inb_of _ _ (off2 t hp).2 (by omega)) (inb_of _ _ (off3 t hp).1 (by omega)) (inb_of _ _ (off3 t hp).2 (by omega))) (ix2 i k)).trans ?_
    exact mid_tile (arg0 m c) (arg1 m c) (arg2 m c) (arg3 m c) (arg4 m c) (arg5 m c) (arg6 m c) (min (t.val + 1) 33) (next_lt t) _ _ _ _ (off2 t hp).1 (off2 t hp).2 (iblk m c 8 t) (block_8 m c t)
      (iblk m c 4 t) (iblk m c 5 t) (iblk m c 6 t) (iblk m c 7 t) (iblk m c 9 t) (iblk m c 10 t) (block_4 m c t) (block_5 m c t) (block_6 m c t) (block_7 m c t) (block_9 m c t) (block_10 m c t) i k

/-- After an odd point: the next tile's residual. -/
theorem mid_after_odd (t : Fin cfg0.N) (hp : t.val % 2 = 1) (i : Fin 512) (k : Fin 1024) :
    (outsAt0 m c t.val t.isLt).2.1 (ix2 i k) = midAt (arg0 m c) (arg1 m c) (arg2 m c) (arg3 m c) (arg4 m c) (arg5 m c) (arg6 m c) ⟨512 * min (t.val + 1) 33 + i.val, tile_lt _ _ (next_lt t) i.isLt⟩ k := by
  have ht := point_lt t
  refine (congrFun (mid_B m c t (by omega) (by omega) hp (inb_of _ _ (off4 t hp).1 (by omega)) (inb_of _ _ (off4 t hp).2 (by omega)) (inb_of _ _ (off5 t hp).1 (by omega)) (inb_of _ _ (off5 t hp).2 (by omega))) (ix2 i k)).trans ?_
  exact mid_tile (arg0 m c) (arg1 m c) (arg2 m c) (arg3 m c) (arg4 m c) (arg5 m c) (arg6 m c) (min (t.val + 1) 33) (next_lt t) _ _ _ _ (off4 t hp).1 (off4 t hp).2 (iblk m c 8 t) (block_8 m c t)
      (iblk m c 4 t) (iblk m c 5 t) (iblk m c 6 t) (iblk m c 7 t) (iblk m c 9 t) (iblk m c 10 t) (block_4 m c t) (block_5 m c t) (block_6 m c t) (block_7 m c t) (block_9 m c t) (block_10 m c t) i k

/-- After an even point: the next tile's feed-forward input. -/
theorem hid_after_even (t : Fin cfg0.N) (hp : t.val % 2 = 0) (i : Fin 512) (k : Fin 1024) :
    (outsAt0 m c t.val t.isLt).2.2.2.2 (ix2 i k) = hiddenAt (arg0 m c) (arg1 m c) (arg2 m c) (arg3 m c) (arg4 m c) (arg5 m c) (arg6 m c) (arg7 m c) ⟨512 * min (t.val + 1) 33 + i.val, tile_lt _ _ (next_lt t) i.isLt⟩ k := by
  have ht := point_lt t
  by_cases hz : t.val % 34 = 0
  · refine (congrFun (hid_A m c t hz hp (by omega) (inb_of _ _ (off2 t hp).1 (by omega)) (inb_of _ _ (off2 t hp).2 (by omega)) (inb_of _ _ (off3 t hp).1 (by omega)) (inb_of _ _ (off3 t hp).2 (by omega)) (inb_of _ 0 rfl (by omega)) (inb_of _ 1 rfl (by omega))) (ix2 i k)).trans ?_
    exact hidden_tile (arg0 m c) (arg1 m c) (arg2 m c) (arg3 m c) (arg4 m c) (arg5 m c) (arg6 m c) (arg7 m c) (min (t.val + 1) 33) (next_lt t) _ _ _ _ (off2 t hp).1 (off2 t hp).2 (iblk m c 8 t) (block_8 m c t)
      (iblk m c 4 t) (iblk m c 5 t) (iblk m c 6 t) (iblk m c 7 t) (iblk m c 9 t) (iblk m c 10 t) (iblk m c 11 t) (block_4 m c t) (block_5 m c t) (block_6 m c t) (block_7 m c t) (block_9 m c t) (block_10 m c t) (block_11 m c t) i k
  · refine (congrFun (hid_C m c t hz hp (by omega) (inb_of _ _ (off2 t hp).1 (by omega)) (inb_of _ _ (off2 t hp).2 (by omega)) (inb_of _ _ (off3 t hp).1 (by omega)) (inb_of _ _ (off3 t hp).2 (by omega))) (ix2 i k)).trans ?_
    exact hidden_tile (arg0 m c) (arg1 m c) (arg2 m c) (arg3 m c) (arg4 m c) (arg5 m c) (arg6 m c) (arg7 m c) (min (t.val + 1) 33) (next_lt t) _ _ _ _ (off2 t hp).1 (off2 t hp).2 (iblk m c 8 t) (block_8 m c t)
      (iblk m c 4 t) (iblk m c 5 t) (iblk m c 6 t) (iblk m c 7 t) (iblk m c 9 t) (iblk m c 10 t) (iblk m c 11 t) (block_4 m c t) (block_5 m c t) (block_6 m c t) (block_7 m c t) (block_9 m c t) (block_10 m c t) (block_11 m c t) i k

/-- After an odd point: the next tile's feed-forward input. -/
theorem hid_after_odd (t : Fin cfg0.N) (hp : t.val % 2 = 1) (i : Fin 512) (k : Fin 1024) :
    (outsAt0 m c t.val t.isLt).2.2.2.1 (ix2 i k) = hiddenAt (arg0 m c) (arg1 m c) (arg2 m c) (arg3 m c) (arg4 m c) (arg5 m c) (arg6 m c) (arg7 m c) ⟨512 * min (t.val + 1) 33 + i.val, tile_lt _ _ (next_lt t) i.isLt⟩ k := by
  have ht := point_lt t
  refine (congrFun (hid_B m c t (by omega) (by omega) hp (inb_of _ _ (off4 t hp).1 (by omega)) (inb_of _ _ (off4 t hp).2 (by omega)) (inb_of _ _ (off5 t hp).1 (by omega)) (inb_of _ _ (off5 t hp).2 (by omega))) (ix2 i k)).trans ?_
  exact hidden_tile (arg0 m c) (arg1 m c) (arg2 m c) (arg3 m c) (arg4 m c) (arg5 m c) (arg6 m c) (arg7 m c) (min (t.val + 1) 33) (next_lt t) _ _ _ _ (off4 t hp).1 (off4 t hp).2 (iblk m c 8 t) (block_8 m c t)
      (iblk m c 4 t) (iblk m c 5 t) (iblk m c 6 t) (iblk m c 7 t) (iblk m c 9 t) (iblk m c 10 t) (iblk m c 11 t) (block_4 m c t) (block_5 m c t) (block_6 m c t) (block_7 m c t) (block_9 m c t) (block_10 m c t) (block_11 m c t) i k

/-- The tile of a point is the next tile of the point before. -/
theorem row_prev (t : Fin cfg0.N) (hz : t.val ≠ 0) (n : ℕ) (hn : n < 512) :
    (⟨512 * min (t.val - 1 + 1) 33 + n, tile_lt _ _ (by omega) hn⟩ : Fin 17408) = ⟨512 * t.val + n, tile_lt _ _ (point_lt t) hn⟩ := by
  have ht := point_lt t
  apply Fin.ext
  show 512 * min (t.val - 1 + 1) 33 + n = 512 * t.val + n
  omega

/-- The result rows of an odd point. -/
theorem out_B_rows (t : Fin cfg0.N) (hp : t.val % 2 = 1) (i : Fin 512) (k : Fin 1024) :
    (outsAt0 m c t.val t.isLt).1 (ix2 i k) = resultAt (arg0 m c) (arg1 m c) (arg2 m c) (arg3 m c) (arg4 m c) (arg5 m c) (arg6 m c) (arg7 m c) (arg8 m c) (arg9 m c) (arg10 m c) ⟨512 * t.val + i.val, tile_lt _ _ (point_lt t) i.isLt⟩ k := by
  have ht := point_lt t
  have hz' : t.val ≠ 0 := by omega
  have hq : (t.val - 1) % 2 = 0 := by omega
  have hM := fun r l => mid_after_even m c ⟨t.val - 1, Nat.lt_of_le_of_lt (Nat.sub_le _ _) t.isLt⟩ hq r l
  have hH := fun r l => hid_after_even m c ⟨t.val - 1, Nat.lt_of_le_of_lt (Nat.sub_le _ _) t.isLt⟩ hq r l
  refine (congrFun (out_B m c t (by omega) (by omega) hp (inb_of _ _ (off4 t hp).1 (by omega)) (inb_of _ _ (off4 t hp).2 (by omega)) (inb_of _ _ (off5 t hp).1 (by omega)) (inb_of _ _ (off5 t hp).2 (by omega))) (ix2 i k)).trans ?_
  refine out_tile (arg0 m c) (arg1 m c) (arg2 m c) (arg3 m c) (arg4 m c) (arg5 m c) (arg6 m c) (arg7 m c) (arg8 m c) (arg9 m c) (arg10 m c) t.val (point_lt t) _ _ _ _ (off5 t hp).1 (off5 t hp).2 (iblk m c 8 t) (block_8 m c t)
    scM0_4.view _ _ _ (iblk m c 12 t) (iblk m c 13 t) (iblk m c 14 t) ?_ ?_ ?_ (block_12 m c t) (block_13 m c t) (block_14 m c t) i k
  · intro r l
    rw [half_at]
    refine (hM _ l).trans (congrArg (fun R => midAt (arg0 m c) (arg1 m c) (arg2 m c) (arg3 m c) (arg4 m c) (arg5 m c) (arg6 m c) R l) ?_)
    refine (row_prev t hz' (0 + r.val) (by omega)).trans (Fin.ext (show 512 * t.val + (0 + r.val) = 512 * t.val + r.val by omega))
  · intro r l
    rw [half_at]
    exact (hM _ l).trans (congrArg (fun R => midAt (arg0 m c) (arg1 m c) (arg2 m c) (arg3 m c) (arg4 m c) (arg5 m c) (arg6 m c) R l) (row_prev t hz' (256 + r.val) (by omega)))
  · intro r l
    rw [all1024_eq]
    exact (hH r l).trans (congrArg (fun R => hiddenAt (arg0 m c) (arg1 m c) (arg2 m c) (arg3 m c) (arg4 m c) (arg5 m c) (arg6 m c) (arg7 m c) R l) (row_prev t hz' r.val r.isLt))

/-- The result rows of a later even point. -/
theorem out_C_rows (t : Fin cfg0.N) (hz : ¬ t.val % 34 = 0) (hp : t.val % 2 = 0) (i : Fin 512) (k : Fin 1024) :
    (outsAt0 m c t.val t.isLt).1 (ix2 i k) = resultAt (arg0 m c) (arg1 m c) (arg2 m c) (arg3 m c) (arg4 m c) (arg5 m c) (arg6 m c) (arg7 m c) (arg8 m c) (arg9 m c) (arg10 m c) ⟨512 * t.val + i.val, tile_lt _ _ (point_lt t) i.isLt⟩ k := by
  have ht := point_lt t
  have hz' : t.val ≠ 0 := by omega
  have hq : (t.val - 1) % 2 = 1 := by omega
  have hM := fun r l => mid_after_odd m c ⟨t.val - 1, Nat.lt_of_le_of_lt (Nat.sub_le _ _) t.isLt⟩ hq r l
  have hH := fun r l => hid_after_odd m c ⟨t.val - 1, Nat.lt_of_le_of_lt (Nat.sub_le _ _) t.isLt⟩ hq r l
  refine (congrFun (out_C m c t hz hp (by omega) (inb_of _ _ (off2 t hp).1 (by omega)) (inb_of _ _ (off2 t hp).2 (by omega)) (inb_of _ _ (off3 t hp).1 (by omega)) (inb_of _ _ (off3 t hp).2 (by omega))) (ix2 i k)).trans ?_
  refine out_tile (arg0 m c) (arg1 m c) (arg2 m c) (arg3 m c) (arg4 m c) (arg5 m c) (arg6 m c) (arg7 m c) (arg8 m c) (arg9 m c) (arg10 m c) t.val (point_lt t) _ _ _ _ (off3 t hp).1 (off3 t hp).2 (iblk m c 8 t) (block_8 m c t)
    scM0_4.view _ _ _ (iblk m c 12 t) (iblk m c 13 t) (iblk m c 14 t) ?_ ?_ ?_ (block_12 m c t) (block_13 m c t) (block_14 m c t) i k
  · intro r l
    rw [half_at]
    refine (hM _ l).trans (congrArg (fun R => midAt (arg0 m c) (arg1 m c) (arg2 m c) (arg3 m c) (arg4 m c) (arg5 m c) (arg6 m c) R l) ?_)
    refine (row_prev t hz' (0 + r.val) (by omega)).trans (Fin.ext (show 512 * t.val + (0 + r.val) = 512 * t.val + r.val by omega))
  · intro r l
    rw [half_at]
    exact (hM _ l).trans (congrArg (fun R => midAt (arg0 m c) (arg1 m c) (arg2 m c) (arg3 m c) (arg4 m c) (arg5 m c) (arg6 m c) R l) (row_prev t hz' (256 + r.val) (by omega)))
  · intro r l
    rw [all1024_eq]
    exact (hH r l).trans (congrArg (fun R => hiddenAt (arg0 m c) (arg1 m c) (arg2 m c) (arg3 m c) (arg4 m c) (arg5 m c) (arg6 m c) (arg7 m c) R l) (row_prev t hz' r.val r.isLt))

/-- The result rows of the first point. -/
theorem out_A_rows (t : Fin cfg0.N) (hz : t.val % 34 = 0) (i : Fin 512) (k : Fin 1024) :
    (outsAt0 m c t.val t.isLt).1 (ix2 i k) = resultAt (arg0 m c) (arg1 m c) (arg2 m c) (arg3 m c) (arg4 m c) (arg5 m c) (arg6 m c) (arg7 m c) (arg8 m c) (arg9 m c) (arg10 m c) ⟨512 * t.val + i.val, tile_lt _ _ (point_lt t) i.isLt⟩ k := by
  have ht := point_lt t
  have hz' : t.val = 0 := by omega
  have hp : t.val % 2 = 0 := by omega
  have hM := mid_tile (arg0 m c) (arg1 m c) (arg2 m c) (arg3 m c) (arg4 m c) (arg5 m c) (arg6 m c) 0 (by omega) _ _ (inb_of _ 0 rfl (by omega)) (inb_of _ 1 rfl (by omega)) rfl rfl (iblk m c 8 t) (block_8 m c t)
      (iblk m c 0 t) (iblk m c 1 t) (iblk m c 2 t) (iblk m c 3 t) (iblk m c 9 t) (iblk m c 10 t) (block_0 m c t) (block_1 m c t) (block_2 m c t) (block_3 m c t) (block_9 m c t) (block_10 m c t)
  have hH := hidden_tile (arg0 m c) (arg1 m c) (arg2 m c) (arg3 m c) (arg4 m c) (arg5 m c) (arg6 m c) (arg7 m c) 0 (by omega) _ _ (inb_of _ 0 rfl (by omega)) (inb_of _ 1 rfl (by omega)) rfl rfl (iblk m c 8 t) (block_8 m c t)
      (iblk m c 0 t) (iblk m c 1 t) (iblk m c 2 t) (iblk m c 3 t) (iblk m c 9 t) (iblk m c 10 t) (iblk m c 11 t) (block_0 m c t) (block_1 m c t) (block_2 m c t) (block_3 m c t) (block_9 m c t) (block_10 m c t) (block_11 m c t)
  refine (congrFun (out_A m c t hz hp (by omega) (inb_of _ _ (off2 t hp).1 (by omega)) (inb_of _ _ (off2 t hp).2 (by omega)) (inb_of _ _ (off3 t hp).1 (by omega)) (inb_of _ _ (off3 t hp).2 (by omega)) (inb_of _ 0 rfl (by omega)) (inb_of _ 1 rfl (by omega))) (ix2 i k)).trans ?_
  refine out_tile (arg0 m c) (arg1 m c) (arg2 m c) (arg3 m c) (arg4 m c) (arg5 m c) (arg6 m c) (arg7 m c) (arg8 m c) (arg9 m c) (arg10 m c) t.val (point_lt t) _ _ _ _ (off3 t hp).1 (off3 t hp).2 (iblk m c 8 t) (block_8 m c t)
    scM0_4.view _ _ _ (iblk m c 12 t) (iblk m c 13 t) (iblk m c 14 t) ?_ ?_ ?_ (block_12 m c t) (block_13 m c t) (block_14 m c t) i k
  · intro r l
    rw [readLo]
    exact (hM _ l).trans (congrArg (fun R => midAt (arg0 m c) (arg1 m c) (arg2 m c) (arg3 m c) (arg4 m c) (arg5 m c) (arg6 m c) R l) (Fin.ext (show 512 * 0 + r.val = 512 * t.val + r.val by omega)))
  · intro r l
    rw [readHi]
    exact (hM _ l).trans (congrArg (fun R => midAt (arg0 m c) (arg1 m c) (arg2 m c) (arg3 m c) (arg4 m c) (arg5 m c) (arg6 m c) R l) (Fin.ext (show 512 * 0 + (256 + r.val) = 512 * t.val + (256 + r.val) by omega)))
  · intro r l
    rw [readAll]
    exact (hH r l).trans (congrArg (fun R => hiddenAt (arg0 m c) (arg1 m c) (arg2 m c) (arg3 m c) (arg4 m c) (arg5 m c) (arg6 m c) (arg7 m c) R l) (Fin.ext (show 512 * 0 + r.val = 512 * t.val + r.val by omega)))

/-- The result rows of every point. -/
theorem out_rows (t : Fin cfg0.N) (i : Fin 512) (k : Fin 1024) :
    (outsAt0 m c t.val t.isLt).1 (ix2 i k) = resultAt (arg0 m c) (arg1 m c) (arg2 m c) (arg3 m c) (arg4 m c) (arg5 m c) (arg6 m c) (arg7 m c) (arg8 m c) (arg9 m c) (arg10 m c) ⟨512 * t.val + i.val, tile_lt _ _ (point_lt t) i.isLt⟩ k := by
  by_cases hz : t.val % 34 = 0
  · exact out_A_rows m c t hz i k
  · by_cases hp : t.val % 2 = 0
    · exact out_C_rows m c t hz hp i k
    · exact out_B_rows m c t (by omega) i k

/-- The array the kernel leaves. -/
def resultArray : FVec Ideal S17408x1024 .f32 := fun i => resultAt (arg0 m c) (arg1 m c) (arg2 m c) (arg3 m c) (arg4 m c) (arg5 m c) (arg6 m c) (arg7 m c) (arg8 m c) (arg9 m c) (arg10 m c) (i 0) (i 1)

/-- Each point writes its block of that array. -/
theorem flushed (t : Fin cfg0.N) : (dats m 0 c).flushed 15 t = ((cfg0.win 15).blk t).view.read (Elt Ideal) (resultArray m c) := by
  show (cfg0.win 15).cut (grid0.coords t) ((dats m 0 c).after 15 t) = _
  rw [after0_15]
  funext y
  have hx : (cfg0.win 15).xinj (grid0.coords t) y = (ix2 (y 0 : Fin 512) (y 1 : Fin 1024) : S512x1024.Idx) := by
    funext a; apply Fin.ext
    match a with
    | ⟨0, _⟩ => rfl
    | ⟨1, _⟩ => rfl
  show (outsAt0 m c t.val t.isLt).1 ((cfg0.win 15).xinj (grid0.coords t) y) = resultArray m c (((cfg0.win 15).blk t).view.emb y)
  rw [hx]
  refine (out_rows m c t (y 0) (y 1)).trans ?_
  have h := index_15 t
  unfold resultArray
  refine congr (congrArg _ (Fin.ext ?_)) (Fin.ext ?_)
  · show 512 * t.val + (y 0).val = win0_15.index t 0 * 512 + 1 * (y 0).val
    rw [h]; simp; omega
  · show (y 1).val = win0_15.index t 1 * 1024 + 1 * (y 1).val
    rw [h]; simp

/-- The rows in a point's block. -/
theorem mem_block (t : Fin cfg0.N) (i : S17408x1024.Idx) : i ∈ ((cfg0.win 15).blk t).view.set
    ↔ ∀ a : Fin 2, win0_15.index t a * S512x1024.size a ≤ (i a).val ∧ (i a).val < win0_15.index t a * S512x1024.size a + S512x1024.size a := by
  show i ∈ ((View.whole main_v0).slice (win0_15.rect t)).set ↔ _
  rw [View.set_slice_whole, Rect.mem_set_unit]
  exact Iff.rfl

/-- Every index lies in some point's block. -/
theorem covered (i : S17408x1024.Idx) : ∃ t : Fin cfg0.N, (cfg0.win 15).flush t = true ∧ i ∈ ((cfg0.win 15).blk t).view.set := by
  have hi0 : (i 0).val < 17408 := (i 0).isLt
  have hi1 : (i 1).val < 1024 := (i 1).isLt
  have hN : (i 0).val / 512 < cfg0.N := lt_of_lt_of_eq (by omega) N_0.symm
  refine ⟨⟨(i 0).val / 512, hN⟩, flush0_15 _, ?_⟩
  rw [mem_block, index_15]
  intro a
  match a with
  | ⟨0, _⟩ => show (i 0).val / 512 * 512 ≤ (i 0).val ∧ (i 0).val < (i 0).val / 512 * 512 + 512; omega
  | ⟨1, _⟩ => show 0 * 1024 ≤ (i 1).val ∧ (i 1).val < 0 * 1024 + 1024; omega

/-- The array after the run. -/
theorem finalArray : (dats m 0 c).arrAt 15 cfg0.N = resultArray m c :=
  (dats m 0 c).arrAt_eq_of_cover 15 _ (fun t _ => flushed m c t) covered

/-- The kernel runs to its end with that array, its arguments unchanged. -/
theorem kernel_run : θ_run defs (onTc (τ := τ) (main (F := Ideal))) ⟨m, fun _ => 0, ρ⟩ fun r => ∀ c : Dev nD,
      r.2.mem ((c : Thread nD τ).loc main_v0) = resultArray m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 15).trans (finalArray m c),
      ((h c).1 0).trans (((dats m 0 c).arrAt_in 0 rfl _).trans (A_eq m c 0)),
      ((h c).1 8).trans (((dats m 0 c).arrAt_in 8 rfl _).trans (A_eq m c 8)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12)),
      ((h c).1 13).trans (((dats m 0 c).arrAt_in 13 rfl _).trans (A_eq m c 13)),
      ((h c).1 14).trans (((dats m 0 c).arrAt_in 14 rfl _).trans (A_eq m c 14))⟩)
    (run_main m ρ)

end Mix
-- ==== Proof.MixRef.lean ====
/- The mixing and feed-forward block of the reference, row by row. -/
module

public import proofs.«01_k».proof.Proof.MixSpec
public import Idealize.ShloMosaic.Lib.Pointwise
public import proofs.«01_k».proof.Proof.Gen.Reference2Ideal.Run

@[expose] public section

set_option maxRecDepth 65536

noncomputable section

namespace MixRef

open Cert.Reference2Ideal Cert.Reference2Ideal.Gen Cert.Reference2Ideal.Value Idealize.ShloMosaic Idealize.ShloMosaic.TcCoe Idealize.ShloMosaic.Tactic
open Mix (midRow hiddenRow outRow ffRow gateRow actRow projRow mixedRow rmsRow)

section Rows

variable (a0 : FVec Ideal S17408x1024 .f32) (a1 : FVec Ideal S8x1x6144 .f32) (a2 : FVec Ideal S17408x256 .bf16)
  (a3 : FVec Ideal S17408x512 .bf16) (a4 : FVec Ideal S17408x256 .bf16) (a5 : FVec Ideal S4x1024x1024 .bf16)
  (a6 a7 : FVec Ideal S1x1024 .f32) (a8 : FVec Ideal S4x1024x5632 .bf16) (a9 : FVec Ideal S4x2816x1024 .bf16)
  (a10 : FVec Ideal S1x1024 .f32) (q : Fin 8) (R : Fin 17408)

/-- A row's three mixers, projected. -/
def projOf : Fin 1024 → EReal :=
  projRow (mixedRow (fun j => a2 (ix2 R j)) (fun j => a3 (ix2 R j)) (fun j => a4 (ix2 R j))) (fun a b => a5 (ix3 3 a b))

/-- A row's residual after the mixers, under modulation row `q`. -/
def midOf : Fin 1024 → EReal :=
  midRow (fun l => a1 (ix3 q 0 l)) (fun j => a0 (ix2 R j)) (projOf a2 a3 a4 a5 R) (fun j => a6 (ix2 0 j))

/-- A row's feed-forward input. -/
def hiddenOf : Fin 1024 → EReal :=
  hiddenRow (fun l => a1 (ix3 q 0 l)) (midOf a0 a1 a2 a3 a4 a5 a6 q R) (fun j => a7 (ix2 0 j))

/-- A row's feed-forward result. -/
def ffOf : Fin 1024 → EReal :=
  ffRow (hiddenOf a0 a1 a2 a3 a4 a5 a6 a7 q R) (fun a b => a8 (ix3 3 a b)) (fun a b => a9 (ix3 3 a b))

/-- A row's result. -/
def resultOf : Fin 1024 → EReal :=
  outRow (fun l => a1 (ix3 q 0 l)) (midOf a0 a1 a2 a3 a4 a5 a6 q R) (ffOf a0 a1 a2 a3 a4 a5 a6 a7 a8 a9 q R) (fun j => a10 (ix2 0 j))

end Rows

variable (V : Valuation τ sig (Elt Ideal))

/-- The reference's argument 0. -/
abbrev ar0 : FVec Ideal S17408x1024 .f32 := V (Proc.devRef .tc main_arg0)
/-- The reference's argument 1. -/
abbrev ar1 : FVec Ideal S8x1x6144 .f32 := V (Proc.devRef .tc main_arg1)
/-- The reference's argument 2. -/
abbrev ar2 : FVec Ideal S17408x256 .bf16 := V (Proc.devRef .tc main_arg2)
/-- The reference's argument 3. -/
abbrev ar3 : FVec Ideal S17408x512 .bf16 := V (Proc.devRef .tc main_arg3)
/-- The reference's argument 4. -/
abbrev ar4 : FVec Ideal S17408x256 .bf16 := V (Proc.devRef .tc main_arg4)
/-- The reference's argument 5. -/
abbrev ar5 : FVec Ideal S4x1024x1024 .bf16 := V (Proc.devRef .tc main_arg5)
/-- The reference's argument 6. -/
abbrev ar6 : FVec Ideal S1x1024 .f32 := V (Proc.devRef .tc main_arg6)
/-- The reference's argument 7. -/
abbrev ar7 : FVec Ideal S1x1024 .f32 := V (Proc.devRef .tc main_arg7)
/-- The reference's argument 8. -/
abbrev ar8 : FVec Ideal S4x1024x5632 .bf16 := V (Proc.devRef .tc main_arg8)
/-- The reference's argument 9. -/
abbrev ar9 : FVec Ideal S4x2816x1024 .bf16 := V (Proc.devRef .tc main_arg9)
/-- The reference's argument 10. -/
abbrev ar10 : FVec Ideal S1x1024 .f32 := V (Proc.devRef .tc main_arg10)

/-- A row of a batch. -/
abbrev row (b : Fin 4) (t : Fin 4352) : Fin 17408 := ⟨b.val * 4352 + t.val, by omega⟩

/-- A context row's place in its batch. -/
abbrev ctx (t : Fin 256) : Fin 4352 := ⟨t.val, by omega⟩

/-- A latent row's place in its batch. -/
abbrev lat (t : Fin 4096) : Fin 4352 := ⟨256 + t.val, by omega⟩

/-- A batch's modulation row. -/
abbrev batch (b : Fin 4) : Fin 8 := ⟨b.val, by omega⟩

/-- The residual stream. -/
theorem v0_at (b : Fin 4) (t : Fin 4352) (k : Fin 1024) : (res_main_v0 V : FVec Ideal S4x4352x1024 .f32) (ix3 b t k) = ar0 V (ix2 (row b t) k) := by
  unfold res_main_v0
  pointwise []

/-- The mixers side by side. -/
theorem v5_at (b : Fin 4) (t : Fin 4352) (k : Fin 1024) : (res_main_v5 V : FVec Ideal S4x4352x1024 .f32) (ix3 b t k)
    = mixedRow (fun j => ar2 V (ix2 (row b t) j)) (fun j => ar3 V (ix2 (row b t) j)) (fun j => ar4 V (ix2 (row b t) j)) k := by
  unfold res_main_v5 mixedRow
  pointwise []

/-- The projection matrix. -/
theorem v8_at (a b : Fin 1024) : (res_main_v8 V : FVec Ideal S1024x1024 .f32) (ix2 a b) = ar5 V (ix3 3 a b) := by
  unfold res_main_v8
  pointwise []

/-- The feed-forward's first matrix. -/
theorem v11_at (a : Fin 1024) (b : Fin 5632) : (res_main_v11 V : FVec Ideal S1024x5632 .f32) (ix2 a b) = ar8 V (ix3 3 a b) := by
  unfold res_main_v11
  pointwise []

/-- The feed-forward's second matrix. -/
theorem v14_at (a : Fin 2816) (b : Fin 1024) : (res_main_v14 V : FVec Ideal S2816x1024 .f32) (ix2 a b) = ar9 V (ix3 3 a b) := by
  unfold res_main_v14
  pointwise []

/-- The context's modulation row. -/
theorem v17_at (l : Fin 6144) : (res_main_v17 V : FVec Ideal S1x1x6144 .f32) (ix3 0 0 l) = ar1 V (ix3 4 0 l) := by
  unfold res_main_v17
  pointwise []

/-- The batches' modulation rows. -/
theorem v84_at (b : Fin 4) (l : Fin 6144) : (res_main_v84 V : FVec Ideal S4x1x6144 .f32) (ix3 b 0 l) = ar1 V (ix3 (batch b) 0 l) := by
  unfold res_main_v84
  pointwise []

/-- The projection of context rows, of any operands. -/
theorem ctx_proj (x : FVec Ideal S4x4352x1024 .f32) (w : FVec Ideal S1024x1024 .f32) (b : Fin 4) (t : Fin 256) (k : Fin 1024) :
    (Host.dotGeneral dot_S4x256x1024_S1024x1024_S4x256x1024_2_0_01_1_n_n none (extractStridedSlice S4x256x1024 ![0, 0, 0] x slices_S4x4352x1024_S4x256x1024_0_0_0) w : FVec Ideal S4x256x1024 .f32) (ix3 b t k) = ∑ j, x (ix3 b (ctx t) j) * w (ix2 j k) := by
  pointwise []

/-- The residual of context rows, of any operands. -/
theorem ctx_mid (h : FVec Ideal S4x4352x1024 .f32) (md : FVec Ideal S1x1x6144 .f32) (p : FVec Ideal S4x256x1024 .f32) (w : FVec Ideal S1x1024 .f32)
    (b : Fin 4) (t : Fin 256) (k : Fin 1024) :
    (addf (extractStridedSlice S4x256x1024 ![0, 0, 0] h slices_S4x4352x1024_S4x256x1024_0_0_0) (mulf (broadcastInDim S4x256x1024 ![0, 1, 2] bcast_S1x1x1024_S4x256x1024_0_1_2 (extractStridedSlice S1x1x1024 ![0, 0, 2048] md slices_S1x1x6144_S1x1x1024_0_0_2048)) (mulf (mulf p (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf p p) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 w)))) : FVec Ideal S4x256x1024 .f32) (ix3 b t k)
      = midRow (fun l => md (ix3 0 0 l)) (fun j => h (ix3 b (ctx t) j)) (fun j => p (ix3 b t j)) (fun j => w (ix2 0 j)) k := by
  unfold midRow rmsRow
  pointwise []

/-- The first product of context rows, of any operands. -/
theorem ctx_gate (h : FVec Ideal S4x256x1024 .f32) (md : FVec Ideal S1x1x6144 .f32) (w : FVec Ideal S1x1024 .f32) (v : FVec Ideal S1024x5632 .f32)
    (b : Fin 4) (t : Fin 256) (n : Fin 5632) :
    (Host.dotGeneral dot_S4x256x1024_S1024x5632_S4x256x5632_2_0_01_1_n_n none (addf (mulf (mulf (mulf h (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf h h) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 w))) (broadcastInDim S4x256x1024 ![0, 1, 2] bcast_S1x1x1024_S4x256x1024_0_1_2 (addf (broadcastInDim S1x1x1024 ![] bcast_S_S1x1x1024 (constant S_ .f32 0x3F800000#32)) (extractStridedSlice S1x1x1024 ![0, 0, 4096] md slices_S1x1x6144_S1x1x1024_0_0_4096)))) (broadcastInDim S4x256x1024 ![0, 1, 2] bcast_S1x1x1024_S4x256x1024_0_1_2 (extractStridedSlice S1x1x1024 ![0, 0, 3072] md slices_S1x1x6144_S1x1x1024_0_0_3072))) v : FVec Ideal S4x256x5632 .f32) (ix3 b t n)
      = gateRow (hiddenRow (fun l => md (ix3 0 0 l)) (fun j => h (ix3 b t j)) (fun j => w (ix2 0 j))) (fun x y => v (ix2 x y)) n := by
  unfold gateRow hiddenRow rmsRow
  pointwise []

/-- The first half of a product of context rows. -/
theorem ctx_half (g : FVec Ideal S4x256x5632 .f32) (b : Fin 4) (t : Fin 256) (n : Fin 2816) :
    (extractStridedSlice S4x256x2816 ![0, 0, 0] g slices_S4x256x5632_S4x256x2816_0_0_0 : FVec Ideal S4x256x2816 .f32) (ix3 b t n) = g (ix3 b t ⟨n.val, by omega⟩) := by
  pointwise []

/-- The second product of context rows, of any operands. -/
theorem ctx_ff (x : FVec Ideal S4x256x2816 .f32) (g : FVec Ideal S4x256x5632 .f32) (v : FVec Ideal S2816x1024 .f32)
    (b : Fin 4) (t : Fin 256) (k : Fin 1024) :
    (Host.dotGeneral dot_S4x256x2816_S2816x1024_S4x256x1024_2_0_01_1_n_n none (mulf (mulf x (Host.divf (broadcastInDim S4x256x2816 ![] bcast_S_S4x256x2816 (constant S_ .f32 0x3F800000#32)) (addf (broadcastInDim S4x256x2816 ![] bcast_S_S4x256x2816 (constant S_ .f32 0x3F800000#32)) (Host.exp (Host.negf x))))) (extractStridedSlice S4x256x2816 ![0, 0, 2816] g slices_S4x256x5632_S4x256x2816_0_0_2816)) v : FVec Ideal S4x256x1024 .f32) (ix3 b t k)
      = ∑ n : Fin 2816, x (ix3 b t n) * Ideal.div 1 (1 + Ideal.exp (-x (ix3 b t n))) * g (ix3 b t ⟨2816 + n.val, by omega⟩) * v (ix2 n k) := by
  pointwise []

/-- The result of context rows, of any operands. -/
theorem ctx_out (h f : FVec Ideal S4x256x1024 .f32) (md : FVec Ideal S1x1x6144 .f32) (w : FVec Ideal S1x1024 .f32)
    (b : Fin 4) (t : Fin 256) (k : Fin 1024) :
    ((addf h (mulf (broadcastInDim S4x256x1024 ![0, 1, 2] bcast_S1x1x1024_S4x256x1024_0_1_2 (extractStridedSlice S1x1x1024 ![0, 0, 5120] md slices_S1x1x6144_S1x1x1024_0_0_5120)) (mulf (mulf f (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf f f) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 w))))) : FVec Ideal S4x256x1024 .f32) (ix3 b t k)
      = outRow (fun l => md (ix3 0 0 l)) (fun j => h (ix3 b t j)) (fun j => f (ix3 b t j)) (fun j => w (ix2 0 j)) k := by
  unfold outRow rmsRow
  pointwise []

/-- A context row's projection. -/
theorem v24_at (b : Fin 4) (t : Fin 256) (k : Fin 1024) : (res_main_v24 V : FVec Ideal S4x256x1024 .f32) (ix3 b t k) = projOf (ar2 V) (ar3 V) (ar4 V) (ar5 V) (row b (ctx t)) k := by
  refine (ctx_proj (res_main_v5 V) (res_main_v8 V) b t k).trans ?_
  unfold projOf projRow
  simp only [v5_at, v8_at]

/-- A context row's residual after the mixers. -/
theorem v40_at (b : Fin 4) (t : Fin 256) (k : Fin 1024) : (res_main_v40 V : FVec Ideal S4x256x1024 .f32) (ix3 b t k) = midOf (ar0 V) (ar1 V) (ar2 V) (ar3 V) (ar4 V) (ar5 V) (ar6 V) 4 (row b (ctx t)) k := by
  refine (ctx_mid (res_main_v0 V) (res_main_v17 V) (res_main_v24 V) (ar6 V) b t k).trans ?_
  unfold midOf
  simp only [v0_at, v17_at, v24_at]

/-- A context row's first product. -/
theorem v60_at (b : Fin 4) (t : Fin 256) (n : Fin 5632) : (res_main_v60 V : FVec Ideal S4x256x5632 .f32) (ix3 b t n)
    = gateRow (hiddenOf (ar0 V) (ar1 V) (ar2 V) (ar3 V) (ar4 V) (ar5 V) (ar6 V) (ar7 V) 4 (row b (ctx t))) (fun x y => ar8 V (ix3 3 x y)) n := by
  refine (ctx_gate (res_main_v40 V) (res_main_v17 V) (ar7 V) (res_main_v11 V) b t n).trans ?_
  unfold hiddenOf
  simp only [v40_at, v17_at, v11_at]

/-- A context row's first half of the first product. -/
theorem v61_at (b : Fin 4) (t : Fin 256) (n : Fin 2816) : (res_main_v61 V : FVec Ideal S4x256x2816 .f32) (ix3 b t n)
    = gateRow (hiddenOf (ar0 V) (ar1 V) (ar2 V) (ar3 V) (ar4 V) (ar5 V) (ar6 V) (ar7 V) 4 (row b (ctx t))) (fun x y => ar8 V (ix3 3 x y)) ⟨n.val, by omega⟩ :=
  (ctx_half (res_main_v60 V) b t n).trans (v60_at V b t ⟨n.val, by omega⟩)

/-- A context row's feed-forward. -/
theorem v65_at (b : Fin 4) (t : Fin 256) (k : Fin 1024) : (res_main_v65 V : FVec Ideal S4x256x1024 .f32) (ix3 b t k)
    = ffOf (ar0 V) (ar1 V) (ar2 V) (ar3 V) (ar4 V) (ar5 V) (ar6 V) (ar7 V) (ar8 V) (ar9 V) 4 (row b (ctx t)) k := by
  refine (ctx_ff (res_main_v61 V) (res_main_v60 V) (res_main_v14 V) b t k).trans ?_
  unfold ffOf ffRow actRow Ideal.logistic
  simp only [v61_at, v60_at, v14_at]

/-- The context rows' results. -/
def ctxResult : FVec Ideal S4x256x1024 .f32 := (addf (res_main_v40 V) (mulf (broadcastInDim S4x256x1024 ![0, 1, 2] bcast_S1x1x1024_S4x256x1024_0_1_2 (extractStridedSlice S1x1x1024 ![0, 0, 5120] (res_main_v17 V) slices_S1x1x6144_S1x1x1024_0_0_5120)) (mulf (mulf (res_main_v65 V) (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf (res_main_v65 V) (res_main_v65 V)) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![1, 2] bcast_S1x1024_S1x1x1024_1_2 (V (Proc.devRef .tc main_arg10)))))))

/-- A context row's result. -/
theorem ctxResult_at (b : Fin 4) (t : Fin 256) (k : Fin 1024) : ctxResult V (ix3 b t k) = resultOf (ar0 V) (ar1 V) (ar2 V) (ar3 V) (ar4 V) (ar5 V) (ar6 V) (ar7 V) (ar8 V) (ar9 V) (ar10 V) 4 (row b (ctx t)) k := by
  refine (ctx_out (res_main_v40 V) (res_main_v65 V) (res_main_v17 V) (ar10 V) b t k).trans ?_
  unfold resultOf
  simp only [v40_at, v17_at, v65_at]

/-- The projection of latent rows, of any operands. -/
theorem lat_proj (x : FVec Ideal S4x4352x1024 .f32) (w : FVec Ideal S1024x1024 .f32) (b : Fin 4) (t : Fin 4096) (k : Fin 1024) :
    (Host.dotGeneral dot_S4x4096x1024_S1024x1024_S4x4096x1024_2_0_01_1_n_n none (extractStridedSlice S4x4096x1024 ![0, 256, 0] x slices_S4x4352x1024_S4x4096x1024_0_256_0) w : FVec Ideal S4x4096x1024 .f32) (ix3 b t k) = ∑ j, x (ix3 b (lat t) j) * w (ix2 j k) := by
  pointwise []

/-- The residual of latent rows, of any operands. -/
theorem lat_mid (h : FVec Ideal S4x4352x1024 .f32) (md : FVec Ideal S4x1x6144 .f32) (p : FVec Ideal S4x4096x1024 .f32) (w : FVec Ideal S1x1024 .f32)
    (b : Fin 4) (t : Fin 4096) (k : Fin 1024) :
    (addf (extractStridedSlice S4x4096x1024 ![0, 256, 0] h slices_S4x4352x1024_S4x4096x1024_0_256_0) (mulf (broadcastInDim S4x4096x1024 ![0, 1, 2] bcast_S4x1x1024_S4x4096x1024_0_1_2 (extractStridedSlice S4x1x1024 ![0, 0, 2048] md slices_S4x1x6144_S4x1x1024_0_0_2048)) (mulf (mulf p (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf p p) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![1, 2] bcast_S1x1024_S1x1x1024_1_2 w)))) : FVec Ideal S4x4096x1024 .f32) (ix3 b t k)
      = midRow (fun l => md (ix3 b 0 l)) (fun j => h (ix3 b (lat t) j)) (fun j => p (ix3 b t j)) (fun j => w (ix2 0 j)) k := by
  unfold midRow rmsRow
  pointwise []

/-- The first product of latent rows, of any operands. -/
theorem lat_gate (h : FVec Ideal S4x4096x1024 .f32) (md : FVec Ideal S4x1x6144 .f32) (w : FVec Ideal S1x1024 .f32) (v : FVec Ideal S1024x5632 .f32)
    (b : Fin 4) (t : Fin 4096) (n : Fin 5632) :
    (Host.dotGeneral dot_S4x4096x1024_S1024x5632_S4x4096x5632_2_0_01_1_n_n none (addf (mulf (mulf (mulf h (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf h h) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![1, 2] bcast_S1x1024_S1x1x1024_1_2 w))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 4096] md slices_S4x1x6144_S4x1x1024_0_0_4096)))) (broadcastInDim S4x4096x1024 ![0, 1, 2] bcast_S4x1x1024_S4x4096x1024_0_1_2 (extractStridedSlice S4x1x1024 ![0, 0, 3072] md slices_S4x1x6144_S4x1x1024_0_0_3072))) v : FVec Ideal S4x4096x5632 .f32) (ix3 b t n)
      = gateRow (hiddenRow (fun l => md (ix3 b 0 l)) (fun j => h (ix3 b t j)) (fun j => w (ix2 0 j))) (fun x y => v (ix2 x y)) n := by
  unfold gateRow hiddenRow rmsRow
  pointwise []

/-- The first half of a product of latent rows. -/
theorem lat_half (g : FVec Ideal S4x4096x5632 .f32) (b : Fin 4) (t : Fin 4096) (n : Fin 2816) :
    (extractStridedSlice S4x4096x2816 ![0, 0, 0] g slices_S4x4096x5632_S4x4096x2816_0_0_0 : FVec Ideal S4x4096x2816 .f32) (ix3 b t n) = g (ix3 b t ⟨n.val, by omega⟩) := by
  pointwise []

/-- The second product of latent rows, of any operands. -/
theorem lat_ff (x : FVec Ideal S4x4096x2816 .f32) (g : FVec Ideal S4x4096x5632 .f32) (v : FVec Ideal S2816x1024 .f32)
    (b : Fin 4) (t : Fin 4096) (k : Fin 1024) :
    (Host.dotGeneral dot_S4x4096x2816_S2816x1024_S4x4096x1024_2_0_01_1_n_n none (mulf (mulf x (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf x))))) (extractStridedSlice S4x4096x2816 ![0, 0, 2816] g slices_S4x4096x5632_S4x4096x2816_0_0_2816)) v : FVec Ideal S4x4096x1024 .f32) (ix3 b t k)
      = ∑ n : Fin 2816, x (ix3 b t n) * Ideal.div 1 (1 + Ideal.exp (-x (ix3 b t n))) * g (ix3 b t ⟨2816 + n.val, by omega⟩) * v (ix2 n k) := by
  pointwise []

/-- The result of latent rows, of any operands. -/
theorem lat_out (h f : FVec Ideal S4x4096x1024 .f32) (md : FVec Ideal S4x1x6144 .f32) (w : FVec Ideal S1x1024 .f32)
    (b : Fin 4) (t : Fin 4096) (k : Fin 1024) :
    ((addf h (mulf (broadcastInDim S4x4096x1024 ![0, 1, 2] bcast_S4x1x1024_S4x4096x1024_0_1_2 (extractStridedSlice S4x1x1024 ![0, 0, 5120] md slices_S4x1x6144_S4x1x1024_0_0_5120)) (mulf (mulf f (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf f f) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![1, 2] bcast_S1x1024_S1x1x1024_1_2 w))))) : FVec Ideal S4x4096x1024 .f32) (ix3 b t k)
      = outRow (fun l => md (ix3 b 0 l)) (fun j => h (ix3 b t j)) (fun j => f (ix3 b t j)) (fun j => w (ix2 0 j)) k := by
  unfold outRow rmsRow
  pointwise []

/-- A latent row's projection. -/
theorem v91_at (b : Fin 4) (t : Fin 4096) (k : Fin 1024) : (res_main_v91 V : FVec Ideal S4x4096x1024 .f32) (ix3 b t k) = projOf (ar2 V) (ar3 V) (ar4 V) (ar5 V) (row b (lat t)) k := by
  refine (lat_proj (res_main_v5 V) (res_main_v8 V) b t k).trans ?_
  unfold projOf projRow
  simp only [v5_at, v8_at]

/-- A latent row's residual after the mixers. -/
theorem v107_at (b : Fin 4) (t : Fin 4096) (k : Fin 1024) : (res_main_v107 V : FVec Ideal S4x4096x1024 .f32) (ix3 b t k) = midOf (ar0 V) (ar1 V) (ar2 V) (ar3 V) (ar4 V) (ar5 V) (ar6 V) (batch b) (row b (lat t)) k := by
  refine (lat_mid (res_main_v0 V) (res_main_v84 V) (res_main_v91 V) (ar6 V) b t k).trans ?_
  unfold midOf
  simp only [v0_at, v84_at, v91_at]

/-- A latent row's first product. -/
theorem v127_at (b : Fin 4) (t : Fin 4096) (n : Fin 5632) : (res_main_v127 V : FVec Ideal S4x4096x5632 .f32) (ix3 b t n)
    = gateRow (hiddenOf (ar0 V) (ar1 V) (ar2 V) (ar3 V) (ar4 V) (ar5 V) (ar6 V) (ar7 V) (batch b) (row b (lat t))) (fun x y => ar8 V (ix3 3 x y)) n := by
  refine (lat_gate (res_main_v107 V) (res_main_v84 V) (ar7 V) (res_main_v11 V) b t n).trans ?_
  unfold hiddenOf
  simp only [v107_at, v84_at, v11_at]

/-- A latent row's first half of the first product. -/
theorem v128_at (b : Fin 4) (t : Fin 4096) (n : Fin 2816) : (res_main_v128 V : FVec Ideal S4x4096x2816 .f32) (ix3 b t n)
    = gateRow (hiddenOf (ar0 V) (ar1 V) (ar2 V) (ar3 V) (ar4 V) (ar5 V) (ar6 V) (ar7 V) (batch b) (row b (lat t))) (fun x y => ar8 V (ix3 3 x y)) ⟨n.val, by omega⟩ :=
  (lat_half (res_main_v127 V) b t n).trans (v127_at V b t ⟨n.val, by omega⟩)

/-- A latent row's feed-forward. -/
theorem v132_at (b : Fin 4) (t : Fin 4096) (k : Fin 1024) : (res_main_v132 V : FVec Ideal S4x4096x1024 .f32) (ix3 b t k)
    = ffOf (ar0 V) (ar1 V) (ar2 V) (ar3 V) (ar4 V) (ar5 V) (ar6 V) (ar7 V) (ar8 V) (ar9 V) (batch b) (row b (lat t)) k := by
  refine (lat_ff (res_main_v128 V) (res_main_v127 V) (res_main_v14 V) b t k).trans ?_
  unfold ffOf ffRow actRow Ideal.logistic
  simp only [v128_at, v127_at, v14_at]

/-- The latent rows' results. -/
def latResult : FVec Ideal S4x4096x1024 .f32 := (addf (res_main_v107 V) (mulf (broadcastInDim S4x4096x1024 ![0, 1, 2] bcast_S4x1x1024_S4x4096x1024_0_1_2 (extractStridedSlice S4x1x1024 ![0, 0, 5120] (res_main_v84 V) slices_S4x1x6144_S4x1x1024_0_0_5120)) (mulf (mulf (res_main_v132 V) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (res_main_v132 V) (res_main_v132 V)) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![1, 2] bcast_S1x1024_S1x1x1024_1_2 (V (Proc.devRef .tc main_arg10)))))))

/-- A latent row's result. -/
theorem latResult_at (b : Fin 4) (t : Fin 4096) (k : Fin 1024) : latResult V (ix3 b t k) = resultOf (ar0 V) (ar1 V) (ar2 V) (ar3 V) (ar4 V) (ar5 V) (ar6 V) (ar7 V) (ar8 V) (ar9 V) (ar10 V) (batch b) (row b (lat t)) k := by
  refine (lat_out (res_main_v107 V) (res_main_v132 V) (res_main_v84 V) (ar10 V) b t k).trans ?_
  unfold resultOf
  simp only [v107_at, v84_at, v132_at]

/-- The reference's array. -/
def result : FVec Ideal S17408x1024 .f32 :=
  shapeCast S17408x1024 (concatenate S4x4352x1024 1 [⟨S4x256x1024, ctxResult V⟩, ⟨S4x4096x1024, latResult V⟩]
    concatenates_S4x256x1024_S4x4096x1024_S4x4352x1024_d1) shapeCasts_S4x4352x1024_S17408x1024

/-- The context's rows laid before the latent rows. -/
theorem joined_at (x : FVec Ideal S4x256x1024 .f32) (y : FVec Ideal S4x4096x1024 .f32) (R : Fin 17408) (k : Fin 1024) :
    (shapeCast S17408x1024 (concatenate S4x4352x1024 1 [⟨S4x256x1024, x⟩, ⟨S4x4096x1024, y⟩]
      concatenates_S4x256x1024_S4x4096x1024_S4x4352x1024_d1) shapeCasts_S4x4352x1024_S17408x1024 : FVec Ideal S17408x1024 .f32) (ix2 R k)
      = if h : R.val % 4352 < 256 then x (ix3 ⟨R.val / 4352, by omega⟩ ⟨R.val % 4352, h⟩ k)
        else y (ix3 ⟨R.val / 4352, by omega⟩ ⟨R.val % 4352 - 256, by omega⟩ k) := by
  pointwise []

end MixRef
-- ==== Proof.MixClaim.lean ====
/- The mixing and feed-forward kernel and its reference leave the same array. -/
module

public import proofs.«01_k».proof.Defs
public import proofs.«01_k».proof.Proof.MixRun
public import proofs.«01_k».proof.Proof.MixRef

@[expose] public section

set_option maxRecDepth 65536

noncomputable section

namespace MixRef

open Cert.Reference2Ideal Cert.Reference2Ideal.Gen Cert.Reference2Ideal.Value Idealize.ShloMosaic Idealize.ShloMosaic.TcCoe
open Idealize.SL.Sem Idealize.ShloMosaic.StableHlo Idealize.ShloMosaic.Tactic

/-- The reference's row under its own modulation row is the kernel's row. -/
theorem resultOf_eq (a0 : FVec Ideal S17408x1024 .f32) (a1 : FVec Ideal S8x1x6144 .f32) (a2 : FVec Ideal S17408x256 .bf16)
    (a3 : FVec Ideal S17408x512 .bf16) (a4 : FVec Ideal S17408x256 .bf16) (a5 : FVec Ideal S4x1024x1024 .bf16)
    (a6 a7 : FVec Ideal S1x1024 .f32) (a8 : FVec Ideal S4x1024x5632 .bf16) (a9 : FVec Ideal S4x2816x1024 .bf16)
    (a10 : FVec Ideal S1x1024 .f32) (q : Fin 8) (R R' : Fin 17408) (hq : q.val = Mix.modOf (R'.val / 256)) (hR : R = R') :
    resultOf a0 a1 a2 a3 a4 a5 a6 a7 a8 a9 a10 q R = Mix.resultAt a0 a1 a2 a3 a4 a5 a6 a7 a8 a9 a10 R' := by
  subst hR
  rw [show q = ⟨Mix.modOf (R.val / 256), Mix.modOf_lt (R.val / 256) (Nat.div_lt_of_lt_mul R.isLt)⟩ from Fin.ext hq]
  rfl

variable (V : Valuation τ sig (Elt Ideal))

/-- The reference's array, row by row. -/
theorem result_at (R : Fin 17408) (k : Fin 1024) : result V (ix2 R k)
    = Mix.resultAt (ar0 V) (ar1 V) (ar2 V) (ar3 V) (ar4 V) (ar5 V) (ar6 V) (ar7 V) (ar8 V) (ar9 V) (ar10 V) R k := by
  refine (joined_at (ctxResult V) (latResult V) R k).trans ?_
  split
  · next h =>
    rw [ctxResult_at]
    refine congrFun (resultOf_eq _ _ _ _ _ _ _ _ _ _ _ 4 _ R ?_ (Fin.ext ?_)) k
    · show 4 = Mix.modOf (R.val / 256)
      unfold Mix.modOf
      rw [if_pos (by omega)]
    · show R.val / 4352 * 4352 + R.val % 4352 = R.val
      omega
  · next h =>
    rw [latResult_at]
    refine congrFun (resultOf_eq _ _ _ _ _ _ _ _ _ _ _ _ _ R ?_ (Fin.ext ?_)) k
    · show R.val / 4352 = Mix.modOf (R.val / 256)
      unfold Mix.modOf
      rw [if_neg (by omega)]
      omega
    · show R.val / 4352 * 4352 + (256 + (R.val % 4352 - 256)) = R.val
      omega

/-- The mixing and feed-forward kernel and its reference leave the same array. -/
theorem equation : Cert.algebraic_Kernel2Ideal_Reference2Ideal := by
  intro m ρ m' ρ' _ hag
  refine ⟨fun c => Mix.resultArray m c, Mix.kernel_run m ρ, ?_⟩
  refine (θ_run Cert.Reference2Ideal.defs _ _).mono (fun _ h c => ⟨(h c).1.trans ?_, (h c).2⟩)
    (Cert.Reference2Ideal.Value.run (F := Ideal) m' ρ')
  obtain ⟨e0, e1, e2, e3, e4, e5, e6, e7, e8, e9, e10⟩ := hag c
  refine (show _ = result (launchContents m' c) from rfl).trans ?_
  funext i
  idx_vars i
  refine (result_at (launchContents m' c) i0 i1).trans ?_
  show Mix.resultAt (m' ((c.tc : Thread nD τ).loc main_arg0)) (m' ((c.tc : Thread nD τ).loc main_arg1)) (m' ((c.tc : Thread nD τ).loc main_arg2))
    (m' ((c.tc : Thread nD τ).loc main_arg3)) (m' ((c.tc : Thread nD τ).loc main_arg4)) (m' ((c.tc : Thread nD τ).loc main_arg5))
    (m' ((c.tc : Thread nD τ).loc main_arg6)) (m' ((c.tc : Thread nD τ).loc main_arg7)) (m' ((c.tc : Thread nD τ).loc main_arg8))
    (m' ((c.tc : Thread nD τ).loc main_arg9)) (m' ((c.tc : Thread nD τ).loc main_arg10)) i0 i1 = _
  rw [e0, e1, e2, e3, e4, e5, e6, e7, e8, e9, e10]
  rfl

end MixRef
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Reference2Ideal.Run
public import proofs.«01_k».proof.Proof.Gen.Reference2Ideal.Read
public import proofs.«01_k».proof.Proof.RetClaim
public import proofs.«01_k».proof.Proof.MixClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Pre_finite.Gen.facts,
  fun m ρ _ => Cert.Kernel.Gen.frame m ρ,
  Retention.frame_kernel, Retention.frame_kernel_finite, Retention.frame_reference, Retention.frame_reference_finite,
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run (F := Ideal) m ρ),
  Retention.preserves, Retention.equation, trivial, MixRef.equation⟩

end Cert.Proof

end
